-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def Pre_Merge [hPre_a_layer : Cert.Pre_a_layer.Facts] (m : (ℓ : Loc Cert.Merge.nD Cert.Merge.τ Cert.Merge.sig) → Buf (Elt Bits) ℓ) : Prop :=
  ∀ c : Dev Cert.Merge.nD,
    (Cert.Pre_a_layer.fn (F := Bits) (m ((c.tc : Thread Cert.Merge.nD Cert.Merge.τ).loc Cert.Merge.main_arg0)) (m ((c.tc : Thread Cert.Merge.nD Cert.Merge.τ).loc Cert.Merge.main_arg1)) (m ((c.tc : Thread Cert.Merge.nD Cert.Merge.τ).loc Cert.Merge.main_arg2)) (m ((c.tc : Thread Cert.Merge.nD Cert.Merge.τ).loc Cert.Merge.main_arg3)) (m ((c.tc : Thread Cert.Merge.nD Cert.Merge.τ).loc Cert.Merge.main_arg4)) (m ((c.tc : Thread Cert.Merge.nD Cert.Merge.τ).loc Cert.Merge.main_arg5)) (m ((c.tc : Thread Cert.Merge.nD Cert.Merge.τ).loc Cert.Merge.main_arg6)) (m ((c.tc : Thread Cert.Merge.nD Cert.Merge.τ).loc Cert.Merge.main_arg7)) (m ((c.tc : Thread Cert.Merge.nD Cert.Merge.τ).loc Cert.Merge.main_arg8)) (m ((c.tc : Thread Cert.Merge.nD Cert.Merge.τ).loc Cert.Merge.main_arg9)) (m ((c.tc : Thread Cert.Merge.nD Cert.Merge.τ).loc Cert.Merge.main_arg10)) (m ((c.tc : Thread Cert.Merge.nD Cert.Merge.τ).loc Cert.Merge.main_arg11)) (m ((c.tc : Thread Cert.Merge.nD Cert.Merge.τ).loc Cert.Merge.main_arg12))) = (fun _ => 1#1)

def Pre_MergeIdeal [hPre_a_layer : Cert.Pre_a_layer.Facts] (m : (ℓ : Loc Cert.MergeIdeal.nD Cert.MergeIdeal.τ Cert.MergeIdeal.sig) → Buf (Elt Ideal) ℓ) : Prop :=
  ∀ c : Dev Cert.MergeIdeal.nD,
    (Cert.Pre_a_layer.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_a_layer [hPre_a_layer : Cert.Pre_a_layer.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_a_layer.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))) = (fun _ => 1#1)

def Pre_MergeRef (m : (ℓ : Loc Cert.MergeRef.nD Cert.MergeRef.τ Cert.MergeRef.sig) → Buf (Elt Bits) ℓ) : Prop :=
  True

def Pre_Ffn [hPre_a_layer_f : Cert.Pre_a_layer_f.Facts] (m : (ℓ : Loc Cert.Ffn.nD Cert.Ffn.τ Cert.Ffn.sig) → Buf (Elt Bits) ℓ) : Prop :=
  ∀ c : Dev Cert.Ffn.nD,
    (Cert.Pre_a_layer_f.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6)) (m ((c.tc : Thread Cert.Ffn.nD Cert.Ffn.τ).loc Cert.Ffn.main_arg7))) = (fun _ => 1#1)

def Pre_FfnIdeal [hPre_a_layer_f : Cert.Pre_a_layer_f.Facts] (m : (ℓ : Loc Cert.FfnIdeal.nD Cert.FfnIdeal.τ Cert.FfnIdeal.sig) → Buf (Elt Ideal) ℓ) : Prop :=
  ∀ c : Dev Cert.FfnIdeal.nD,
    (Cert.Pre_a_layer_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnIdeal_finite_f [hPre_finite_f : Cert.Pre_finite_f.Facts] (m : (ℓ : Loc Cert.FfnIdeal.nD Cert.FfnIdeal.τ Cert.FfnIdeal.sig) → Buf (Elt Ideal) ℓ) : Prop :=
  ∀ c : Dev Cert.FfnIdeal.nD,
    (Cert.Pre_finite_f.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_f [hPre_finite_f : Cert.Pre_finite_f.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_f.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_FfnRef (m : (ℓ : Loc Cert.FfnRef.nD Cert.FfnRef.τ Cert.FfnRef.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Merge [hMerge : Cert.Merge.Facts] [hPre_a_layer : Cert.Pre_a_layer.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] [hPre_a_layer : Cert.Pre_a_layer.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MergeRefIdeal_pre_a_layer [hMergeRefIdeal : Cert.MergeRefIdeal.Facts] [hPre_a_layer : Cert.Pre_a_layer.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_a_layer m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MergeRef [hMergeRef : Cert.MergeRef.Facts] : Prop :=
  ∀ (m : (ℓ : Loc Cert.MergeRef.nD Cert.MergeRef.τ Cert.MergeRef.sig) → Buf (Elt Bits) ℓ) (g : Dev Cert.MergeRef.nD → PrngReg), Pre_MergeRef m →
    θ_run (Cert.MergeRef.defs (F := Bits)) (onTc (τ := Cert.MergeRef.τ) (Cert.MergeRef.main (F := Bits))) ⟨m, fun _ => 0, g⟩ (fun r => (∀ c : Dev Cert.MergeRef.nD,
      r.2.mem ((c.tc : Thread Cert.MergeRef.nD Cert.MergeRef.τ).loc Cert.MergeRef.main_arg0) = m ((c.tc : Thread Cert.MergeRef.nD Cert.MergeRef.τ).loc Cert.MergeRef.main_arg0)
      ∧ r.2.mem ((c.tc : Thread Cert.MergeRef.nD Cert.MergeRef.τ).loc Cert.MergeRef.main_arg1) = m ((c.tc : Thread Cert.MergeRef.nD Cert.MergeRef.τ).loc Cert.MergeRef.main_arg1)
      ∧ r.2.mem ((c.tc : Thread Cert.MergeRef.nD Cert.MergeRef.τ).loc Cert.MergeRef.main_arg2) = m ((c.tc : Thread Cert.MergeRef.nD Cert.MergeRef.τ).loc Cert.MergeRef.main_arg2)
      ∧ r.2.mem ((c.tc : Thread Cert.MergeRef.nD Cert.MergeRef.τ).loc Cert.MergeRef.main_arg3) = m ((c.tc : Thread Cert.MergeRef.nD Cert.MergeRef.τ).loc Cert.MergeRef.main_arg3)
      ∧ r.2.mem ((c.tc : Thread Cert.MergeRef.nD Cert.MergeRef.τ).loc Cert.MergeRef.main_arg4) = m ((c.tc : Thread Cert.MergeRef.nD Cert.MergeRef.τ).loc Cert.MergeRef.main_arg4)
      ∧ r.2.mem ((c.tc : Thread Cert.MergeRef.nD Cert.MergeRef.τ).loc Cert.MergeRef.main_arg5) = m ((c.tc : Thread Cert.MergeRef.nD Cert.MergeRef.τ).loc Cert.MergeRef.main_arg5)
      ∧ r.2.mem ((c.tc : Thread Cert.MergeRef.nD Cert.MergeRef.τ).loc Cert.MergeRef.main_arg6) = m ((c.tc : Thread Cert.MergeRef.nD Cert.MergeRef.τ).loc Cert.MergeRef.main_arg6)
      ∧ r.2.mem ((c.tc : Thread Cert.MergeRef.nD Cert.MergeRef.τ).loc Cert.MergeRef.main_arg7) = m ((c.tc : Thread Cert.MergeRef.nD Cert.MergeRef.τ).loc Cert.MergeRef.main_arg7)
      ∧ r.2.mem ((c.tc : Thread Cert.MergeRef.nD Cert.MergeRef.τ).loc Cert.MergeRef.main_arg8) = m ((c.tc : Thread Cert.MergeRef.nD Cert.MergeRef.τ).loc Cert.MergeRef.main_arg8)
      ∧ r.2.mem ((c.tc : Thread Cert.MergeRef.nD Cert.MergeRef.τ).loc Cert.MergeRef.main_arg9) = m ((c.tc : Thread Cert.MergeRef.nD Cert.MergeRef.τ).loc Cert.MergeRef.main_arg9)
      ∧ r.2.mem ((c.tc : Thread Cert.MergeRef.nD Cert.MergeRef.τ).loc Cert.MergeRef.main_arg10) = m ((c.tc : Thread Cert.MergeRef.nD Cert.MergeRef.τ).loc Cert.MergeRef.main_arg10)
      ∧ r.2.mem ((c.tc : Thread Cert.MergeRef.nD Cert.MergeRef.τ).loc Cert.MergeRef.main_arg11) = m ((c.tc : Thread Cert.MergeRef.nD Cert.MergeRef.τ).loc Cert.MergeRef.main_arg11)
      ∧ r.2.mem ((c.tc : Thread Cert.MergeRef.nD Cert.MergeRef.τ).loc Cert.MergeRef.main_arg12) = m ((c.tc : Thread Cert.MergeRef.nD Cert.MergeRef.τ).loc Cert.MergeRef.main_arg12))
      ∧ r.2.sem = fun _ => 0)

def quiescent_Ffn [hFfn : Cert.Ffn.Facts] [hPre_a_layer_f : Cert.Pre_a_layer_f.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] [hPre_a_layer_f : Cert.Pre_a_layer_f.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite_f [hFfnIdeal : Cert.FfnIdeal.Facts] [hPre_finite_f : Cert.Pre_finite_f.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_f m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite_f [hFfnRefIdeal : Cert.FfnRefIdeal.Facts] [hPre_finite_f : Cert.Pre_finite_f.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_f m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRef [hFfnRef : Cert.FfnRef.Facts] : Prop :=
  ∀ (m : (ℓ : Loc Cert.FfnRef.nD Cert.FfnRef.τ Cert.FfnRef.sig) → Buf (Elt Bits) ℓ) (g : Dev Cert.FfnRef.nD → PrngReg), Pre_FfnRef m →
    θ_run (Cert.FfnRef.defs (F := Bits)) (onTc (τ := Cert.FfnRef.τ) (Cert.FfnRef.main (F := Bits))) ⟨m, fun _ => 0, g⟩ (fun r => (∀ c : Dev Cert.FfnRef.nD,
      r.2.mem ((c.tc : Thread Cert.FfnRef.nD Cert.FfnRef.τ).loc Cert.FfnRef.main_arg0) = m ((c.tc : Thread Cert.FfnRef.nD Cert.FfnRef.τ).loc Cert.FfnRef.main_arg0)
      ∧ r.2.mem ((c.tc : Thread Cert.FfnRef.nD Cert.FfnRef.τ).loc Cert.FfnRef.main_arg1) = m ((c.tc : Thread Cert.FfnRef.nD Cert.FfnRef.τ).loc Cert.FfnRef.main_arg1)
      ∧ r.2.mem ((c.tc : Thread Cert.FfnRef.nD Cert.FfnRef.τ).loc Cert.FfnRef.main_arg2) = m ((c.tc : Thread Cert.FfnRef.nD Cert.FfnRef.τ).loc Cert.FfnRef.main_arg2)
      ∧ r.2.mem ((c.tc : Thread Cert.FfnRef.nD Cert.FfnRef.τ).loc Cert.FfnRef.main_arg3) = m ((c.tc : Thread Cert.FfnRef.nD Cert.FfnRef.τ).loc Cert.FfnRef.main_arg3)
      ∧ r.2.mem ((c.tc : Thread Cert.FfnRef.nD Cert.FfnRef.τ).loc Cert.FfnRef.main_arg4) = m ((c.tc : Thread Cert.FfnRef.nD Cert.FfnRef.τ).loc Cert.FfnRef.main_arg4)
      ∧ r.2.mem ((c.tc : Thread Cert.FfnRef.nD Cert.FfnRef.τ).loc Cert.FfnRef.main_arg5) = m ((c.tc : Thread Cert.FfnRef.nD Cert.FfnRef.τ).loc Cert.FfnRef.main_arg5)
      ∧ r.2.mem ((c.tc : Thread Cert.FfnRef.nD Cert.FfnRef.τ).loc Cert.FfnRef.main_arg6) = m ((c.tc : Thread Cert.FfnRef.nD Cert.FfnRef.τ).loc Cert.FfnRef.main_arg6)
      ∧ r.2.mem ((c.tc : Thread Cert.FfnRef.nD Cert.FfnRef.τ).loc Cert.FfnRef.main_arg7) = m ((c.tc : Thread Cert.FfnRef.nD Cert.FfnRef.τ).loc Cert.FfnRef.main_arg7))
      ∧ r.2.sem = fun _ => 0)

def preserves_Kernel_KernelIdeal : Prop :=
  IdealRules.named_const.Statement Cert.KernelIdeal.κ "neg_big" .f32 0xF149F2CA#32 ⊥

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def preserves_MergeRef_MergeRefIdeal : Prop :=
  True

def algebraic_MergeIdeal_MergeRefIdeal [hMergeIdeal : Cert.MergeIdeal.Facts] [hMergeRefIdeal : Cert.MergeRefIdeal.Facts] [hPre_a_layer : Cert.Pre_a_layer.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v29)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v29) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v143) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Ffn_FfnIdeal : Prop :=
  True

def preserves_FfnRef_FfnRefIdeal : Prop :=
  True

def algebraic_FfnIdeal_FfnRefIdeal_pre_finite_f [hFfnIdeal : Cert.FfnIdeal.Facts] [hFfnRefIdeal : Cert.FfnRefIdeal.Facts] [hPre_finite_f : Cert.Pre_finite_f.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_f m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v9) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v123) = v0 c
          ∧ r.2.mem ((c.tc : Thread Cert.FfnRefIdeal.nD Cert.FfnRefIdeal.τ).loc Cert.FfnRefIdeal.main_v124) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def Claim : Prop :=
  ∃ (hKernel : Cert.Kernel.Facts) (hKernelIdeal : Cert.KernelIdeal.Facts) (hReferenceIdeal : Cert.ReferenceIdeal.Facts) (hReference : Cert.Reference.Facts) (hMerge : Cert.Merge.Facts) (hMergeIdeal : Cert.MergeIdeal.Facts) (hMergeRefIdeal : Cert.MergeRefIdeal.Facts) (hMergeRef : Cert.MergeRef.Facts) (hFfn : Cert.Ffn.Facts) (hFfnIdeal : Cert.FfnIdeal.Facts) (hFfnRefIdeal : Cert.FfnRefIdeal.Facts) (hFfnRef : Cert.FfnRef.Facts) (hPre_finite : Cert.Pre_finite.Facts) (hPre_a_layer : Cert.Pre_a_layer.Facts) (hPre_a_layer_f : Cert.Pre_a_layer_f.Facts) (hPre_finite_f : Cert.Pre_finite_f.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Merge (hMerge := hMerge) (hPre_a_layer := hPre_a_layer)
    ∧ quiescent_MergeIdeal (hMergeIdeal := hMergeIdeal) (hPre_a_layer := hPre_a_layer)
    ∧ quiescent_MergeRefIdeal (hMergeRefIdeal := hMergeRefIdeal)
    ∧ quiescent_MergeRefIdeal_pre_a_layer (hMergeRefIdeal := hMergeRefIdeal) (hPre_a_layer := hPre_a_layer)
    ∧ quiescent_MergeRef (hMergeRef := hMergeRef)
    ∧ quiescent_Ffn (hFfn := hFfn) (hPre_a_layer_f := hPre_a_layer_f)
    ∧ quiescent_FfnIdeal (hFfnIdeal := hFfnIdeal) (hPre_a_layer_f := hPre_a_layer_f)
    ∧ quiescent_FfnIdeal_pre_finite_f (hFfnIdeal := hFfnIdeal) (hPre_finite_f := hPre_finite_f)
    ∧ quiescent_FfnRefIdeal (hFfnRefIdeal := hFfnRefIdeal)
    ∧ quiescent_FfnRefIdeal_pre_finite_f (hFfnRefIdeal := hFfnRefIdeal) (hPre_finite_f := hPre_finite_f)
    ∧ quiescent_FfnRef (hFfnRef := hFfnRef)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Merge_MergeIdeal
    ∧ preserves_MergeRef_MergeRefIdeal
    ∧ algebraic_MergeIdeal_MergeRefIdeal (hMergeIdeal := hMergeIdeal) (hMergeRefIdeal := hMergeRefIdeal) (hPre_a_layer := hPre_a_layer)
    ∧ preserves_Ffn_FfnIdeal
    ∧ preserves_FfnRef_FfnRefIdeal
    ∧ algebraic_FfnIdeal_FfnRefIdeal_pre_finite_f (hFfnIdeal := hFfnIdeal) (hFfnRefIdeal := hFfnRefIdeal) (hPre_finite_f := hPre_finite_f)
-- ==== Pre_a_layer.lean ====
abbrev S1 : Shape := ⟨1, ![1]⟩
abbrev S4x4096x1024 : Shape := ⟨3, ![4, 4096, 1024]⟩
abbrev S4x4096x512 : Shape := ⟨3, ![4, 4096, 512]⟩
abbrev S4x4096x8x128 : Shape := ⟨4, ![4, 4096, 8, 128]⟩
abbrev S4x1024x6048 : Shape := ⟨3, ![4, 1024, 6048]⟩
abbrev S4x128x8x64 : Shape := ⟨4, ![4, 128, 8, 64]⟩
abbrev S4x512x1024 : Shape := ⟨3, ![4, 512, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S4x4096x1024 .f32) (main_arg2 : FVec F S4x4096x512 .f32) (main_arg3 : FVec F S4x4096x512 .f32) (main_arg4 : FVec F S4x4096x8x128 .f32) (main_arg5 : FVec F S4x1024x6048 .f32) (main_arg6 : FVec F S4x128x8x64 .f32) (main_arg7 : FVec F S4x512x1024 .f32) (main_arg8 : FVec F S4x512x1024 .f32) (main_arg9 : FVec F S4x512x1024 .f32) (main_arg10 : FVec F S4x1024x1024 .f32) (main_arg11 : FVec F S4x1024 .f32) (main_arg12 : FVec F S4x1024 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_a_layer_f.lean ====
abbrev S1 : Shape := ⟨1, ![1]⟩
abbrev S4x4096x1024 : Shape := ⟨3, ![4, 4096, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S4x1024 : Shape := ⟨2, ![4, 1024]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : IVec S1 32) (main_arg1 : FVec F S4x4096x1024 .f32) (main_arg2 : FVec F S4x1024x5632 .f32) (main_arg3 : FVec F S4x3x5632 .f32) (main_arg4 : FVec F S4x5632 .f32) (main_arg5 : FVec F S4x2816x1024 .f32) (main_arg6 : FVec F S4x1024 .f32) (main_arg7 : FVec F S4x1024 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_finite.lean ====
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x4096x8x32 : S_.BroadcastsInDim S4x4096x8x32 (![] : Fin 0 → Fin S4x4096x8x32.rank)
  reducesTo_S4x4096x8x32_S_d0_1_2_3 : S4x4096x8x32.ReducesTo [0, 1, 2, 3] S_
  bcast_S_S4x4096x128 : S_.BroadcastsInDim S4x4096x128 (![] : Fin 0 → Fin S4x4096x128.rank)
  reducesTo_S4x4096x128_S_d0_1_2 : S4x4096x128.ReducesTo [0, 1, 2] S_
  bcast_S_S4x4096x32 : S_.BroadcastsInDim S4x4096x32 (![] : Fin 0 → Fin S4x4096x32.rank)
  reducesTo_S4x4096x32_S_d0_1_2 : S4x4096x32.ReducesTo [0, 1, 2] S_

variable [Facts]

def fn_part1 {F : FTy → Type} [FloatOps F] (main_v13 : IVec S_ 1) (main_v16 : IVec S4x4096x32 1) : IVec S_ 1 :=
  let main_c_5 : IVec S_ 1 := constantI S_ 1 1#1
  let main_v17 : IVec S_ 1 := (fun x v => Host.reduce IntOp.andi x v reducesTo_S4x4096x32_S_d0_1_2 h_S_) main_v16 main_c_5
  let main_v18 : IVec S_ 1 := andi main_v13 main_v17
  main_v18

def fn {F : FTy → Type} [FloatOps F] (main_arg0 : FVec F S4x4096x8x128 .f32) (main_arg1 : FVec F S4x4096x8x32 .f32) (main_arg2 : FVec F S4x4096x128 .f32) (main_arg3 : FVec F S4x4096x32 .f32) : IVec S_ 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x4096x8x32 .f32 := Host.absf main_arg1
  let main_cst_0 : FVec F S_ .f32 := constant S_ .f32 0x7F800000#32
  let main_v5 : FVec F S4x4096x8x32 .f32 := broadcastInDim S4x4096x8x32 ![] bcast_S_S4x4096x8x32 main_cst_0
  let main_v6 : IVec S4x4096x8x32 1 := cmpf .olt main_v4 main_v5
  let main_c_1 : IVec S_ 1 := constantI S_ 1 1#1
  let main_v7 : IVec S_ 1 := (fun x v => Host.reduce IntOp.andi x v reducesTo_S4x4096x8x32_S_d0_1_2_3 h_S_) main_v6 main_c_1
  let main_v8 : IVec S_ 1 := andi main_v3 main_v7
  let main_v9 : FVec F S4x4096x128 .f32 := Host.absf main_arg2
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_c_3 : IVec S_ 1 := constantI S_ 1 1#1
  let main_v12 : IVec S_ 1 := (fun x v => Host.reduce IntOp.andi x v reducesTo_S4x4096x128_S_d0_1_2 h_S_) main_v11 main_c_3
  let main_v13 : IVec S_ 1 := andi main_v8 main_v12
  let main_v14 : FVec F S4x4096x32 .f32 := Host.absf main_arg3
  let main_cst_4 : FVec F S_ .f32 := constant S_ .f32 0x7F800000#32
  let main_v15 : FVec F S4x4096x32 .f32 := broadcastInDim S4x4096x32 ![] bcast_S_S4x4096x32 main_cst_4
  let main_v16 : IVec S4x4096x32 1 := cmpf .olt main_v14 main_v15
  fn_part1 (F := F) main_v13 main_v16
-- ==== Pre_finite_f.lean ====
abbrev S1 : Shape := ⟨1, ![1]⟩
abbrev S4x4096x1024 : Shape := ⟨3, ![4, 4096, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S4x1024 : Shape := ⟨2, ![4, 1024]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x1024x5632 : S_.BroadcastsInDim S4x1024x5632 (![] : Fin 0 → Fin S4x1024x5632.rank)
  reducesTo_S4x1024x5632_S_d0_1_2 : S4x1024x5632.ReducesTo [0, 1, 2] S_
  bcast_S_S4x3x5632 : S_.BroadcastsInDim S4x3x5632 (![] : Fin 0 → Fin S4x3x5632.rank)
  reducesTo_S4x3x5632_S_d0_1_2 : S4x3x5632.ReducesTo [0, 1, 2] S_
  bcast_S_S4x5632 : S_.BroadcastsInDim S4x5632 (![] : Fin 0 → Fin S4x5632.rank)
  reducesTo_S4x5632_S_d0_1 : S4x5632.ReducesTo [0, 1] S_

variable [Facts]

def fn_part1 {F : FTy → Type} [FloatOps F] (main_arg4 : FVec F S4x5632 .f32) (main_v15 : IVec S_ 1) (main_v16 : FVec F S4x3x5632 .f32) : IVec S_ 1 :=
  let main_cst_5 : FVec F S_ .f32 := constant S_ .f32 0x7F800000#32
  let main_v17 : FVec F S4x3x5632 .f32 := broadcastInDim S4x3x5632 ![] bcast_S_S4x3x5632 main_cst_5
  let main_v18 : IVec S4x3x5632 1 := cmpf .olt main_v16 main_v17
  let main_c_6 : IVec S_ 1 := constantI S_ 1 1#1
  let main_v19 : IVec S_ 1 := (fun x v => Host.reduce IntOp.andi x v reducesTo_S4x3x5632_S_d0_1_2 h_S_) main_v18 main_c_6
  let main_v20 : IVec S_ 1 := andi main_v15 main_v19
  let main_v21 : FVec F S4x5632 .f32 := Host.absf main_arg4
  let main_cst_7 : FVec F S_ .f32 := constant S_ .f32 0x7F800000#32
  let main_v22 : FVec F S4x5632 .f32 := broadcastInDim S4x5632 ![] bcast_S_S4x5632 main_cst_7
  let main_v23 : IVec S4x5632 1 := cmpf .olt main_v21 main_v22
  let main_c_8 : IVec S_ 1 := constantI S_ 1 1#1
  let main_v24 : IVec S_ 1 := (fun x v => Host.reduce IntOp.andi x v reducesTo_S4x5632_S_d0_1 h_S_) main_v23 main_c_8
  let main_v25 : IVec S_ 1 := andi main_v20 main_v24
  main_v25

def fn {F : FTy → Type} [FloatOps F] (main_arg0 : IVec S1 32) (main_arg1 : FVec F S4x4096x1024 .f32) (main_arg2 : FVec F S4x1024x5632 .f32) (main_arg3 : FVec F S4x3x5632 .f32) (main_arg4 : FVec F S4x5632 .f32) (main_arg5 : FVec F S4x2816x1024 .f32) (main_arg6 : FVec F S4x1024 .f32) (main_arg7 : FVec F S4x1024 .f32) : IVec S_ 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  let main_v6 : FVec F S4x4096x1024 .f32 := Host.absf main_arg1
  let main_cst : FVec F S_ .f32 := constant S_ .f32 0x7F800000#32
  let main_v7 : FVec F S4x4096x1024 .f32 := broadcastInDim S4x4096x1024 ![] bcast_S_S4x4096x1024 main_cst
  let main_v8 : IVec S4x4096x1024 1 := cmpf .olt main_v6 main_v7
  let main_c_2 : IVec S_ 1 := constantI S_ 1 1#1
  let main_v9 : IVec S_ 1 := (fun x v => Host.reduce IntOp.andi x v reducesTo_S4x4096x1024_S_d0_1_2 h_S_) main_v8 main_c_2
  let main_v10 : IVec S_ 1 := andi main_v5 main_v9
  let main_v11 : FVec F S4x1024x5632 .f32 := Host.absf main_arg2
  let main_cst_3 : FVec F S_ .f32 := constant S_ .f32 0x7F800000#32
  let main_v12 : FVec F S4x1024x5632 .f32 := broadcastInDim S4x1024x5632 ![] bcast_S_S4x1024x5632 main_cst_3
  let main_v13 : IVec S4x1024x5632 1 := cmpf .olt main_v11 main_v12
  let main_c_4 : IVec S_ 1 := constantI S_ 1 1#1
  let main_v14 : IVec S_ 1 := (fun x v => Host.reduce IntOp.andi x v reducesTo_S4x1024x5632_S_d0_1_2 h_S_) main_v13 main_c_4
  let main_v15 : IVec S_ 1 := andi main_v10 main_v14
  let main_v16 : FVec F S4x3x5632 .f32 := Host.absf main_arg3
  fn_part1 (F := F) main_arg4 main_v15 main_v16
-- ==== Kernel.lean ====
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S_ : Shape := ⟨0, ![]⟩
abbrev S16384x1024 : Shape := ⟨2, ![16384, 1024]⟩
abbrev S16384x8x2x16 : Shape := ⟨4, ![16384, 8, 2, 16]⟩
abbrev S16384x2x8x16 : Shape := ⟨4, ![16384, 2, 8, 16]⟩
abbrev S16384x256 : Shape := ⟨2, ![16384, 256]⟩
abbrev S4x4096x160 : Shape := ⟨3, ![4, 4096, 160]⟩
abbrev S4x16x4096 : Shape := ⟨3, ![4, 16, 4096]⟩
abbrev S1 : Shape := ⟨1, ![1]⟩
abbrev S4x4096 : Shape := ⟨2, ![4, 4096]⟩
abbrev S4x128x4096 : Shape := ⟨3, ![4, 128, 4096]⟩
abbrev S4x144x4096 : Shape := ⟨3, ![4, 144, 4096]⟩
abbrev S512x1024 : Shape := ⟨2, ![512, 1024]⟩
abbrev S512x256 : Shape := ⟨2, ![512, 256]⟩
abbrev S1x4096x160 : Shape := ⟨3, ![1, 4096, 160]⟩
abbrev S1x144x4096 : Shape := ⟨3, ![1, 144, 4096]⟩
abbrev S160x4096 : Shape := ⟨2, ![160, 4096]⟩
abbrev S1x4096 : Shape := ⟨2, ![1, 4096]⟩
abbrev S144x4096 : Shape := ⟨2, ![144, 4096]⟩
abbrev S256x512 : Shape := ⟨2, ![256, 512]⟩
abbrev S512x128 : Shape := ⟨2, ![512, 128]⟩
abbrev S128x512 : Shape := ⟨2, ![128, 512]⟩
abbrev S16x512 : Shape := ⟨2, ![16, 512]⟩
abbrev S1x512x160 : Shape := ⟨3, ![1, 512, 160]⟩
abbrev S512x160 : Shape := ⟨2, ![512, 160]⟩
abbrev S512x4096 : Shape := ⟨2, ![512, 4096]⟩
abbrev S4096 : Shape := ⟨1, ![4096]⟩
abbrev S1x144x512 : Shape := ⟨3, ![1, 144, 512]⟩
abbrev S144x512 : Shape := ⟨2, ![144, 512]⟩
abbrev S128x4096 : Shape := ⟨2, ![128, 4096]⟩

abbrev nBuf : Space → Nat
  | .hbm => 35
  | .vmem => 13
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x32, .f32⟩
  | .hbm, ⟨2, _⟩ => ⟨S4x4096x128, .f32⟩
  | .hbm, ⟨3, _⟩ => ⟨S4x4096x32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S16384x8x2x16, .f32⟩
  | .hbm, ⟨16, _⟩ => ⟨S16384x2x8x16, .f32⟩
  | .hbm, ⟨17, _⟩ => ⟨S16384x256, .f32⟩
  | .hbm, ⟨18, _⟩ => ⟨S16384x256, .f32⟩
  | .hbm, ⟨19, _⟩ => ⟨S16384x256, .f32⟩
  | .hbm, ⟨20, _⟩ => ⟨S16384x256, .bf16⟩
  | .hbm, ⟨21, _⟩ => ⟨S4x4096x128, .bf16⟩
  | .hbm, ⟨22, _⟩ => ⟨S4x4096x32, .bf16⟩
  | .hbm, ⟨23, _⟩ => ⟨S4x4096x160, .bf16⟩
  | .hbm, ⟨24, _⟩ => ⟨S_, .bf16⟩
  | .hbm, ⟨25, _⟩ => ⟨S4x16x4096, .bf16⟩
  | .hbm, ⟨26, _⟩ => ⟨S_, .i32⟩
  | .hbm, ⟨27, _⟩ => ⟨S1, .i32⟩
  | .hbm, ⟨28, _⟩ => ⟨S_, .bf16⟩
  | .hbm, ⟨29, _⟩ => ⟨S4x4096, .bf16⟩
  | .hbm, ⟨30, _⟩ => ⟨S4x16x4096, .bf16⟩
  | .hbm, ⟨31, _⟩ => ⟨S4x4096x128, .bf16⟩
  | .hbm, ⟨32, _⟩ => ⟨S4x128x4096, .bf16⟩
  | .hbm, ⟨33, _⟩ => ⟨S4x144x4096, .bf16⟩
  | .hbm, ⟨34, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S1x4096x160, .bf16⟩
  | .local _ .vmem, ⟨5, _⟩ => ⟨S1x4096x160, .bf16⟩
  | .local _ .vmem, ⟨6, _⟩ => ⟨S1x144x4096, .bf16⟩
  | .local _ .vmem, ⟨7, _⟩ => ⟨S1x144x4096, .bf16⟩
  | .local _ .vmem, ⟨8, _⟩ => ⟨S512x1024, .bf16⟩
  | .local _ .vmem, ⟨9, _⟩ => ⟨S512x1024, .bf16⟩
  | .local _ .vmem, ⟨10, _⟩ => ⟨S160x4096, .bf16⟩
  | .local _ .vmem, ⟨11, _⟩ => ⟨S1x4096, .f32⟩
  | .local _ .vmem, ⟨12, _⟩ => ⟨S144x4096, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_62 : BitVec 32 := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let v174 : BitVec 32 := Scalar.subi v173 c0_i32_62
  let c1_i32_63 : BitVec 32 := 1#32
  let v176 : BitVec 32 := Scalar.divsi v174 c1_i32_63
  let v177 : BitVec 32 := Scalar.muli v176 c1_i32_63
  let v178 : BitVec 32 := Scalar.addi c0_i32_62 v177
  let c1_i32_64 : BitVec 32 := 1#32
  ⟨c0_i32_62, v178, c1_i32_64⟩
def k0_mult1 (i : grid0.Coords) (k0_t1 : Fin (k0_t1_loop i).trips) : BitVec 32 :=
  let c0_i32_62 : BitVec 32 := 0#32
  let c1_i32_64 : BitVec 32 := 1#32
  let arg10 : BitVec 32 := Scf.iv c0_i32_62 c1_i32_64 k0_t1
  let c512_i32_117 : BitVec 32 := 512#32
  let v276 : BitVec 32 := Scalar.muli arg10 c512_i32_117
  v276
def k0_off1 (i : grid0.Coords) (k0_t1 : Fin (k0_t1_loop i).trips) : Fin 3 → Nat :=
  let c0_118 : Index := 0#32
  let c0_i32_62 : BitVec 32 := 0#32
  let c1_i32_64 : BitVec 32 := 1#32
  let arg10 : BitVec 32 := Scf.iv c0_i32_62 c1_i32_64 k0_t1
  let c512_i32_117 : BitVec 32 := 512#32
  let v276 : BitVec 32 := Scalar.muli arg10 c512_i32_117
  let v277 : BitVec 32 := v276
  let v278 : Index := Scalar.indexCast v277
  let c0_119 : Index := 0#32
  ![0, v278.toNat, 0]
def k0_off2 (i : grid0.Coords) (k0_t1 : Fin (k0_t1_loop i).trips) : Fin 3 → Nat :=
  let c0_128 : Index := 0#32
  let c0_129 : Index := 0#32
  let c0_i32_62 : BitVec 32 := 0#32
  let c1_i32_64 : BitVec 32 := 1#32
  let arg10 : BitVec 32 := Scf.iv c0_i32_62 c1_i32_64 k0_t1
  let c512_i32_117 : BitVec 32 := 512#32
  let v276 : BitVec 32 := Scalar.muli arg10 c512_i32_117
  let v277 : BitVec 32 := v276
  let v296 : Index := Scalar.indexCast v277
  ![0, 0, v296.toNat]
@[reducible] def k0_t2_loop (i : grid0.Coords) : Scf.Loop 32 :=
  let c0_i32_62 : BitVec 32 := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let v174 : BitVec 32 := Scalar.subi v173 c0_i32_62
  let c1_i32_63 : BitVec 32 := 1#32
  let v176 : BitVec 32 := Scalar.divsi v174 c1_i32_63
  let v177 : BitVec 32 := Scalar.muli v176 c1_i32_63
  let v178 : BitVec 32 := Scalar.addi c0_i32_62 v177
  let v175 : BitVec 32 := Scalar.addi c0_i32_62 v174
  let c1_i32_65 : BitVec 32 := 1#32
  ⟨v178, v175, c1_i32_65⟩
def k0_mult2 (i : grid0.Coords) (k0_t2 : Fin (k0_t2_loop i).trips) : BitVec 32 :=
  let c0_i32_62 : BitVec 32 := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let v174 : BitVec 32 := Scalar.subi v173 c0_i32_62
  let c1_i32_63 : BitVec 32 := 1#32
  let v176 : BitVec 32 := Scalar.divsi v174 c1_i32_63
  let v177 : BitVec 32 := Scalar.muli v176 c1_i32_63
  let v178 : BitVec 32 := Scalar.addi c0_i32_62 v177
  let c1_i32_65 : BitVec 32 := 1#32
  let arg10 : BitVec 32 := Scf.iv v178 c1_i32_65 k0_t2
  let c512_i32_117 : BitVec 32 := 512#32
  let v276 : BitVec 32 := Scalar.muli arg10 c512_i32_117
  v276
def k0_off3 (i : grid0.Coords) (k0_t2 : Fin (k0_t2_loop i).trips) : Fin 3 → Nat :=
  let c0_118 : Index := 0#32
  let c0_i32_62 : BitVec 32 := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let v174 : BitVec 32 := Scalar.subi v173 c0_i32_62
  let c1_i32_63 : BitVec 32 := 1#32
  let v176 : BitVec 32 := Scalar.divsi v174 c1_i32_63
  let v177 : BitVec 32 := Scalar.muli v176 c1_i32_63
  let v178 : BitVec 32 := Scalar.addi c0_i32_62 v177
  let c1_i32_65 : BitVec 32 := 1#32
  let arg10 : BitVec 32 := Scf.iv v178 c1_i32_65 k0_t2
  let c512_i32_117 : BitVec 32 := 512#32
  let v276 : BitVec 32 := Scalar.muli arg10 c512_i32_117
  let v277 : BitVec 32 := v276
  let v278 : Index := Scalar.indexCast v277
  let c0_119 : Index := 0#32
  ![0, v278.toNat, 0]
def k0_off4 (i : grid0.Coords) (k0_t2 : Fin (k0_t2_loop i).trips) : Fin 3 → Nat :=
  let c0_128 : Index := 0#32
  let c0_129 : Index := 0#32
  let c0_i32_62 : BitVec 32 := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let v174 : BitVec 32 := Scalar.subi v173 c0_i32_62
  let c1_i32_63 : BitVec 32 := 1#32
  let v176 : BitVec 32 := Scalar.divsi v174 c1_i32_63
  let v177 : BitVec 32 := Scalar.muli v176 c1_i32_63
  let v178 : BitVec 32 := Scalar.addi c0_i32_62 v177
  let c1_i32_65 : BitVec 32 := 1#32
  let arg10 : BitVec 32 := Scf.iv v178 c1_i32_65 k0_t2
  let c512_i32_117 : BitVec 32 := 512#32
  let v276 : BitVec 32 := Scalar.muli arg10 c512_i32_117
  let v277 : BitVec 32 := v276
  let v296 : Index := Scalar.indexCast v277
  ![0, 0, v296.toNat]
@[reducible] def k0_t3_loop (i : grid0.Coords) : Scf.Loop 32 :=
  let c0_i32_75 : BitVec 32 := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let c512_i32_66 : BitVec 32 := 512#32
  let v179 : BitVec 32 := Scalar.muli v173 c512_i32_66
  let v180 : BitVec 32 := Scalar.subi v156 v179
  let c0_i32_68 : BitVec 32 := 0#32
  let v182 : BitVec 1 := Scalar.cmpi .sgt v180 c0_i32_68
  let v183 : BitVec 32 := Scalar.extui v182
  let c0_i32_69 : BitVec 32 := 0#32
  let v184 : BitVec 1 := Scalar.cmpi .slt v180 c0_i32_69
  let v185 : BitVec 32 := Scalar.extui v184
  let v186 : BitVec 32 := Scalar.subi v183 v185
  let c512_i32_67 : BitVec 32 := 512#32
  let c0_i32_70 : BitVec 32 := 0#32
  let v187 : BitVec 1 := Scalar.cmpi .sgt c512_i32_67 c0_i32_70
  let v188 : BitVec 32 := Scalar.extui v187
  let c0_i32_71 : BitVec 32 := 0#32
  let v189 : BitVec 1 := Scalar.cmpi .slt c512_i32_67 c0_i32_71
  let v190 : BitVec 32 := Scalar.extui v189
  let v191 : BitVec 32 := Scalar.subi v188 v190
  let v192 : BitVec 1 := Scalar.cmpi .ne v186 v191
  let v193 : BitVec 32 := Scalar.remsi v180 c512_i32_67
  let c0_i32_72 : BitVec 32 := 0#32
  let v194 : BitVec 1 := Scalar.cmpi .ne v193 c0_i32_72
  let v195 : BitVec 1 := Scalar.andi v192 v194
  let v181 : BitVec 32 := Scalar.divsi v180 c512_i32_67
  let c1_i32_73 : BitVec 32 := 1#32
  let v196 : BitVec 32 := Scalar.subi v181 c1_i32_73
  let v197 : BitVec 32 := Scalar.select v195 v196 v181
  let v198 : BitVec 32 := Scalar.subi v197 c0_i32_75
  let c1_i32_76 : BitVec 32 := 1#32
  let v200 : BitVec 32 := Scalar.divsi v198 c1_i32_76
  let v201 : BitVec 32 := Scalar.muli v200 c1_i32_76
  let v202 : BitVec 32 := Scalar.addi c0_i32_75 v201
  let c1_i32_77 : BitVec 32 := 1#32
  ⟨c0_i32_75, v202, c1_i32_77⟩
def k0_mult3 (i : grid0.Coords) (k0_t3 : Fin (k0_t3_loop i).trips) : BitVec 32 :=
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let c512_i32_117 : BitVec 32 := 512#32
  let v276 : BitVec 32 := Scalar.muli v173 c512_i32_117
  let c0_i32_75 : BitVec 32 := 0#32
  let c1_i32_77 : BitVec 32 := 1#32
  let arg10 : BitVec 32 := Scf.iv c0_i32_75 c1_i32_77 k0_t3
  let c512_i32_118 : BitVec 32 := 512#32
  let v277 : BitVec 32 := Scalar.muli arg10 c512_i32_118
  let v278 : BitVec 32 := Scalar.addi v276 v277
  v278
def k0_off5 (i : grid0.Coords) (k0_t3 : Fin (k0_t3_loop i).trips) : Fin 3 → Nat :=
  let c0_119 : Index := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let c512_i32_117 : BitVec 32 := 512#32
  let v276 : BitVec 32 := Scalar.muli v173 c512_i32_117
  let c0_i32_75 : BitVec 32 := 0#32
  let c1_i32_77 : BitVec 32 := 1#32
  let arg10 : BitVec 32 := Scf.iv c0_i32_75 c1_i32_77 k0_t3
  let c512_i32_118 : BitVec 32 := 512#32
  let v277 : BitVec 32 := Scalar.muli arg10 c512_i32_118
  let v278 : BitVec 32 := Scalar.addi v276 v277
  let v279 : BitVec 32 := v278
  let v280 : Index := Scalar.indexCast v279
  let c0_120 : Index := 0#32
  ![0, v280.toNat, 0]
def k0_off6 (i : grid0.Coords) (k0_t3 : Fin (k0_t3_loop i).trips) : Fin 3 → Nat :=
  let c0_129 : Index := 0#32
  let c0_130 : Index := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let c512_i32_117 : BitVec 32 := 512#32
  let v276 : BitVec 32 := Scalar.muli v173 c512_i32_117
  let c0_i32_75 : BitVec 32 := 0#32
  let c1_i32_77 : BitVec 32 := 1#32
  let arg10 : BitVec 32 := Scf.iv c0_i32_75 c1_i32_77 k0_t3
  let c512_i32_118 : BitVec 32 := 512#32
  let v277 : BitVec 32 := Scalar.muli arg10 c512_i32_118
  let v278 : BitVec 32 := Scalar.addi v276 v277
  let v279 : BitVec 32 := v278
  let v298 : Index := Scalar.indexCast v279
  ![0, 0, v298.toNat]
@[reducible] def k0_t4_loop (i : grid0.Coords) : Scf.Loop 32 :=
  let c0_i32_75 : BitVec 32 := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let c512_i32_66 : BitVec 32 := 512#32
  let v179 : BitVec 32 := Scalar.muli v173 c512_i32_66
  let v180 : BitVec 32 := Scalar.subi v156 v179
  let c0_i32_68 : BitVec 32 := 0#32
  let v182 : BitVec 1 := Scalar.cmpi .sgt v180 c0_i32_68
  let v183 : BitVec 32 := Scalar.extui v182
  let c0_i32_69 : BitVec 32 := 0#32
  let v184 : BitVec 1 := Scalar.cmpi .slt v180 c0_i32_69
  let v185 : BitVec 32 := Scalar.extui v184
  let v186 : BitVec 32 := Scalar.subi v183 v185
  let c512_i32_67 : BitVec 32 := 512#32
  let c0_i32_70 : BitVec 32 := 0#32
  let v187 : BitVec 1 := Scalar.cmpi .sgt c512_i32_67 c0_i32_70
  let v188 : BitVec 32 := Scalar.extui v187
  let c0_i32_71 : BitVec 32 := 0#32
  let v189 : BitVec 1 := Scalar.cmpi .slt c512_i32_67 c0_i32_71
  let v190 : BitVec 32 := Scalar.extui v189
  let v191 : BitVec 32 := Scalar.subi v188 v190
  let v192 : BitVec 1 := Scalar.cmpi .ne v186 v191
  let v193 : BitVec 32 := Scalar.remsi v180 c512_i32_67
  let c0_i32_72 : BitVec 32 := 0#32
  let v194 : BitVec 1 := Scalar.cmpi .ne v193 c0_i32_72
  let v195 : BitVec 1 := Scalar.andi v192 v194
  let v181 : BitVec 32 := Scalar.divsi v180 c512_i32_67
  let c1_i32_73 : BitVec 32 := 1#32
  let v196 : BitVec 32 := Scalar.subi v181 c1_i32_73
  let v197 : BitVec 32 := Scalar.select v195 v196 v181
  let v198 : BitVec 32 := Scalar.subi v197 c0_i32_75
  let c1_i32_76 : BitVec 32 := 1#32
  let v200 : BitVec 32 := Scalar.divsi v198 c1_i32_76
  let v201 : BitVec 32 := Scalar.muli v200 c1_i32_76
  let v202 : BitVec 32 := Scalar.addi c0_i32_75 v201
  let v199 : BitVec 32 := Scalar.addi c0_i32_75 v198
  let c1_i32_78 : BitVec 32 := 1#32
  ⟨v202, v199, c1_i32_78⟩
def k0_mult4 (i : grid0.Coords) (k0_t4 : Fin (k0_t4_loop i).trips) : BitVec 32 :=
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let c512_i32_117 : BitVec 32 := 512#32
  let v276 : BitVec 32 := Scalar.muli v173 c512_i32_117
  let c0_i32_75 : BitVec 32 := 0#32
  let c512_i32_66 : BitVec 32 := 512#32
  let v179 : BitVec 32 := Scalar.muli v173 c512_i32_66
  let v180 : BitVec 32 := Scalar.subi v156 v179
  let c0_i32_68 : BitVec 32 := 0#32
  let v182 : BitVec 1 := Scalar.cmpi .sgt v180 c0_i32_68
  let v183 : BitVec 32 := Scalar.extui v182
  let c0_i32_69 : BitVec 32 := 0#32
  let v184 : BitVec 1 := Scalar.cmpi .slt v180 c0_i32_69
  let v185 : BitVec 32 := Scalar.extui v184
  let v186 : BitVec 32 := Scalar.subi v183 v185
  let c512_i32_67 : BitVec 32 := 512#32
  let c0_i32_70 : BitVec 32 := 0#32
  let v187 : BitVec 1 := Scalar.cmpi .sgt c512_i32_67 c0_i32_70
  let v188 : BitVec 32 := Scalar.extui v187
  let c0_i32_71 : BitVec 32 := 0#32
  let v189 : BitVec 1 := Scalar.cmpi .slt c512_i32_67 c0_i32_71
  let v190 : BitVec 32 := Scalar.extui v189
  let v191 : BitVec 32 := Scalar.subi v188 v190
  let v192 : BitVec 1 := Scalar.cmpi .ne v186 v191
  let v193 : BitVec 32 := Scalar.remsi v180 c512_i32_67
  let c0_i32_72 : BitVec 32 := 0#32
  let v194 : BitVec 1 := Scalar.cmpi .ne v193 c0_i32_72
  let v195 : BitVec 1 := Scalar.andi v192 v194
  let v181 : BitVec 32 := Scalar.divsi v180 c512_i32_67
  let c1_i32_73 : BitVec 32 := 1#32
  let v196 : BitVec 32 := Scalar.subi v181 c1_i32_73
  let v197 : BitVec 32 := Scalar.select v195 v196 v181
  let v198 : BitVec 32 := Scalar.subi v197 c0_i32_75
  let c1_i32_76 : BitVec 32 := 1#32
  let v200 : BitVec 32 := Scalar.divsi v198 c1_i32_76
  let v201 : BitVec 32 := Scalar.muli v200 c1_i32_76
  let v202 : BitVec 32 := Scalar.addi c0_i32_75 v201
  let c1_i32_78 : BitVec 32 := 1#32
  let arg10 : BitVec 32 := Scf.iv v202 c1_i32_78 k0_t4
  let c512_i32_118 : BitVec 32 := 512#32
  let v277 : BitVec 32 := Scalar.muli arg10 c512_i32_118
  let v278 : BitVec 32 := Scalar.addi v276 v277
  v278
def k0_off7 (i : grid0.Coords) (k0_t4 : Fin (k0_t4_loop i).trips) : Fin 3 → Nat :=
  let c0_119 : Index := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let c512_i32_117 : BitVec 32 := 512#32
  let v276 : BitVec 32 := Scalar.muli v173 c512_i32_117
  let c0_i32_75 : BitVec 32 := 0#32
  let c512_i32_66 : BitVec 32 := 512#32
  let v179 : BitVec 32 := Scalar.muli v173 c512_i32_66
  let v180 : BitVec 32 := Scalar.subi v156 v179
  let c0_i32_68 : BitVec 32 := 0#32
  let v182 : BitVec 1 := Scalar.cmpi .sgt v180 c0_i32_68
  let v183 : BitVec 32 := Scalar.extui v182
  let c0_i32_69 : BitVec 32 := 0#32
  let v184 : BitVec 1 := Scalar.cmpi .slt v180 c0_i32_69
  let v185 : BitVec 32 := Scalar.extui v184
  let v186 : BitVec 32 := Scalar.subi v183 v185
  let c512_i32_67 : BitVec 32 := 512#32
  let c0_i32_70 : BitVec 32 := 0#32
  let v187 : BitVec 1 := Scalar.cmpi .sgt c512_i32_67 c0_i32_70
  let v188 : BitVec 32 := Scalar.extui v187
  let c0_i32_71 : BitVec 32 := 0#32
  let v189 : BitVec 1 := Scalar.cmpi .slt c512_i32_67 c0_i32_71
  let v190 : BitVec 32 := Scalar.extui v189
  let v191 : BitVec 32 := Scalar.subi v188 v190
  let v192 : BitVec 1 := Scalar.cmpi .ne v186 v191
  let v193 : BitVec 32 := Scalar.remsi v180 c512_i32_67
  let c0_i32_72 : BitVec 32 := 0#32
  let v194 : BitVec 1 := Scalar.cmpi .ne v193 c0_i32_72
  let v195 : BitVec 1 := Scalar.andi v192 v194
  let v181 : BitVec 32 := Scalar.divsi v180 c512_i32_67
  let c1_i32_73 : BitVec 32 := 1#32
  let v196 : BitVec 32 := Scalar.subi v181 c1_i32_73
  let v197 : BitVec 32 := Scalar.select v195 v196 v181
  let v198 : BitVec 32 := Scalar.subi v197 c0_i32_75
  let c1_i32_76 : BitVec 32 := 1#32
  let v200 : BitVec 32 := Scalar.divsi v198 c1_i32_76
  let v201 : BitVec 32 := Scalar.muli v200 c1_i32_76
  let v202 : BitVec 32 := Scalar.addi c0_i32_75 v201
  let c1_i32_78 : BitVec 32 := 1#32
  let arg10 : BitVec 32 := Scf.iv v202 c1_i32_78 k0_t4
  let c512_i32_118 : BitVec 32 := 512#32
  let v277 : BitVec 32 := Scalar.muli arg10 c512_i32_118
  let v278 : BitVec 32 := Scalar.addi v276 v277
  let v279 : BitVec 32 := v278
  let v280 : Index := Scalar.indexCast v279
  let c0_120 : Index := 0#32
  ![0, v280.toNat, 0]
def k0_off8 (i : grid0.Coords) (k0_t4 : Fin (k0_t4_loop i).trips) : Fin 3 → Nat :=
  let c0_129 : Index := 0#32
  let c0_130 : Index := 0#32
  let arg1 : BitVec 32 := BitVec.ofNat 32 (i 1).val
  let c512_i32 : BitVec 32 := 512#32
  let v156 : BitVec 32 := Scalar.muli arg1 c512_i32
  let c0_i32 : BitVec 32 := 0#32
  let v158 : BitVec 1 := Scalar.cmpi .sgt v156 c0_i32
  let v159 : BitVec 32 := Scalar.extui v158
  let c0_i32_57 : BitVec 32 := 0#32
  let v160 : BitVec 1 := Scalar.cmpi .slt v156 c0_i32_57
  let v161 : BitVec 32 := Scalar.extui v160
  let v162 : BitVec 32 := Scalar.subi v159 v161
  let c512_i32_56 : BitVec 32 := 512#32
  let c0_i32_58 : BitVec 32 := 0#32
  let v163 : BitVec 1 := Scalar.cmpi .sgt c512_i32_56 c0_i32_58
  let v164 : BitVec 32 := Scalar.extui v163
  let c0_i32_59 : BitVec 32 := 0#32
  let v165 : BitVec 1 := Scalar.cmpi .slt c512_i32_56 c0_i32_59
  let v166 : BitVec 32 := Scalar.extui v165
  let v167 : BitVec 32 := Scalar.subi v164 v166
  let v168 : BitVec 1 := Scalar.cmpi .ne v162 v167
  let v169 : BitVec 32 := Scalar.remsi v156 c512_i32_56
  let c0_i32_60 : BitVec 32 := 0#32
  let v170 : BitVec 1 := Scalar.cmpi .ne v169 c0_i32_60
  let v171 : BitVec 1 := Scalar.andi v168 v170
  let v157 : BitVec 32 := Scalar.divsi v156 c512_i32_56
  let c1_i32 : BitVec 32 := 1#32
  let v172 : BitVec 32 := Scalar.subi v157 c1_i32
  let v173 : BitVec 32 := Scalar.select v171 v172 v157
  let c512_i32_117 : BitVec 32 := 512#32
  let v276 : BitVec 32 := Scalar.muli v173 c512_i32_117
  let c0_i32_75 : BitVec 32 := 0#32
  let c512_i32_66 : BitVec 32 := 512#32
  let v179 : BitVec 32 := Scalar.muli v173 c512_i32_66
  let v180 : BitVec 32 := Scalar.subi v156 v179
  let c0_i32_68 : BitVec 32 := 0#32
  let v182 : BitVec 1 := Scalar.cmpi .sgt v180 c0_i32_68
  let v183 : BitVec 32 := Scalar.extui v182
  let c0_i32_69 : BitVec 32 := 0#32
  let v184 : BitVec 1 := Scalar.cmpi .slt v180 c0_i32_69
  let v185 : BitVec 32 := Scalar.extui v184
  let v186 : BitVec 32 := Scalar.subi v183 v185
  let c512_i32_67 : BitVec 32 := 512#32
  let c0_i32_70 : BitVec 32 := 0#32
  let v187 : BitVec 1 := Scalar.cmpi .sgt c512_i32_67 c0_i32_70
  let v188 : BitVec 32 := Scalar.extui v187
  let c0_i32_71 : BitVec 32 := 0#32
  let v189 : BitVec 1 := Scalar.cmpi .slt c512_i32_67 c0_i32_71
  let v190 : BitVec 32 := Scalar.extui v189
  let v191 : BitVec 32 := Scalar.subi v188 v190
  let v192 : BitVec 1 := Scalar.cmpi .ne v186 v191
  let v193 : BitVec 32 := Scalar.remsi v180 c512_i32_67
  let c0_i32_72 : BitVec 32 := 0#32
  let v194 : BitVec 1 := Scalar.cmpi .ne v193 c0_i32_72
  let v195 : BitVec 1 := Scalar.andi v192 v194
  let v181 : BitVec 32 := Scalar.divsi v180 c512_i32_67
  let c1_i32_73 : BitVec 32 := 1#32
  let v196 : BitVec 32 := Scalar.subi v181 c1_i32_73
  let v197 : BitVec 32 := Scalar.select v195 v196 v181
  let v198 : BitVec 32 := Scalar.subi v197 c0_i32_75
  let c1_i32_76 : BitVec 32 := 1#32
  let v200 : BitVec 32 := Scalar.divsi v198 c1_i32_76
  let v201 : BitVec 32 := Scalar.muli v200 c1_i32_76
  let v202 : BitVec 32 := Scalar.addi c0_i32_75 v201
  let c1_i32_78 : BitVec 32 := 1#32
  let arg10 : BitVec 32 := Scf.iv v202 c1_i32_78 k0_t4
  let c512_i32_118 : BitVec 32 := 512#32
  let v277 : BitVec 32 := Scalar.muli arg10 c512_i32_118
  let v278 : BitVec 32 := Scalar.addi v276 v277
  let v279 : BitVec 32 := v278
  let v298 : Index := Scalar.indexCast v279
  ![0, 0, v298.toNat]
def k0_mult5 (i : grid0.Coords) : BitVec 32 :=
  let arg1 : BitVec 32 := BitVec.ofNat 32 (i 1).val
  let c512_i32 : BitVec 32 := 512#32
  let v156 : BitVec 32 := Scalar.muli arg1 c512_i32
  v156
def k0_off9 (i : grid0.Coords) : Fin 3 → Nat :=
  let c0_79 : Index := 0#32
  let arg1 : BitVec 32 := BitVec.ofNat 32 (i 1).val
  let c512_i32 : BitVec 32 := 512#32
  let v156 : BitVec 32 := Scalar.muli arg1 c512_i32
  let v203 : BitVec 32 := v156
  let v204 : Index := Scalar.indexCast v203
  let c0_80 : Index := 0#32
  ![0, v204.toNat, 0]
def k0_off10 (i : grid0.Coords) : Fin 3 → Nat :=
  let c0_90 : Index := 0#32
  let c0_91 : Index := 0#32
  let arg1 : BitVec 32 := BitVec.ofNat 32 (i 1).val
  let c512_i32 : BitVec 32 := 512#32
  let v156 : BitVec 32 := Scalar.muli arg1 c512_i32
  let v203 : BitVec 32 := v156
  let v229 : Index := Scalar.indexCast v203
  ![0, 0, v229.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x160 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x144x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "neg_big" => some ⊥
  | _ => none
-- ==== Reference.lean ====
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S4096 : Shape := ⟨1, ![4096]⟩
abbrev S4x4096x4096x8 : Shape := ⟨4, ![4, 4096, 4096, 8]⟩
abbrev S4x8x4096x4096 : Shape := ⟨4, ![4, 8, 4096, 4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4x8x4096 : Shape := ⟨3, ![4, 8, 4096]⟩
abbrev S4x8x4096x1 : Shape := ⟨4, ![4, 8, 4096, 1]⟩
abbrev S4x128x8x4096 : Shape := ⟨4, ![4, 128, 8, 4096]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x32, .f32⟩
  | .hbm, ⟨2, _⟩ => ⟨S4x4096x128, .f32⟩
  | .hbm, ⟨3, _⟩ => ⟨S4x4096x32, .f32⟩
  | .hbm, ⟨4, _⟩ => ⟨S4096, .i32⟩
  | .hbm, ⟨5, _⟩ => ⟨S4x4096x4096x8, .f32⟩
  | .hbm, ⟨6, _⟩ => ⟨S4x8x4096x4096, .f32⟩
  | .hbm, ⟨7, _⟩ => ⟨S4x4096x4096x8, .f32⟩
  | .hbm, ⟨8, _⟩ => ⟨S4x8x4096x4096, .f32⟩
  | .hbm, ⟨9, _⟩ => ⟨S4x8x4096x4096, .f32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4x8x4096x4096, .f32⟩
  | .hbm, ⟨18, _⟩ => ⟨S4x8x4096x4096, .f32⟩
  | .hbm, ⟨19, _⟩ => ⟨S_, .f32⟩
  | .hbm, ⟨20, _⟩ => ⟨S_, .f32⟩
  | .hbm, ⟨21, _⟩ => ⟨S4x8x4096x4096, .i1⟩
  | .hbm, ⟨22, _⟩ => ⟨S4x8x4096x4096, .f32⟩
  | .hbm, ⟨23, _⟩ => ⟨S4x8x4096x4096, .f32⟩
  | .hbm, ⟨24, _⟩ => ⟨S_, .f32⟩
  | .hbm, ⟨25, _⟩ => ⟨S4x8x4096, .f32⟩
  | .hbm, ⟨26, _⟩ => ⟨S_, .f32⟩
  | .hbm, ⟨27, _⟩ => ⟨S4x8x4096, .f32⟩
  | .hbm, ⟨28, _⟩ => ⟨S4x8x4096, .f32⟩
  | .hbm, ⟨29, _⟩ => ⟨S4x8x4096x1, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S_, .f32⟩
  | .hbm, ⟨34, _⟩ => ⟨S4x8x4096, .f32⟩
  | .hbm, ⟨35, _⟩ => ⟨S4x8x4096x1, .f32⟩
  | .hbm, ⟨36, _⟩ => ⟨S4x8x4096x4096, .f32⟩
  | .hbm, ⟨37, _⟩ => ⟨S4x8x4096x4096, .f32⟩
  | .hbm, ⟨38, _⟩ => ⟨S4x128x8x4096, .f32⟩
  | .hbm, ⟨39, _⟩ => ⟨S4x4096x8x128, .f32⟩
  | .hbm, ⟨40, _⟩ => ⟨S16384x1024, .f32⟩
  | .hbm, ⟨41, _⟩ => ⟨S16384x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Merge.lean ====
abbrev S1 : Shape := ⟨1, ![1]⟩
abbrev S4x4096x1024 : Shape := ⟨3, ![4, 4096, 1024]⟩
abbrev S4x4096x512 : Shape := ⟨3, ![4, 4096, 512]⟩
abbrev S4x4096x8x128 : Shape := ⟨4, ![4, 4096, 8, 128]⟩
abbrev S4x1024x6048 : Shape := ⟨3, ![4, 1024, 6048]⟩
abbrev S4x128x8x64 : Shape := ⟨4, ![4, 128, 8, 64]⟩
abbrev S4x512x1024 : Shape := ⟨3, ![4, 512, 1024]⟩
abbrev S4x1024x1024 : Shape := ⟨3, ![4, 1024, 1024]⟩
abbrev S4x1024 : Shape := ⟨2, ![4, 1024]⟩
abbrev S4x1024x3072 : Shape := ⟨3, ![4, 1024, 3072]⟩
abbrev S8x8 : Shape := ⟨2, ![8, 8]⟩
abbrev S_ : Shape := ⟨0, ![]⟩
abbrev S4x8x128x64 : Shape := ⟨4, ![4, 8, 128, 64]⟩
abbrev S1x8x1x8x1 : Shape := ⟨5, ![1, 8, 1, 8, 1]⟩
abbrev S4x8x128x1x64 : Shape := ⟨5, ![4, 8, 128, 1, 64]⟩
abbrev S4x8x128x8x64 : Shape := ⟨5, ![4, 8, 128, 8, 64]⟩
abbrev S4x1024x512 : Shape := ⟨3, ![4, 1024, 512]⟩
abbrev S16384x1024 : Shape := ⟨2, ![16384, 1024]⟩
abbrev S16384x512 : Shape := ⟨2, ![16384, 512]⟩
abbrev S4x1x1024 : Shape := ⟨3, ![4, 1, 1024]⟩
abbrev S512x1024 : Shape := ⟨2, ![512, 1024]⟩
abbrev S512x512 : Shape := ⟨2, ![512, 512]⟩
abbrev S1x1024x3072 : Shape := ⟨3, ![1, 1024, 3072]⟩
abbrev S1x1024x512 : Shape := ⟨3, ![1, 1024, 512]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1024x512 : Shape := ⟨2, ![1024, 512]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩

abbrev nBuf : Space → Nat
  | .hbm => 43
  | .vmem => 18
  | .smem => 1
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S4x4096x8x128, .f32⟩
  | .hbm, ⟨4, _⟩ => ⟨S4x1024x6048, .f32⟩
  | .hbm, ⟨5, _⟩ => ⟨S4x128x8x64, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x1024x1024, .f32⟩
  | .hbm, ⟨10, _⟩ => ⟨S4x1024, .f32⟩
  | .hbm, ⟨11, _⟩ => ⟨S4x1024, .f32⟩
  | .hbm, ⟨12, _⟩ => ⟨S4x1024x3072, .f32⟩
  | .hbm, ⟨13, _⟩ => ⟨S4x1024x3072, .bf16⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S4x8x128x64, .f32⟩
  | .hbm, ⟨22, _⟩ => ⟨S1x8x1x8x1, .f32⟩
  | .hbm, ⟨23, _⟩ => ⟨S4x8x128x1x64, .f32⟩
  | .hbm, ⟨24, _⟩ => ⟨S4x8x128x8x64, .f32⟩
  | .hbm, ⟨25, _⟩ => ⟨S4x8x128x8x64, .f32⟩
  | .hbm, ⟨26, _⟩ => ⟨S4x8x128x8x64, .f32⟩
  | .hbm, ⟨27, _⟩ => ⟨S4x1024x512, .f32⟩
  | .hbm, ⟨28, _⟩ => ⟨S4x1024x512, .bf16⟩
  | .hbm, ⟨29, _⟩ => ⟨S16384x1024, .f32⟩
  | .hbm, ⟨30, _⟩ => ⟨S4x4096x512, .bf16⟩
  | .hbm, ⟨31, _⟩ => ⟨S16384x512, .bf16⟩
  | .hbm, ⟨32, _⟩ => ⟨S4x4096x512, .bf16⟩
  | .hbm, ⟨33, _⟩ => ⟨S16384x512, .bf16⟩
  | .hbm, ⟨34, _⟩ => ⟨S4x4096x8x128, .bf16⟩
  | .hbm, ⟨35, _⟩ => ⟨S16384x1024, .bf16⟩
  | .hbm, ⟨36, _⟩ => ⟨S4x512x1024, .bf16⟩
  | .hbm, ⟨37, _⟩ => ⟨S4x512x1024, .bf16⟩
  | .hbm, ⟨38, _⟩ => ⟨S4x512x1024, .bf16⟩
  | .hbm, ⟨39, _⟩ => ⟨S4x1024x1024, .bf16⟩
  | .hbm, ⟨40, _⟩ => ⟨S4x1x1024, .f32⟩
  | .hbm, ⟨41, _⟩ => ⟨S4x1x1024, .f32⟩
  | .hbm, ⟨42, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024x3072, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | .local _ .smem, ⟨0, _⟩ => ⟨S1, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_8 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_9 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_10 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_11 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRef.lean ====
abbrev S1 : Shape := ⟨1, ![1]⟩
abbrev S4x4096x1024 : Shape := ⟨3, ![4, 4096, 1024]⟩
abbrev S4x4096x512 : Shape := ⟨3, ![4, 4096, 512]⟩
abbrev S4x4096x8x128 : Shape := ⟨4, ![4, 4096, 8, 128]⟩
abbrev S4x1024x6048 : Shape := ⟨3, ![4, 1024, 6048]⟩
abbrev S4x128x8x64 : Shape := ⟨4, ![4, 128, 8, 64]⟩
abbrev S4x512x1024 : Shape := ⟨3, ![4, 512, 1024]⟩
abbrev S4x1024x1024 : Shape := ⟨3, ![4, 1024, 1024]⟩
abbrev S4x1024 : Shape := ⟨2, ![4, 1024]⟩
abbrev S_ : Shape := ⟨0, ![]⟩
abbrev S1x1024x6048 : Shape := ⟨3, ![1, 1024, 6048]⟩
abbrev S1024x6048 : Shape := ⟨2, ![1024, 6048]⟩
abbrev S1x128x8x64 : Shape := ⟨4, ![1, 128, 8, 64]⟩
abbrev S128x8x64 : Shape := ⟨3, ![128, 8, 64]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x4096x6048 : Shape := ⟨3, ![4, 4096, 6048]⟩
abbrev S4x4096x3072 : Shape := ⟨3, ![4, 4096, 3072]⟩
abbrev S8x64x4x4096 : Shape := ⟨4, ![8, 64, 4, 4096]⟩
abbrev S4x4096x8x64 : Shape := ⟨4, ![4, 4096, 8, 64]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 256
  | .vmem => 0
  | .smem => 0
  | _ => 0

abbrev hbmTy0_0 (i : Nat) : BufTy := match i % 128 with
  | 0 => ⟨S1, .i32⟩
  | 1 => ⟨S4x4096x1024, .f32⟩
  | 2 => ⟨S4x4096x512, .f32⟩
  | 3 => ⟨S4x4096x512, .f32⟩
  | 4 => ⟨S4x4096x8x128, .f32⟩
  | 5 => ⟨S4x1024x6048, .f32⟩
  | 6 => ⟨S4x128x8x64, .f32⟩
  | 7 => ⟨S4x512x1024, .f32⟩
  | 8 => ⟨S4x512x1024, .f32⟩
  | 9 => ⟨S4x512x1024, .f32⟩
  | 10 => ⟨S4x1024x1024, .f32⟩
  | 11 => ⟨S4x1024, .f32⟩
  | 12 => ⟨S4x1024, .f32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S1x1024x6048, .f32⟩
  | 36 => ⟨S1024x6048, .f32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S1x128x8x64, .f32⟩
  | 68 => ⟨S128x8x64, .f32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S1x512x1024, .f32⟩
  | 92 => ⟨S512x1024, .f32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S1x512x1024, .f32⟩
  | 116 => ⟨S512x1024, .f32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S1, .i32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S1x512x1024, .f32⟩
  | 12 => ⟨S512x1024, .f32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S1x1024x1024, .f32⟩
  | 36 => ⟨S1024x1024, .f32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S1x1024, .f32⟩
  | 52 => ⟨S1024, .f32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S1x1024, .f32⟩
  | 68 => ⟨S1024, .f32⟩
  | 69 => ⟨S4x4096x6048, .f32⟩
  | 70 => ⟨S4x4096x3072, .f32⟩
  | 71 => ⟨S8x64x4x4096, .f32⟩
  | 72 => ⟨S4x4096x8x64, .f32⟩
  | 73 => ⟨S4x4096x512, .f32⟩
  | 74 => ⟨S4x4096x3072, .f32⟩
  | 75 => ⟨S4x4096x3072, .f32⟩
  | 76 => ⟨S_, .f32⟩
  | 77 => ⟨S4x4096x3072, .f32⟩
  | 78 => ⟨S4x4096x3072, .f32⟩
  | 79 => ⟨S_, .f32⟩
  | 80 => ⟨S4x4096x3072, .f32⟩
  | 81 => ⟨S4x4096x3072, .f32⟩
  | 82 => ⟨S4x4096x1024, .f32⟩
  | 83 => ⟨S4x4096x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S4x4096x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S_, .f32⟩
  | 94 => ⟨S4x4096x1024, .f32⟩
  | 95 => ⟨S4x4096x1024, .f32⟩
  | 96 => ⟨S4x4096x1024, .f32⟩
  | 97 => ⟨S4x4096x1024, .f32⟩
  | 98 => ⟨S_, .f32⟩
  | 99 => ⟨S4x4096, .f32⟩
  | 100 => ⟨S4x4096x1, .f32⟩
  | 101 => ⟨S_, .f32⟩
  | 102 => ⟨S4x4096x1, .f32⟩
  | 103 => ⟨S4x4096x1, .f32⟩
  | 104 => ⟨S4x4096x1024, .f32⟩
  | 105 => ⟨S4x4096x1024, .f32⟩
  | 106 => ⟨S4x4096x1024, .f32⟩
  | 107 => ⟨S_, .f32⟩
  | 108 => ⟨S4x4096, .f32⟩
  | 109 => ⟨S4x4096x1, .f32⟩
  | 110 => ⟨S_, .f32⟩
  | 111 => ⟨S4x4096x1, .f32⟩
  | 112 => ⟨S4x4096x1, .f32⟩
  | 113 => ⟨S4x4096x1024, .f32⟩
  | 114 => ⟨S4x4096x1024, .f32⟩
  | 115 => ⟨S_, .f32⟩
  | 116 => ⟨S4x4096x1, .f32⟩
  | 117 => ⟨S4x4096x1, .f32⟩
  | 118 => ⟨S4x4096x1, .f32⟩
  | 119 => ⟨S4x4096x1024, .f32⟩
  | 120 => ⟨S4x4096x1024, .f32⟩
  | 121 => ⟨S1x1x1024, .f32⟩
  | 122 => ⟨S4x4096x1024, .f32⟩
  | 123 => ⟨S4x4096x1024, .f32⟩
  | 124 => ⟨S1x1x1024, .f32⟩
  | 125 => ⟨S4x4096x1024, .f32⟩
  | 126 => ⟨S4x4096x1024, .f32⟩
  | 127 => ⟨S16384x1024, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_c_2 : Ref sig .tc := ⟨.hbm, 20, rfl⟩
abbrev main_v4 : Ref sig .tc := ⟨.hbm, 21, rfl⟩
abbrev main_c_3 : Ref sig .tc := ⟨.hbm, 22, rfl⟩
abbrev main_c_4 : Ref sig .tc := ⟨.hbm, 23, rfl⟩
abbrev main_v5 : Ref sig .tc := ⟨.hbm, 24, rfl⟩
abbrev main_c_5 : Ref sig .tc := ⟨.hbm, 25, rfl⟩
abbrev main_v6 : Ref sig .tc := ⟨.hbm, 26, rfl⟩
abbrev main_c_6 : Ref sig .tc := ⟨.hbm, 27, rfl⟩
abbrev main_c_7 : Ref sig .tc := ⟨.hbm, 28, rfl⟩
abbrev main_v7 : Ref sig .tc := ⟨.hbm, 29, rfl⟩
abbrev main_c_8 : Ref sig .tc := ⟨.hbm, 30, rfl⟩
abbrev main_c_9 : Ref sig .tc := ⟨.hbm, 31, rfl⟩
abbrev main_v8 : Ref sig .tc := ⟨.hbm, 32, rfl⟩
abbrev main_c_10 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_11 : Ref sig .tc := ⟨.hbm, 38, rfl⟩
abbrev main_v13 : Ref sig .tc := ⟨.hbm, 39, rfl⟩
abbrev main_c_12 : Ref sig .tc := ⟨.hbm, 40, rfl⟩
abbrev main_v14 : Ref sig .tc := ⟨.hbm, 41, rfl⟩
abbrev main_v15 : Ref sig .tc := ⟨.hbm, 42, rfl⟩
abbrev main_c_13 : Ref sig .tc := ⟨.hbm, 43, rfl⟩
abbrev main_c_14 : Ref sig .tc := ⟨.hbm, 44, rfl⟩
abbrev main_v16 : Ref sig .tc := ⟨.hbm, 45, rfl⟩
abbrev main_c_15 : Ref sig .tc := ⟨.hbm, 46, rfl⟩
abbrev main_c_16 : Ref sig .tc := ⟨.hbm, 47, rfl⟩
abbrev main_v17 : Ref sig .tc := ⟨.hbm, 48, rfl⟩
abbrev main_c_17 : Ref sig .tc := ⟨.hbm, 49, rfl⟩
abbrev main_v18 : Ref sig .tc := ⟨.hbm, 50, rfl⟩
abbrev main_c_18 : Ref sig .tc := ⟨.hbm, 51, rfl⟩
abbrev main_c_19 : Ref sig .tc := ⟨.hbm, 52, rfl⟩
abbrev main_v19 : Ref sig .tc := ⟨.hbm, 53, rfl⟩
abbrev main_c_20 : Ref sig .tc := ⟨.hbm, 54, rfl⟩
abbrev main_c_21 : Ref sig .tc := ⟨.hbm, 55, rfl⟩
abbrev main_v20 : Ref sig .tc := ⟨.hbm, 56, rfl⟩
abbrev main_c_22 : Ref sig .tc := ⟨.hbm, 57, rfl⟩
abbrev main_v21 : Ref sig .tc := ⟨.hbm, 58, rfl⟩
abbrev main_c_23 : Ref sig .tc := ⟨.hbm, 59, rfl⟩
abbrev main_c_24 : Ref sig .tc := ⟨.hbm, 60, rfl⟩
abbrev main_v22 : Ref sig .tc := ⟨.hbm, 61, rfl⟩
abbrev main_c_25 : Ref sig .tc := ⟨.hbm, 62, rfl⟩
abbrev main_c_26 : Ref sig .tc := ⟨.hbm, 63, rfl⟩
abbrev main_v23 : Ref sig .tc := ⟨.hbm, 64, rfl⟩
abbrev main_c_27 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_28 : Ref sig .tc := ⟨.hbm, 70, rfl⟩
abbrev main_v28 : Ref sig .tc := ⟨.hbm, 71, rfl⟩
abbrev main_c_29 : Ref sig .tc := ⟨.hbm, 72, rfl⟩
abbrev main_v29 : Ref sig .tc := ⟨.hbm, 73, rfl⟩
abbrev main_v30 : Ref sig .tc := ⟨.hbm, 74, rfl⟩
abbrev main_c_30 : Ref sig .tc := ⟨.hbm, 75, rfl⟩
abbrev main_c_31 : Ref sig .tc := ⟨.hbm, 76, rfl⟩
abbrev main_v31 : Ref sig .tc := ⟨.hbm, 77, rfl⟩
abbrev main_c_32 : Ref sig .tc := ⟨.hbm, 78, rfl⟩
abbrev main_c_33 : Ref sig .tc := ⟨.hbm, 79, rfl⟩
abbrev main_v32 : Ref sig .tc := ⟨.hbm, 80, rfl⟩
abbrev main_c_34 : Ref sig .tc := ⟨.hbm, 81, rfl⟩
abbrev main_v33 : Ref sig .tc := ⟨.hbm, 82, rfl⟩
abbrev main_c_35 : Ref sig .tc := ⟨.hbm, 83, rfl⟩
abbrev main_c_36 : Ref sig .tc := ⟨.hbm, 84, rfl⟩
abbrev main_v34 : Ref sig .tc := ⟨.hbm, 85, rfl⟩
abbrev main_c_37 : Ref sig .tc := ⟨.hbm, 86, rfl⟩
abbrev main_c_38 : Ref sig .tc := ⟨.hbm, 87, rfl⟩
abbrev main_v35 : Ref sig .tc := ⟨.hbm, 88, rfl⟩
abbrev main_c_39 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_c_40 : Ref sig .tc := ⟨.hbm, 94, rfl⟩
abbrev main_v40 : Ref sig .tc := ⟨.hbm, 95, rfl⟩
abbrev main_c_41 : Ref sig .tc := ⟨.hbm, 96, rfl⟩
abbrev main_v41 : Ref sig .tc := ⟨.hbm, 97, rfl⟩
abbrev main_v42 : Ref sig .tc := ⟨.hbm, 98, rfl⟩
abbrev main_c_42 : Ref sig .tc := ⟨.hbm, 99, rfl⟩
abbrev main_c_43 : Ref sig .tc := ⟨.hbm, 100, rfl⟩
abbrev main_v43 : Ref sig .tc := ⟨.hbm, 101, rfl⟩
abbrev main_c_44 : Ref sig .tc := ⟨.hbm, 102, rfl⟩
abbrev main_c_45 : Ref sig .tc := ⟨.hbm, 103, rfl⟩
abbrev main_v44 : Ref sig .tc := ⟨.hbm, 104, rfl⟩
abbrev main_c_46 : Ref sig .tc := ⟨.hbm, 105, rfl⟩
abbrev main_v45 : Ref sig .tc := ⟨.hbm, 106, rfl⟩
abbrev main_c_47 : Ref sig .tc := ⟨.hbm, 107, rfl⟩
abbrev main_c_48 : Ref sig .tc := ⟨.hbm, 108, rfl⟩
abbrev main_v46 : Ref sig .tc := ⟨.hbm, 109, rfl⟩
abbrev main_c_49 : Ref sig .tc := ⟨.hbm, 110, rfl⟩
abbrev main_c_50 : Ref sig .tc := ⟨.hbm, 111, rfl⟩
abbrev main_v47 : Ref sig .tc := ⟨.hbm, 112, rfl⟩
abbrev main_c_51 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_c_52 : Ref sig .tc := ⟨.hbm, 118, rfl⟩
abbrev main_v52 : Ref sig .tc := ⟨.hbm, 119, rfl⟩
abbrev main_c_53 : Ref sig .tc := ⟨.hbm, 120, rfl⟩
abbrev main_v53 : Ref sig .tc := ⟨.hbm, 121, rfl⟩
abbrev main_v54 : Ref sig .tc := ⟨.hbm, 122, rfl⟩
abbrev main_c_54 : Ref sig .tc := ⟨.hbm, 123, rfl⟩
abbrev main_c_55 : Ref sig .tc := ⟨.hbm, 124, rfl⟩
abbrev main_v55 : Ref sig .tc := ⟨.hbm, 125, rfl⟩
abbrev main_c_56 : Ref sig .tc := ⟨.hbm, 126, rfl⟩
abbrev main_c_57 : Ref sig .tc := ⟨.hbm, 127, rfl⟩
abbrev main_v56 : Ref sig .tc := ⟨.hbm, 128, rfl⟩
abbrev main_c_58 : Ref sig .tc := ⟨.hbm, 129, rfl⟩
abbrev main_v57 : Ref sig .tc := ⟨.hbm, 130, rfl⟩
abbrev main_c_59 : Ref sig .tc := ⟨.hbm, 131, rfl⟩
abbrev main_c_60 : Ref sig .tc := ⟨.hbm, 132, rfl⟩
abbrev main_v58 : Ref sig .tc := ⟨.hbm, 133, rfl⟩
abbrev main_c_61 : Ref sig .tc := ⟨.hbm, 134, rfl⟩
abbrev main_c_62 : Ref sig .tc := ⟨.hbm, 135, rfl⟩
abbrev main_v59 : Ref sig .tc := ⟨.hbm, 136, rfl⟩
abbrev main_c_63 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_c_64 : Ref sig .tc := ⟨.hbm, 142, rfl⟩
abbrev main_v64 : Ref sig .tc := ⟨.hbm, 143, rfl⟩
abbrev main_c_65 : Ref sig .tc := ⟨.hbm, 144, rfl⟩
abbrev main_v65 : Ref sig .tc := ⟨.hbm, 145, rfl⟩
abbrev main_v66 : Ref sig .tc := ⟨.hbm, 146, rfl⟩
abbrev main_c_66 : Ref sig .tc := ⟨.hbm, 147, rfl⟩
abbrev main_c_67 : Ref sig .tc := ⟨.hbm, 148, rfl⟩
abbrev main_v67 : Ref sig .tc := ⟨.hbm, 149, rfl⟩
abbrev main_c_68 : Ref sig .tc := ⟨.hbm, 150, rfl⟩
abbrev main_c_69 : Ref sig .tc := ⟨.hbm, 151, rfl⟩
abbrev main_v68 : Ref sig .tc := ⟨.hbm, 152, rfl⟩
abbrev main_c_70 : Ref sig .tc := ⟨.hbm, 153, rfl⟩
abbrev main_v69 : Ref sig .tc := ⟨.hbm, 154, rfl⟩
abbrev main_c_71 : Ref sig .tc := ⟨.hbm, 155, rfl⟩
abbrev main_c_72 : Ref sig .tc := ⟨.hbm, 156, rfl⟩
abbrev main_v70 : Ref sig .tc := ⟨.hbm, 157, rfl⟩
abbrev main_c_73 : Ref sig .tc := ⟨.hbm, 158, rfl⟩
abbrev main_c_74 : Ref sig .tc := ⟨.hbm, 159, rfl⟩
abbrev main_v71 : Ref sig .tc := ⟨.hbm, 160, rfl⟩
abbrev main_c_75 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_c_76 : Ref sig .tc := ⟨.hbm, 166, rfl⟩
abbrev main_v76 : Ref sig .tc := ⟨.hbm, 167, rfl⟩
abbrev main_c_77 : Ref sig .tc := ⟨.hbm, 168, rfl⟩
abbrev main_v77 : Ref sig .tc := ⟨.hbm, 169, rfl⟩
abbrev main_v78 : Ref sig .tc := ⟨.hbm, 170, rfl⟩
abbrev main_c_78 : Ref sig .tc := ⟨.hbm, 171, rfl⟩
abbrev main_c_79 : Ref sig .tc := ⟨.hbm, 172, rfl⟩
abbrev main_v79 : Ref sig .tc := ⟨.hbm, 173, rfl⟩
abbrev main_c_80 : Ref sig .tc := ⟨.hbm, 174, rfl⟩
abbrev main_c_81 : Ref sig .tc := ⟨.hbm, 175, rfl⟩
abbrev main_v80 : Ref sig .tc := ⟨.hbm, 176, rfl⟩
abbrev main_c_82 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_c_83 : Ref sig .tc := ⟨.hbm, 182, rfl⟩
abbrev main_v85 : Ref sig .tc := ⟨.hbm, 183, rfl⟩
abbrev main_c_84 : Ref sig .tc := ⟨.hbm, 184, rfl⟩
abbrev main_v86 : Ref sig .tc := ⟨.hbm, 185, rfl⟩
abbrev main_v87 : Ref sig .tc := ⟨.hbm, 186, rfl⟩
abbrev main_c_85 : Ref sig .tc := ⟨.hbm, 187, rfl⟩
abbrev main_c_86 : Ref sig .tc := ⟨.hbm, 188, rfl⟩
abbrev main_v88 : Ref sig .tc := ⟨.hbm, 189, rfl⟩
abbrev main_c_87 : Ref sig .tc := ⟨.hbm, 190, rfl⟩
abbrev main_c_88 : Ref sig .tc := ⟨.hbm, 191, rfl⟩
abbrev main_v89 : Ref sig .tc := ⟨.hbm, 192, rfl⟩
abbrev main_c_89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_cst : Ref sig .tc := ⟨.hbm, 204, rfl⟩
abbrev main_v100 : Ref sig .tc := ⟨.hbm, 205, rfl⟩
abbrev main_v101 : Ref sig .tc := ⟨.hbm, 206, rfl⟩
abbrev main_cst_90 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_v114 : Ref sig .tc := ⟨.hbm, 220, rfl⟩
abbrev main_cst_91 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_cst_92 : Ref sig .tc := ⟨.hbm, 226, rfl⟩
abbrev main_v119 : Ref sig .tc := ⟨.hbm, 227, rfl⟩
abbrev main_v120 : Ref sig .tc := ⟨.hbm, 228, rfl⟩
abbrev main_cst_93 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_cst_94 : Ref sig .tc := ⟨.hbm, 235, rfl⟩
abbrev main_v126 : Ref sig .tc := ⟨.hbm, 236, rfl⟩
abbrev main_v127 : Ref sig .tc := ⟨.hbm, 237, rfl⟩
abbrev main_cst_95 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_cst_96 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩

abbrev nD : Nat := 1
abbrev τ : Topo := Topo.v7x

variable {F : FTy → Type} [FloatOps F]
-- ==== Ffn.lean ====
abbrev S1 : Shape := ⟨1, ![1]⟩
abbrev S4x4096x1024 : Shape := ⟨3, ![4, 4096, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S4x1024 : Shape := ⟨2, ![4, 1024]⟩
abbrev S16384x1024 : Shape := ⟨2, ![16384, 1024]⟩
abbrev S4x1x5632 : Shape := ⟨3, ![4, 1, 5632]⟩
abbrev S4x1x1024 : Shape := ⟨3, ![4, 1, 1024]⟩
abbrev S32x8x5632 : Shape := ⟨3, ![32, 8, 5632]⟩
abbrev S512x1024 : Shape := ⟨2, ![512, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1x1x1024 : Shape := ⟨3, ![1, 1, 1024]⟩
abbrev S1x8x5632 : Shape := ⟨3, ![1, 8, 5632]⟩
abbrev S8x5632 : Shape := ⟨2, ![8, 5632]⟩
abbrev S512x2816 : Shape := ⟨2, ![512, 2816]⟩
abbrev S8x1 : Shape := ⟨2, ![8, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩
abbrev S8x256 : Shape := ⟨2, ![8, 256]⟩
abbrev S504x256 : Shape := ⟨2, ![504, 256]⟩
abbrev S1x8x256 : Shape := ⟨3, ![1, 8, 256]⟩
abbrev S1x1x256 : Shape := ⟨3, ![1, 1, 256]⟩
abbrev S2816x1024 : Shape := ⟨2, ![2816, 1024]⟩
abbrev S1x1024 : Shape := ⟨2, ![1, 1024]⟩
abbrev S512 : Shape := ⟨1, ![512]⟩
abbrev S512x1 : Shape := ⟨2, ![512, 1]⟩
abbrev S4x8x8x5632 : Shape := ⟨4, ![4, 8, 8, 5632]⟩
abbrev S4x1x2x5632 : Shape := ⟨4, ![4, 1, 2, 5632]⟩
abbrev S4x2x5632 : Shape := ⟨3, ![4, 2, 5632]⟩

abbrev nBuf : Space → Nat
  | .hbm => 18
  | .vmem => 14
  | .smem => 1
  | _ => 0

abbrev bufTy : (tb : Table) → Fin (tcTables nBuf tb) → BufTy
  | .hbm, ⟨0, _⟩ => ⟨S4x4096x1024, .f32⟩
  | .hbm, ⟨1, _⟩ => ⟨S4x1024x5632, .f32⟩
  | .hbm, ⟨2, _⟩ => ⟨S4x3x5632, .f32⟩
  | .hbm, ⟨3, _⟩ => ⟨S4x5632, .f32⟩
  | .hbm, ⟨4, _⟩ => ⟨S4x2816x1024, .f32⟩
  | .hbm, ⟨5, _⟩ => ⟨S4x1024, .f32⟩
  | .hbm, ⟨6, _⟩ => ⟨S4x1024, .f32⟩
  | .hbm, ⟨7, _⟩ => ⟨S16384x1024, .f32⟩
  | .hbm, ⟨8, _⟩ => ⟨S4x1024x5632, .bf16⟩
  | .hbm, ⟨9, _⟩ => ⟨S4x1x5632, .f32⟩
  | .hbm, ⟨10, _⟩ => ⟨S4x2816x1024, .bf16⟩
  | .hbm, ⟨11, _⟩ => ⟨S4x1x1024, .f32⟩
  | .hbm, ⟨12, _⟩ => ⟨S4x1x1024, .f32⟩
  | .hbm, ⟨13, _⟩ => ⟨S16384x1024, .f32⟩
  | .hbm, ⟨14, _⟩ => ⟨S32x8x5632, .f32⟩
  | .hbm, ⟨15, _⟩ => ⟨S4x8x8x5632, .f32⟩
  | .hbm, ⟨16, _⟩ => ⟨S4x1x2x5632, .f32⟩
  | .hbm, ⟨17, _⟩ => ⟨S4x2x5632, .f32⟩
  | .local _ .vmem, ⟨0, _⟩ => ⟨S512x1024, .f32⟩
  | .local _ .vmem, ⟨1, _⟩ => ⟨S512x1024, .f32⟩
  | .local _ .vmem, ⟨2, _⟩ => ⟨S1x1024x5632, .bf16⟩
  | .local _ .vmem, ⟨3, _⟩ => ⟨S1x3x5632, .f32⟩
  | .local _ .vmem, ⟨4, _⟩ => ⟨S1x1x5632, .f32⟩
  | .local _ .vmem, ⟨5, _⟩ => ⟨S1x2816x1024, .bf16⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S1x8x5632, .f32⟩
  | .local _ .vmem, ⟨11, _⟩ => ⟨S1x8x5632, .f32⟩
  | .local _ .vmem, ⟨12, _⟩ => ⟨S8x5632, .f32⟩
  | .local _ .vmem, ⟨13, _⟩ => ⟨S512x2816, .bf16⟩
  | .local _ .smem, ⟨0, _⟩ => ⟨S1, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRef.lean ====
abbrev S1 : Shape := ⟨1, ![1]⟩
abbrev S4x4096x1024 : Shape := ⟨3, ![4, 4096, 1024]⟩
abbrev S4x1024x5632 : Shape := ⟨3, ![4, 1024, 5632]⟩
abbrev S4x3x5632 : Shape := ⟨3, ![4, 3, 5632]⟩
abbrev S4x5632 : Shape := ⟨2, ![4, 5632]⟩
abbrev S4x2816x1024 : Shape := ⟨3, ![4, 2816, 1024]⟩
abbrev S4x1024 : Shape := ⟨2, ![4, 1024]⟩
abbrev S_ : Shape := ⟨0, ![]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S4x4096x5632 : Shape := ⟨3, ![4, 4096, 5632]⟩
abbrev S4x2x5632 : Shape := ⟨3, ![4, 2, 5632]⟩
abbrev S4x4098x5632 : Shape := ⟨3, ![4, 4098, 5632]⟩
abbrev S1x1x5632 : Shape := ⟨3, ![1, 1, 5632]⟩
abbrev S4x4096x2816 : Shape := ⟨3, ![4, 4096, 2816]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 206
  | .vmem => 0
  | .smem => 0
  | _ => 0

abbrev hbmTy0_0 (i : Nat) : BufTy := match i % 128 with
  | 0 => ⟨S1, .i32⟩
  | 1 => ⟨S4x4096x1024, .f32⟩
  | 2 => ⟨S4x1024x5632, .f32⟩
  | 3 => ⟨S4x3x5632, .f32⟩
  | 4 => ⟨S4x5632, .f32⟩
  | 5 => ⟨S4x2816x1024, .f32⟩
  | 6 => ⟨S4x1024, .f32⟩
  | 7 => ⟨S4x1024, .f32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x1024x5632, .f32⟩
  | 31 => ⟨S1024x5632, .f32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S1x3x5632, .f32⟩
  | 55 => ⟨S3x5632, .f32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S1x5632, .f32⟩
  | 71 => ⟨S5632, .f32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S1x2816x1024, .f32⟩
  | 95 => ⟨S2816x1024, .f32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S1x1024, .f32⟩
  | 111 => ⟨S1024, .f32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S1x1024, .f32⟩
  | 127 => ⟨S1024, .f32⟩
  | _ => ⟨S1, .i32⟩

abbrev hbmTy0_1 (i : Nat) : BufTy := match i % 128 with
  | 0 => ⟨S4x4096x5632, .f32⟩
  | 1 => ⟨S_, .f32⟩
  | 2 => ⟨S4x2x5632, .f32⟩
  | 3 => ⟨S4x4098x5632, .f32⟩
  | 4 => ⟨S4x4096x5632, .f32⟩
  | 5 => ⟨S1x5632, .f32⟩
  | 6 => ⟨S5632, .f32⟩
  | 7 => ⟨S1x1x5632, .f32⟩
  | 8 => ⟨S4x4096x5632, .f32⟩
  | 9 => ⟨S4x4096x5632, .f32⟩
  | 10 => ⟨S_, .f32⟩
  | 11 => ⟨S4x4096x5632, .f32⟩
  | 12 => ⟨S4x4096x5632, .f32⟩
  | 13 => ⟨S4x4096x5632, .f32⟩
  | 14 => ⟨S1x5632, .f32⟩
  | 15 => ⟨S5632, .f32⟩
  | 16 => ⟨S1x1x5632, .f32⟩
  | 17 => ⟨S4x4096x5632, .f32⟩
  | 18 => ⟨S4x4096x5632, .f32⟩
  | 19 => ⟨S4x4096x5632, .f32⟩
  | 20 => ⟨S4x4096x5632, .f32⟩
  | 21 => ⟨S1x5632, .f32⟩
  | 22 => ⟨S5632, .f32⟩
  | 23 => ⟨S1x1x5632, .f32⟩
  | 24 => ⟨S4x4096x5632, .f32⟩
  | 25 => ⟨S4x4096x5632, .f32⟩
  | 26 => ⟨S4x4096x5632, .f32⟩
  | 27 => ⟨S1x1x5632, .f32⟩
  | 28 => ⟨S4x4096x5632, .f32⟩
  | 29 => ⟨S4x4096x5632, .f32⟩
  | 30 => ⟨S4x4096x2816, .f32⟩
  | 31 => ⟨S4x4096x2816, .f32⟩
  | 32 => ⟨S4x4096x2816, .f32⟩
  | 33 => ⟨S4x4096x2816, .f32⟩
  | 34 => ⟨S_, .f32⟩
  | 35 => ⟨S4x4096x2816, .f32⟩
  | 36 => ⟨S4x4096x2816, .f32⟩
  | 37 => ⟨S_, .f32⟩
  | 38 => ⟨S4x4096x2816, .f32⟩
  | 39 => ⟨S4x4096x2816, .f32⟩
  | 40 => ⟨S4x4096x2816, .f32⟩
  | 41 => ⟨S4x4096x2816, .f32⟩
  | 42 => ⟨S4x4096x1024, .f32⟩
  | 43 => ⟨S_, .f32⟩
  | 44 => ⟨S4x4096x1024, .f32⟩
  | 45 => ⟨S4x4096x1024, .f32⟩
  | 46 => ⟨S4x4096x1024, .f32⟩
  | 47 => ⟨S_, .f32⟩
  | 48 => ⟨S4x4096, .f32⟩
  | 49 => ⟨S4x4096x1, .f32⟩
  | 50 => ⟨S_, .f32⟩
  | 51 => ⟨S4x4096x1, .f32⟩
  | 52 => ⟨S4x4096x1, .f32⟩
  | 53 => ⟨S4x4096x1024, .f32⟩
  | 54 => ⟨S4x4096x1024, .f32⟩
  | 55 => ⟨S4x4096x1024, .f32⟩
  | 56 => ⟨S_, .f32⟩
  | 57 => ⟨S4x4096, .f32⟩
  | 58 => ⟨S4x4096x1, .f32⟩
  | 59 => ⟨S_, .f32⟩
  | 60 => ⟨S4x4096x1, .f32⟩
  | 61 => ⟨S4x4096x1, .f32⟩
  | 62 => ⟨S4x4096x1024, .f32⟩
  | 63 => ⟨S4x4096x1024, .f32⟩
  | 64 => ⟨S_, .f32⟩
  | 65 => ⟨S4x4096x1, .f32⟩
  | 66 => ⟨S4x4096x1, .f32⟩
  | 67 => ⟨S4x4096x1, .f32⟩
  | 68 => ⟨S4x4096x1024, .f32⟩
  | 69 => ⟨S4x4096x1024, .f32⟩
  | 70 => ⟨S1x1x1024, .f32⟩
  | 71 => ⟨S4x4096x1024, .f32⟩
  | 72 => ⟨S4x4096x1024, .f32⟩
  | 73 => ⟨S1x1x1024, .f32⟩
  | 74 => ⟨S4x4096x1024, .f32⟩
  | 75 => ⟨S4x4096x1024, .f32⟩
  | 76 => ⟨S16384x1024, .f32⟩
  | 77 => ⟨S4x2x5632, .f32⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_c_2 : Ref sig .tc := ⟨.hbm, 15, rfl⟩
abbrev main_v4 : Ref sig .tc := ⟨.hbm, 16, rfl⟩
abbrev main_c_3 : Ref sig .tc := ⟨.hbm, 17, rfl⟩
abbrev main_c_4 : Ref sig .tc := ⟨.hbm, 18, rfl⟩
abbrev main_v5 : Ref sig .tc := ⟨.hbm, 19, rfl⟩
abbrev main_c_5 : Ref sig .tc := ⟨.hbm, 20, rfl⟩
abbrev main_v6 : Ref sig .tc := ⟨.hbm, 21, rfl⟩
abbrev main_c_6 : Ref sig .tc := ⟨.hbm, 22, rfl⟩
abbrev main_c_7 : Ref sig .tc := ⟨.hbm, 23, rfl⟩
abbrev main_v7 : Ref sig .tc := ⟨.hbm, 24, rfl⟩
abbrev main_c_8 : Ref sig .tc := ⟨.hbm, 25, rfl⟩
abbrev main_c_9 : Ref sig .tc := ⟨.hbm, 26, rfl⟩
abbrev main_v8 : Ref sig .tc := ⟨.hbm, 27, rfl⟩
abbrev main_c_10 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_11 : Ref sig .tc := ⟨.hbm, 33, rfl⟩
abbrev main_v13 : Ref sig .tc := ⟨.hbm, 34, rfl⟩
abbrev main_c_12 : Ref sig .tc := ⟨.hbm, 35, rfl⟩
abbrev main_v14 : Ref sig .tc := ⟨.hbm, 36, rfl⟩
abbrev main_v15 : Ref sig .tc := ⟨.hbm, 37, rfl⟩
abbrev main_c_13 : Ref sig .tc := ⟨.hbm, 38, rfl⟩
abbrev main_c_14 : Ref sig .tc := ⟨.hbm, 39, rfl⟩
abbrev main_v16 : Ref sig .tc := ⟨.hbm, 40, rfl⟩
abbrev main_c_15 : Ref sig .tc := ⟨.hbm, 41, rfl⟩
abbrev main_c_16 : Ref sig .tc := ⟨.hbm, 42, rfl⟩
abbrev main_v17 : Ref sig .tc := ⟨.hbm, 43, rfl⟩
abbrev main_c_17 : Ref sig .tc := ⟨.hbm, 44, rfl⟩
abbrev main_v18 : Ref sig .tc := ⟨.hbm, 45, rfl⟩
abbrev main_c_18 : Ref sig .tc := ⟨.hbm, 46, rfl⟩
abbrev main_c_19 : Ref sig .tc := ⟨.hbm, 47, rfl⟩
abbrev main_v19 : Ref sig .tc := ⟨.hbm, 48, rfl⟩
abbrev main_c_20 : Ref sig .tc := ⟨.hbm, 49, rfl⟩
abbrev main_c_21 : Ref sig .tc := ⟨.hbm, 50, rfl⟩
abbrev main_v20 : Ref sig .tc := ⟨.hbm, 51, rfl⟩
abbrev main_c_22 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_23 : Ref sig .tc := ⟨.hbm, 57, rfl⟩
abbrev main_v25 : Ref sig .tc := ⟨.hbm, 58, rfl⟩
abbrev main_c_24 : Ref sig .tc := ⟨.hbm, 59, rfl⟩
abbrev main_v26 : Ref sig .tc := ⟨.hbm, 60, rfl⟩
abbrev main_v27 : Ref sig .tc := ⟨.hbm, 61, rfl⟩
abbrev main_c_25 : Ref sig .tc := ⟨.hbm, 62, rfl⟩
abbrev main_c_26 : Ref sig .tc := ⟨.hbm, 63, rfl⟩
abbrev main_v28 : Ref sig .tc := ⟨.hbm, 64, rfl⟩
abbrev main_c_27 : Ref sig .tc := ⟨.hbm, 65, rfl⟩
abbrev main_c_28 : Ref sig .tc := ⟨.hbm, 66, rfl⟩
abbrev main_v29 : Ref sig .tc := ⟨.hbm, 67, rfl⟩
abbrev main_c_29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_c_30 : Ref sig .tc := ⟨.hbm, 73, rfl⟩
abbrev main_v34 : Ref sig .tc := ⟨.hbm, 74, rfl⟩
abbrev main_c_31 : Ref sig .tc := ⟨.hbm, 75, rfl⟩
abbrev main_v35 : Ref sig .tc := ⟨.hbm, 76, rfl⟩
abbrev main_v36 : Ref sig .tc := ⟨.hbm, 77, rfl⟩
abbrev main_c_32 : Ref sig .tc := ⟨.hbm, 78, rfl⟩
abbrev main_c_33 : Ref sig .tc := ⟨.hbm, 79, rfl⟩
abbrev main_v37 : Ref sig .tc := ⟨.hbm, 80, rfl⟩
abbrev main_c_34 : Ref sig .tc := ⟨.hbm, 81, rfl⟩
abbrev main_c_35 : Ref sig .tc := ⟨.hbm, 82, rfl⟩
abbrev main_v38 : Ref sig .tc := ⟨.hbm, 83, rfl⟩
abbrev main_c_36 : Ref sig .tc := ⟨.hbm, 84, rfl⟩
abbrev main_v39 : Ref sig .tc := ⟨.hbm, 85, rfl⟩
abbrev main_c_37 : Ref sig .tc := ⟨.hbm, 86, rfl⟩
abbrev main_c_38 : Ref sig .tc := ⟨.hbm, 87, rfl⟩
abbrev main_v40 : Ref sig .tc := ⟨.hbm, 88, rfl⟩
abbrev main_c_39 : Ref sig .tc := ⟨.hbm, 89, rfl⟩
abbrev main_c_40 : Ref sig .tc := ⟨.hbm, 90, rfl⟩
abbrev main_v41 : Ref sig .tc := ⟨.hbm, 91, rfl⟩
abbrev main_c_41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_c_42 : Ref sig .tc := ⟨.hbm, 97, rfl⟩
abbrev main_v46 : Ref sig .tc := ⟨.hbm, 98, rfl⟩
abbrev main_c_43 : Ref sig .tc := ⟨.hbm, 99, rfl⟩
abbrev main_v47 : Ref sig .tc := ⟨.hbm, 100, rfl⟩
abbrev main_v48 : Ref sig .tc := ⟨.hbm, 101, rfl⟩
abbrev main_c_44 : Ref sig .tc := ⟨.hbm, 102, rfl⟩
abbrev main_c_45 : Ref sig .tc := ⟨.hbm, 103, rfl⟩
abbrev main_v49 : Ref sig .tc := ⟨.hbm, 104, rfl⟩
abbrev main_c_46 : Ref sig .tc := ⟨.hbm, 105, rfl⟩
abbrev main_c_47 : Ref sig .tc := ⟨.hbm, 106, rfl⟩
abbrev main_v50 : Ref sig .tc := ⟨.hbm, 107, rfl⟩
abbrev main_c_48 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_c_49 : Ref sig .tc := ⟨.hbm, 113, rfl⟩
abbrev main_v55 : Ref sig .tc := ⟨.hbm, 114, rfl⟩
abbrev main_c_50 : Ref sig .tc := ⟨.hbm, 115, rfl⟩
abbrev main_v56 : Ref sig .tc := ⟨.hbm, 116, rfl⟩
abbrev main_v57 : Ref sig .tc := ⟨.hbm, 117, rfl⟩
abbrev main_c_51 : Ref sig .tc := ⟨.hbm, 118, rfl⟩
abbrev main_c_52 : Ref sig .tc := ⟨.hbm, 119, rfl⟩
abbrev main_v58 : Ref sig .tc := ⟨.hbm, 120, rfl⟩
abbrev main_c_53 : Ref sig .tc := ⟨.hbm, 121, rfl⟩
abbrev main_c_54 : Ref sig .tc := ⟨.hbm, 122, rfl⟩
abbrev main_v59 : Ref sig .tc := ⟨.hbm, 123, rfl⟩
abbrev main_c_55 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_cst : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_56 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_call0_v0 : Ref sig .tc := ⟨.hbm, 160, rfl⟩
abbrev main_call0_v1 : Ref sig .tc := ⟨.hbm, 161, rfl⟩
abbrev main_call0_cst : Ref sig .tc := ⟨.hbm, 162, rfl⟩
abbrev main_call0_v2 : Ref sig .tc := ⟨.hbm, 163, rfl⟩
abbrev main_call0_v3 : Ref sig .tc := ⟨.hbm, 164, rfl⟩
abbrev main_call0_cst_0 : Ref sig .tc := ⟨.hbm, 165, rfl⟩
abbrev main_call0_v4 : Ref sig .tc := ⟨.hbm, 166, rfl⟩
abbrev main_call0_v5 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_cst_57 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_58 : Ref sig .tc := ⟨.hbm, 175, rfl⟩
abbrev main_v99 : Ref sig .tc := ⟨.hbm, 176, rfl⟩
abbrev main_v100 : Ref sig .tc := ⟨.hbm, 177, rfl⟩
abbrev main_cst_59 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_60 : Ref sig .tc := ⟨.hbm, 184, rfl⟩
abbrev main_v106 : Ref sig .tc := ⟨.hbm, 185, rfl⟩
abbrev main_v107 : Ref sig .tc := ⟨.hbm, 186, rfl⟩
abbrev main_cst_61 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_cst_62 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩

abbrev nD : Nat := 1
abbrev τ : Topo := Topo.v7x

variable {F : FTy → Type} [FloatOps F]
-- ==== Proof.Online.lean ====
/-
  The online softmax over the extended reals: a running maximum and sums weighted by powers of two relative to it, taken
  block by block, are the plain weighted sums of all the keys so far; and the plain softmax's own quotient is the same
  quotient. Scores are real or `⊥` (a masked one, of weight zero).
-/
module

public import Idealize.ShloMosaic.PureOps.Ideal
public import Idealize.ShloMosaic.PureOps.Ideal.Laws

@[expose] public section

noncomputable section

namespace Cert.Online

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is the real sum. -/
theorem coe_dot {ι : Type*} [Fintype ι] (f g : ι → ℝ) : ∑ i, (f i : EReal) * (g i : EReal) = ((∑ i, f i * g i : ℝ) : EReal) := by
  rw [coe_sum]; simp only [EReal.coe_mul]

/-- The extended score `S` is real and `w` is `b` to it, or it is masked and `w` is zero. -/
def Weighs (b : ℝ) (S : EReal) (w : ℝ) : Prop := (S = ⊥ ∧ w = 0) ∨ ∃ x : ℝ, S = x ∧ w = b ^ x

/-- The maximum of scores not all masked is real. -/
theorem max_real {n : ℕ} {b : ℝ} {S : Fin n → EReal} {w : Fin n → ℝ} (hS : ∀ i, Weighs b (S i) (w i)) {m : EReal}
    (hm : m = ⊥ ∨ ∃ M : ℝ, m = M) (hne : ∃ i, S i ≠ ⊥) : ∃ M : ℝ, max m (Finset.univ.fold max ⊥ S) = M := by
  have hf : Finset.univ.fold max ⊥ S = Finset.univ.sup S := rfl
  rw [hf]
  have hr : ∀ x : EReal, x = ⊥ ∨ (∃ M : ℝ, x = M) → x ≠ ⊤ := by
    rintro x (h | ⟨M, h⟩) <;> rw [h] <;> simp
  have h1 : max m (Finset.univ.sup S) ≠ ⊤ := by
    have h2 : Finset.univ.sup S < ⊤ := by
      rw [Finset.sup_lt_iff (by simp)]
      intro i _
      refine lt_top_iff_ne_top.mpr (hr _ ?_)
      rcases hS i with h | ⟨x, h, _⟩
      · exact Or.inl h.1
      · exact Or.inr ⟨x, h⟩
    exact (max_lt (lt_top_iff_ne_top.mpr (hr m hm)) h2).ne
  have h2 : max m (Finset.univ.sup S) ≠ ⊥ := by
    obtain ⟨i, hi⟩ := hne
    have := le_trans (Finset.le_sup (f := S) (Finset.mem_univ i)) (le_max_right m _)
    intro h
    rw [h] at this
    exact hi (le_bot_iff.mp this)
  exact ⟨_, (EReal.coe_toReal h1 h2).symm⟩

/-- The state of a column's running pair: `A r` is the plain weighted sum so far of row `r`, the pair's sum the same
    relative to the running maximum. -/
def Inv {ι : Type*} (m : EReal) (a : ι → EReal) (A : ι → ℝ) : Prop :=
  (m = ⊥ ∧ ∀ r, a r = 0 ∧ A r = 0) ∨ ∃ M : ℝ, m = M ∧ ∀ r, a r = (((2 : ℝ) ^ (-M) * A r : ℝ) : EReal)

theorem weigh_sub {b : ℝ} (hb : 0 < b) (e : EReal → EReal) (hbot : e ⊥ = 0) (he : ∀ x : ℝ, e x = ((b ^ x : ℝ) : EReal))
    {S : EReal} {w : ℝ} (h : Weighs b S w) (M : ℝ) : e (S - M) = ((b ^ (-M) * w : ℝ) : EReal) := by
  rcases h with ⟨rfl, rfl⟩ | ⟨x, rfl, rfl⟩
  · rw [show (⊥ : EReal) - (M : EReal) = ⊥ from rfl, hbot]; simp
  · rw [← EReal.coe_sub, he, ← Real.rpow_add hb]
    congr 2; ring

theorem exp2_real (x : ℝ) : Ideal.exp2 x = (((2 : ℝ) ^ x : ℝ) : EReal) := rfl

/-- One block of keys: the new maximum is real and the rescaled sums plus the block's own are the plain sums of all the
    keys so far, relative to it. -/
theorem Inv.step {ι : Type*} {n : ℕ} {m : EReal} {a : ι → EReal} {A : ι → ℝ} (h : Inv m a A) {S : Fin n → EReal}
    {w : Fin n → ℝ} (hS : ∀ i, Weighs 2 (S i) (w i)) (hne : ∃ i, S i ≠ ⊥) (v : ι → Fin n → ℝ) {m' : EReal}
    (hm' : m' = max m (Finset.univ.fold max ⊥ S)) :
    Inv m' (fun r => Ideal.exp2 (m - m') * a r + ∑ i, (v r i : EReal) * Ideal.exp2 (S i - m'))
      (fun r => A r + ∑ i, w i * v r i) := by
  obtain ⟨M, hM⟩ := max_real hS (m := m) (by rcases h with h | ⟨M, h, _⟩; exacts [Or.inl h.1, Or.inr ⟨M, h⟩]) hne
  rw [hM] at hm'
  subst hm'
  refine Or.inr ⟨M, rfl, fun r => ?_⟩
  have h1 : Ideal.exp2 (m - M) * a r = (((2 : ℝ) ^ (-M) * A r : ℝ) : EReal) := by
    rcases h with ⟨hm, h⟩ | ⟨N, hm, h⟩
    · rw [(h r).1, (h r).2]; simp
    · rw [hm, h r, ← EReal.coe_sub, exp2_real, ← EReal.coe_mul, ← mul_assoc, ← Real.rpow_add (by norm_num)]
      congr 3; ring
  have h2 : ∀ i, (v r i : EReal) * Ideal.exp2 (S i - M) = (((2 : ℝ) ^ (-M) * (w i * v r i) : ℝ) : EReal) := fun i => by
    rw [weigh_sub (by norm_num) Ideal.exp2 rfl exp2_real (hS i) M, ← EReal.coe_mul]
    congr 1; ring
  beta_reduce
  rw [h1, Finset.sum_congr rfl (fun i _ => h2 i), ← coe_sum, ← EReal.coe_add, ← Finset.mul_sum, ← mul_add]

/-- The quotient of two of the sums does not see the maximum. -/
theorem Inv.quot {ι : Type*} {m : EReal} {a : ι → EReal} {A : ι → ℝ} (h : Inv m a A) (r d : ι) (hd : A d ≠ 0) :
    Ideal.div (a r) (a d) = ((A r / A d : ℝ) : EReal) := by
  rcases h with ⟨_, h⟩ | ⟨M, _, h⟩
  · exact absurd (h d).2 hd
  · have h2 : (2 : ℝ) ^ (-M) ≠ 0 := (Real.rpow_pos_of_pos (by norm_num) _).ne'
    rw [h r, h d, Ideal.div_coe (mul_ne_zero h2 hd), ← EReal.coe_mul]
    congr 1
    field_simp

theorem exp_real (x : ℝ) : Ideal.exp x = ((Real.exp 1 ^ x : ℝ) : EReal) := by
  rw [Ideal.exp_coe, Real.exp_one_rpow]

/-- The plain softmax's weighted sum: with each weight divided by the sum of the weights before the values are summed. -/
theorem softmax_sum {n : ℕ} {S : Fin n → EReal} {w : Fin n → ℝ} (hS : ∀ i, Weighs (Real.exp 1) (S i) (w i))
    (hne : ∃ i, S i ≠ ⊥) (v : Fin n → ℝ) {m : EReal} (hm : m = max ⊥ (Finset.univ.fold max ⊥ S)) (hw : ∑ i, w i ≠ 0) :
    ∑ i, (v i : EReal) * Ideal.div (Ideal.exp (S i - m)) (0 + ∑ k, Ideal.exp (S k - m))
      = (((∑ i, w i * v i) / ∑ i, w i : ℝ) : EReal) := by
  obtain ⟨M, hM⟩ := max_real hS (m := ⊥) (Or.inl rfl) hne
  rw [hM] at hm
  subst hm
  have he : ∀ i, Ideal.exp (S i - M) = ((Real.exp 1 ^ (-M) * w i : ℝ) : EReal) := fun i =>
    weigh_sub (Real.exp_pos 1) Ideal.exp rfl exp_real (hS i) M
  have h2 : Real.exp 1 ^ (-M) ≠ 0 := (Real.rpow_pos_of_pos (Real.exp_pos 1) _).ne'
  have hs : ∑ k, Ideal.exp (S k - M) = ((Real.exp 1 ^ (-M) * ∑ i, w i : ℝ) : EReal) := by
    rw [Finset.sum_congr rfl (fun i _ => he i), ← coe_sum, ← Finset.mul_sum]
  rw [zero_add, hs, Finset.sum_congr rfl (fun i _ => by
    rw [he i, Ideal.div_coe (mul_ne_zero h2 hw), ← EReal.coe_mul, ← EReal.coe_mul])]
  rw [← coe_sum]
  congr 1
  rw [Finset.sum_div]
  refine Finset.sum_congr rfl fun i _ => ?_
  field_simp

end Cert.Online
-- ==== Proof.Body.lean ====
/-
  What one grid point of the attention kernel leaves in its output block, as a function of the four input blocks: the
  running (maximum, weighted sum) pair of the key blocks before the diagonal one, then the diagonal block, then the
  quotient. No arithmetic is done here: the payloads of the kernel's stores are only put together.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F] [Named F]

theorem zero2 : (![0, 0] : Fin 2 → ℕ) = fun _ => 0 := funext fun a => by fin_cases a <;> rfl

/-- The whole buffers the body is run on. -/
structure Bufs where
  (arg2 : Memref sig .tc .vmem S512x1024 .bf16) (harg2 : arg2.IsWhole)
  (arg3 : Memref sig .tc .vmem S512x256 .bf16) (harg3 : arg3.IsWhole)
  (arg4 : Memref sig .tc .vmem S1x4096x160 .bf16) (harg4 : arg4.IsWhole)
  (arg5 : Memref sig .tc .vmem S1x144x4096 .bf16) (harg5 : arg5.IsWhole)
  (arg6 : Memref sig .tc .vmem S512x1024 .bf16) (harg6 : arg6.IsWhole)
  (arg7 : Memref sig .tc .vmem S160x4096 .bf16) (harg7 : arg7.IsWhole)
  (arg8 : Memref sig .tc .vmem S1x4096 .f32) (harg8 : arg8.IsWhole)
  (arg9 : Memref sig .tc .vmem S144x4096 .f32) (harg9 : arg9.IsWhole)

/-! ## How often the loops run -/

/-- The loop over the key blocks before the diagonal one runs once per query block before this one. -/
theorem trips1 (i : grid0.Coords) : Scf.trips (k0_t1_loop i).lb (k0_t1_loop i).ub (k0_t1_loop i).st = (i 1).val := by
  have h : ∀ n : Fin 8, ∀ i : grid0.Coords, (i 1).val = n.val →
      Scf.trips (k0_t1_loop i).lb (k0_t1_loop i).ub (k0_t1_loop i).st = n.val := by
    intro n i hi; unfold k0_t1_loop; dsimp only; rw [hi]; clear hi; revert n; decide +kernel
  exact h ⟨(i 1).val, (i 1).isLt⟩ i rfl

/-- The three remainder loops run no trip. -/
theorem trips2 (i : grid0.Coords) : Scf.trips (k0_t2_loop i).lb (k0_t2_loop i).ub (k0_t2_loop i).st = 0 := by
  have h : ∀ n : Fin 8, ∀ i : grid0.Coords, (i 1).val = n.val →
      Scf.trips (k0_t2_loop i).lb (k0_t2_loop i).ub (k0_t2_loop i).st = 0 := by
    intro n i hi; unfold k0_t2_loop; dsimp only; rw [hi]; clear hi; revert n; decide +kernel
  exact h ⟨(i 1).val, (i 1).isLt⟩ i rfl

theorem trips3 (i : grid0.Coords) : Scf.trips (k0_t3_loop i).lb (k0_t3_loop i).ub (k0_t3_loop i).st = 0 := by
  have h : ∀ n : Fin 8, ∀ i : grid0.Coords, (i 1).val = n.val →
      Scf.trips (k0_t3_loop i).lb (k0_t3_loop i).ub (k0_t3_loop i).st = 0 := by
    intro n i hi; unfold k0_t3_loop; dsimp only; rw [hi]; clear hi; revert n; decide +kernel
  exact h ⟨(i 1).val, (i 1).isLt⟩ i rfl

theorem trips4 (i : grid0.Coords) : Scf.trips (k0_t4_loop i).lb (k0_t4_loop i).ub (k0_t4_loop i).st = 0 := by
  have h : ∀ n : Fin 8, ∀ i : grid0.Coords, (i 1).val = n.val →
      Scf.trips (k0_t4_loop i).lb (k0_t4_loop i).ub (k0_t4_loop i).st = 0 := by
    intro n i hi; unfold k0_t4_loop; dsimp only; rw [hi]; clear hi; revert n; decide +kernel
  exact h ⟨(i 1).val, (i 1).isLt⟩ i rfl

/-- Trip `k` of the loop reads the keys from row `512 k`, -/
theorem off1 (i : grid0.Coords) (k : Fin (k0_t1_loop i).trips) : k0_off1 i k = ![0, 512 * k.val, 0] := by
  have hk : k.val < 8 := lt_of_lt_of_le k.isLt (by have := trips1 i; have := (i 1).isLt; show Scf.trips _ _ _ ≤ 8; rw [trips1]; exact le_of_lt (i 1).isLt)
  have h : ∀ n : Fin 8, (Scalar.indexCast (Scalar.muli (Scf.iv (0#32) (1#32) n.val) 512#32) : BitVec 32).toNat = 512 * n.val := by decide +kernel
  unfold k0_off1; dsimp only; rw [h ⟨k.val, hk⟩]

/-- and the values from column `512 k`; -/
theorem off2 (i : grid0.Coords) (k : Fin (k0_t1_loop i).trips) : k0_off2 i k = ![0, 0, 512 * k.val] := by
  have hk : k.val < 8 := lt_of_lt_of_le k.isLt (by show Scf.trips _ _ _ ≤ 8; rw [trips1]; exact le_of_lt (i 1).isLt)
  have h : ∀ n : Fin 8, (Scalar.indexCast (Scalar.muli (Scf.iv (0#32) (1#32) n.val) 512#32) : BitVec 32).toNat = 512 * n.val := by decide +kernel
  unfold k0_off2; dsimp only; rw [h ⟨k.val, hk⟩]

/-- the diagonal block is the query block's own number: its keys, -/
theorem off9 (i : grid0.Coords) : k0_off9 i = ![0, 512 * (i 1).val, 0] := by
  have h : ∀ n : Fin 8, (Scalar.indexCast (Scalar.muli (BitVec.ofNat 32 n.val) 512#32) : BitVec 32).toNat = 512 * n.val := by decide +kernel
  unfold k0_off9; dsimp only; rw [h ⟨(i 1).val, (i 1).isLt⟩]

/-- its values. -/
theorem off10 (i : grid0.Coords) : k0_off10 i = ![0, 0, 512 * (i 1).val] := by
  have h : ∀ n : Fin 8, (Scalar.indexCast (Scalar.muli (BitVec.ofNat 32 n.val) 512#32) : BitVec 32).toNat = 512 * n.val := by decide +kernel
  unfold k0_off10; dsimp only; rw [h ⟨(i 1).val, (i 1).isLt⟩]

/-! ## The running pair -/

/-- The 512 keys from row `512 k` of the keys; -/
def keysAt (x2 : Vec F S1x4096x160 .bf16) (k : ℕ) (h : k < 8) : Vec F S1x512x160 .bf16 :=
  View.ld x2 (Rect.unit ![0, 512 * k, 0] S1x512x160.size (by
    intro a; fin_cases a <;> simp [S1x512x160, S1x4096x160] <;> omega))

/-- the 512 values from column `512 k` of the transposed values. -/
def valsAt (x3 : Vec F S1x144x4096 .bf16) (k : ℕ) (h : k < 8) : Vec F S1x144x512 .bf16 :=
  View.ld x3 (Rect.unit ![0, 0, 512 * k] S1x144x512.size (by
    intro a; fin_cases a <;> simp [S1x144x512, S1x144x4096] <;> omega))

/-- The running maxima and the running weighted sums. -/
abbrev St (F : FTy → Type) [FloatOps F] := Vec F S1x4096 .f32 × Vec F S144x4096 .f32

/-- The pair after the first `k` key blocks, for the queries `q`. -/
def run (q : Vec F S160x4096 .bf16) (x2 : Vec F S1x4096x160 .bf16) (x3 : Vec F S1x144x4096 .bf16) : (k : ℕ) → k ≤ 8 → St F
  | 0, _ => (k0_pay34, k0_pay35)
  | k + 1, h => let s := run q x2 x3 k (by omega)
    (k0_pay39 (keysAt x2 k h) q s.1, k0_pay38 (keysAt x2 k h) q s.1 s.2 (valsAt x3 k h))

section Read

variable (c : Dev nD) (i : grid0.Coords) (B : Bufs)

/-- What trip `k` writes to the maxima: one store over the whole buffer; -/
theorem trip_max (a : BitVec 32) (X4 : BufTy.Contents (Elt F) B.arg4.view.ty) (X5 : BufTy.Contents (Elt F) B.arg5.view.ty)
    (X7 : BufTy.Contents (Elt F) B.arg7.view.ty) (k : Fin (k0_t1_loop i).trips)
    (f8 : BufTy.Contents (Elt F) B.arg8.view.ty) (f9 : BufTy.Contents (Elt F) B.arg9.view.ty) :
    (trip_k0_t1 (F := F) Variants.none c none i B.arg2 B.harg2 B.arg3 B.harg3 B.arg4 B.harg4 B.arg5 B.harg5 B.arg6 B.harg6 B.arg7 B.harg7 B.arg8 B.harg8 B.arg9 B.harg9 a X4 X5 X7 k).1 f8 f9
      = [⟨Rect.unit ![0, 0] S1x4096.size inb_S1x4096_S1x4096_0_0,
          k0_pay39 (View.readAt (Elt F) B.arg4.view (Rect.unit (s := S1x4096x160) (k0_off1 i k) S1x512x160.size (k0_off1_inb i k)).toLoadRect X4)
            (View.readAt (Elt F) B.arg7.view (Rect.unit ![0, 0] S160x4096.size inb_S160x4096_S160x4096_0_0).toLoadRect X7)
            (View.readAt (Elt F) B.arg8.view (Rect.unit ![0, 0] S1x4096.size inb_S1x4096_S1x4096_0_0).toLoadRect f8)⟩] := by
  unfold trip_k0_t1
  rfl

/-- and to the sums. -/
theorem trip_sum (a : BitVec 32) (X4 : BufTy.Contents (Elt F) B.arg4.view.ty) (X5 : BufTy.Contents (Elt F) B.arg5.view.ty)
    (X7 : BufTy.Contents (Elt F) B.arg7.view.ty) (k : Fin (k0_t1_loop i).trips)
    (f8 : BufTy.Contents (Elt F) B.arg8.view.ty) (f9 : BufTy.Contents (Elt F) B.arg9.view.ty) :
    (trip_k0_t1 (F := F) Variants.none c none i B.arg2 B.harg2 B.arg3 B.harg3 B.arg4 B.harg4 B.arg5 B.harg5 B.arg6 B.harg6 B.arg7 B.harg7 B.arg8 B.harg8 B.arg9 B.harg9 a X4 X5 X7 k).2.1 f8 f9
      = [⟨Rect.unit ![0, 0] S144x4096.size inb_S144x4096_S144x4096_0_0,
          k0_pay38 (View.readAt (Elt F) B.arg4.view (Rect.unit (s := S1x4096x160) (k0_off1 i k) S1x512x160.size (k0_off1_inb i k)).toLoadRect X4)
            (View.readAt (Elt F) B.arg7.view (Rect.unit ![0, 0] S160x4096.size inb_S160x4096_S160x4096_0_0).toLoadRect X7)
            (View.readAt (Elt F) B.arg8.view (Rect.unit ![0, 0] S1x4096.size inb_S1x4096_S1x4096_0_0).toLoadRect f8)
            (View.readAt (Elt F) B.arg9.view (Rect.unit ![0, 0] S144x4096.size inb_S144x4096_S144x4096_0_0).toLoadRect f9)
            (View.readAt (Elt F) B.arg5.view (Rect.unit (s := S1x144x4096) (k0_off2 i k) S1x144x512.size (k0_off2_inb i k)).toLoadRect X5)⟩] := by
  unfold trip_k0_t1
  rfl

/-- A load of a whole buffer that holds writes over its initial contents reads their canonical contents. -/
theorem load_whole {S : Shape} {e : EltTy} (M : Memref sig .tc .vmem S e) {off : Fin S.rank → ℕ} (h0 : off = fun _ => 0)
    (inb : ∀ a, off a + S.size a ≤ S.size a) (L : List (View.Piece (Elt F) S e)) :
    View.readAt (Elt F) M.view (Rect.unit off S.size inb).toLoadRect (M.view.writes (Elt F) M.view.junk L) = View.canon L := by
  rw [View.readAt_eq_ld, View.read_writes_junk_eq_canon, View.ld_unit_zero h0]

theorem keysAt_eq (x2 : Vec F S1x4096x160 .bf16) {off : Fin 3 → ℕ} (k : ℕ) (h : k < 8) (e : off = ![0, 512 * k, 0]) (inb) :
    View.readAt (Elt F) B.arg4.view (Rect.unit (s := S1x4096x160) off S1x512x160.size inb).toLoadRect (B.harg4.unread x2) = keysAt x2 k h := by
  subst e; rw [View.readAt_eq_ld, B.harg4.read_unread]; rfl

theorem valsAt_eq (x3 : Vec F S1x144x4096 .bf16) {off : Fin 3 → ℕ} (k : ℕ) (h : k < 8) (e : off = ![0, 0, 512 * k]) (inb) :
    View.readAt (Elt F) B.arg5.view (Rect.unit (s := S1x144x4096) off S1x144x512.size inb).toLoadRect (B.harg5.unread x3) = valsAt x3 k h := by
  subst e; rw [View.readAt_eq_ld, B.harg5.read_unread]; rfl

/-- The stores of the trips before `k`, over the initial ones, leave the running pair after `k` key blocks. -/
theorem loop_canon (a : BitVec 32) (x2 : Vec F S1x4096x160 .bf16) (x3 : Vec F S1x144x4096 .bf16)
    (L7 : List (View.Piece (Elt F) S160x4096 .bf16)) (L8 : List (View.Piece (Elt F) S1x4096 .f32))
    (L9 : List (View.Piece (Elt F) S144x4096 .f32)) (h8 : View.canon L8 = k0_pay34) (h9 : View.canon L9 = k0_pay35) :
    ∀ (k : ℕ) (hk : k ≤ (k0_t1_loop i).trips) (hk8 : k ≤ 8),
    (View.canon ((pb_k0_t1 (F := F) Variants.none c none i B.arg2 B.harg2 B.arg3 B.harg3 B.arg4 B.harg4 B.arg5 B.harg5 B.arg6 B.harg6 B.arg7 B.harg7 B.arg8 B.harg8 B.arg9 B.harg9 a (B.harg4.unread x2) (B.harg5.unread x3)
        (B.arg7.view.writes (Elt F) B.arg7.view.junk L7) (B.arg8.view.writes (Elt F) B.arg8.view.junk L8)
        (B.arg9.view.writes (Elt F) B.arg9.view.junk L9) k).1 ++ L8),
      View.canon ((pb_k0_t1 (F := F) Variants.none c none i B.arg2 B.harg2 B.arg3 B.harg3 B.arg4 B.harg4 B.arg5 B.harg5 B.arg6 B.harg6 B.arg7 B.harg7 B.arg8 B.harg8 B.arg9 B.harg9 a (B.harg4.unread x2) (B.harg5.unread x3)
        (B.arg7.view.writes (Elt F) B.arg7.view.junk L7) (B.arg8.view.writes (Elt F) B.arg8.view.junk L8)
        (B.arg9.view.writes (Elt F) B.arg9.view.junk L9) k).2 ++ L9))
      = run (View.canon L7) x2 x3 k hk8 := by
  intro k
  induction k with
  | zero => intro _ _; exact Prod.ext h8 h9
  | succ k ih =>
    intro hk hk8
    have e := ih (by omega) (by omega)
    have e8 := congrArg Prod.fst e
    have e9 := congrArg Prod.snd e
    dsimp only at e8 e9
    rw [pb_k0_t1_succ (k := ⟨k, hk⟩)]
    dsimp only
    rw [trip_max, trip_sum, ← View.writes_append, ← View.writes_append, load_whole _ zero2, load_whole _ zero2, load_whole _ zero2,
      e8, e9, keysAt_eq B x2 k (by omega) (off1 i ⟨k, hk⟩), valsAt_eq B x3 k (by omega) (off2 i ⟨k, hk⟩)]
    simp only [List.cons_append, List.nil_append]
    rw [View.canon_cons_unit_zero (S := S1x4096) zero2, View.canon_cons_unit_zero (S := S144x4096) zero2]
    rfl

end Read

/-- The stores that fill the query scratch, last first: per head its latent queries over its two halves of rope queries. -/
def queryStores (x0 : Vec F S512x1024 .bf16) (x1 : Vec F S512x256 .bf16) : List (View.Piece (Elt F) S160x4096 .bf16) :=
  [⟨Rect.unit (s := S160x4096) ![144, 3584] S16x512.size inb_S160x4096_S16x512_144_3584, k0_pay33 (k0_pay6 x1)⟩,
   ⟨Rect.unit (s := S160x4096) ![128, 3584] S16x512.size inb_S160x4096_S16x512_128_3584, k0_pay32 (k0_pay6 x1)⟩,
   ⟨Rect.unit (s := S160x4096) ![0, 3584] S128x512.size inb_S160x4096_S128x512_0_3584, k0_pay31 (View.ld x0 (Rect.unit (s := S512x1024) ![0, 896] S512x128.size inb_S512x1024_S512x128_0_896))⟩,
   ⟨Rect.unit (s := S160x4096) ![144, 3072] S16x512.size inb_S160x4096_S16x512_144_3072, k0_pay30 (k0_pay6 x1)⟩,
   ⟨Rect.unit (s := S160x4096) ![128, 3072] S16x512.size inb_S160x4096_S16x512_128_3072, k0_pay29 (k0_pay6 x1)⟩,
   ⟨Rect.unit (s := S160x4096) ![0, 3072] S128x512.size inb_S160x4096_S128x512_0_3072, k0_pay28 (View.ld x0 (Rect.unit (s := S512x1024) ![0, 768] S512x128.size inb_S512x1024_S512x128_0_768))⟩,
   ⟨Rect.unit (s := S160x4096) ![144, 2560] S16x512.size inb_S160x4096_S16x512_144_2560, k0_pay27 (k0_pay26 (k0_pay6 x1))⟩,
   ⟨Rect.unit (s := S160x4096) ![128, 2560] S16x512.size inb_S160x4096_S16x512_128_2560, k0_pay25 (k0_pay6 x1)⟩,
   ⟨Rect.unit (s := S160x4096) ![0, 2560] S128x512.size inb_S160x4096_S128x512_0_2560, k0_pay24 (View.ld x0 (Rect.unit (s := S512x1024) ![0, 640] S512x128.size inb_S512x1024_S512x128_0_640))⟩,
   ⟨Rect.unit (s := S160x4096) ![144, 2048] S16x512.size inb_S160x4096_S16x512_144_2048, k0_pay23 (k0_pay6 x1)⟩,
   ⟨Rect.unit (s := S160x4096) ![128, 2048] S16x512.size inb_S160x4096_S16x512_128_2048, k0_pay22 (k0_pay6 x1)⟩,
   ⟨Rect.unit (s := S160x4096) ![0, 2048] S128x512.size inb_S160x4096_S128x512_0_2048, k0_pay21 (View.ld x0 (Rect.unit (s := S512x1024) ![0, 512] S512x128.size inb_S512x1024_S512x128_0_512))⟩,
   ⟨Rect.unit (s := S160x4096) ![144, 1536] S16x512.size inb_S160x4096_S16x512_144_1536, k0_pay20 (k0_pay19 (k0_pay6 x1))⟩,
   ⟨Rect.unit (s := S160x4096) ![128, 1536] S16x512.size inb_S160x4096_S16x512_128_1536, k0_pay18 (k0_pay6 x1)⟩,
   ⟨Rect.unit (s := S160x4096) ![0, 1536] S128x512.size inb_S160x4096_S128x512_0_1536, k0_pay17 (View.ld x0 (Rect.unit (s := S512x1024) ![0, 384] S512x128.size inb_S512x1024_S512x128_0_384))⟩,
   ⟨Rect.unit (s := S160x4096) ![144, 1024] S16x512.size inb_S160x4096_S16x512_144_1024, k0_pay16 (k0_pay6 x1)⟩,
   ⟨Rect.unit (s := S160x4096) ![128, 1024] S16x512.size inb_S160x4096_S16x512_128_1024, k0_pay15 (k0_pay6 x1)⟩,
   ⟨Rect.unit (s := S160x4096) ![0, 1024] S128x512.size inb_S160x4096_S128x512_0_1024, k0_pay14 (View.ld x0 (Rect.unit (s := S512x1024) ![0, 256] S512x128.size inb_S512x1024_S512x128_0_256))⟩,
   ⟨Rect.unit (s := S160x4096) ![144, 512] S16x512.size inb_S160x4096_S16x512_144_512, k0_pay13 (k0_pay12 x1)⟩,
   ⟨Rect.unit (s := S160x4096) ![128, 512] S16x512.size inb_S160x4096_S16x512_128_512, k0_pay11 x1⟩,
   ⟨Rect.unit (s := S160x4096) ![0, 512] S128x512.size inb_S160x4096_S128x512_0_512, k0_pay10 (View.ld x0 (Rect.unit (s := S512x1024) ![0, 128] S512x128.size inb_S512x1024_S512x128_0_128))⟩,
   ⟨Rect.unit (s := S160x4096) ![144, 0] S16x512.size inb_S160x4096_S16x512_144_0, k0_pay9 x1⟩,
   ⟨Rect.unit (s := S160x4096) ![128, 0] S16x512.size inb_S160x4096_S16x512_128_0, k0_pay8 x1⟩,
   ⟨Rect.unit (s := S160x4096) ![0, 0] S128x512.size inb_S160x4096_S128x512_0_0, k0_pay7 (View.ld x0 (Rect.unit (s := S512x1024) ![0, 0] S512x128.size inb_S512x1024_S512x128_0_0))⟩]

/-- The query scratch after them. -/
def queries (x0 : Vec F S512x1024 .bf16) (x1 : Vec F S512x256 .bf16) : Vec F S160x4096 .bf16 := View.canon (queryStores x0 x1)

/-- The weighted sums once the diagonal block is in. -/
def sums (q : Vec F S160x4096 .bf16) (x2 : Vec F S1x4096x160 .bf16) (x3 : Vec F S1x144x4096 .bf16) (k : ℕ) (h : k < 8) : Vec F S144x4096 .f32 :=
  k0_pay54 (k0_pay52 (keysAt x2 k h) q) (run q x2 x3 k h.le).1 (k0_pay53 (keysAt x2 k h) q (run q x2 x3 k h.le).1)
    (run q x2 x3 k h.le).2 (valsAt x3 k h)

/-- The sums' first 128 rows, the weighted values; -/
def nums (a : Vec F S144x4096 .f32) : Vec F S128x4096 .f32 :=
  View.ld a (Rect.unit (s := S144x4096) ![0, 0] S128x4096.size inb_S144x4096_S128x4096_0_0)

/-- their row 128, the weights' sums. -/
def dens (a : Vec F S144x4096 .f32) : Vec F S1x4096 .f32 :=
  View.ld a (Rect.unit (s := S144x4096) ![128, 0] S1x4096.size inb_S144x4096_S1x4096_128_0)

/-- The eight stores to the output block, last first: one per head, the quotient transposed back. -/
def outStores (n : Vec F S128x4096 .f32) (d : Vec F S1x4096 .f32) : List (View.Piece (Elt F) S512x1024 .bf16) :=
  [⟨Rect.unit (s := S512x1024) ![0, 896] S512x128.size inb_S512x1024_S512x128_0_896, k0_pay5 (k0_pay56 n d)⟩,
   ⟨Rect.unit (s := S512x1024) ![0, 768] S512x128.size inb_S512x1024_S512x128_0_768, k0_pay4 (k0_pay56 n d)⟩,
   ⟨Rect.unit (s := S512x1024) ![0, 640] S512x128.size inb_S512x1024_S512x128_0_640, k0_pay3 (k0_pay56 n d)⟩,
   ⟨Rect.unit (s := S512x1024) ![0, 512] S512x128.size inb_S512x1024_S512x128_0_512, k0_pay2 (k0_pay56 n d)⟩,
   ⟨Rect.unit (s := S512x1024) ![0, 384] S512x128.size inb_S512x1024_S512x128_0_384, k0_pay1 (k0_pay56 n d)⟩,
   ⟨Rect.unit (s := S512x1024) ![0, 256] S512x128.size inb_S512x1024_S512x128_0_256, k0_pay59 n d⟩,
   ⟨Rect.unit (s := S512x1024) ![0, 128] S512x128.size inb_S512x1024_S512x128_0_128, k0_pay58 n d⟩,
   ⟨Rect.unit (s := S512x1024) ![0, 0] S512x128.size inb_S512x1024_S512x128_0_0, k0_pay57 n d⟩]

/-- The output block of a grid point, from the sums. -/
def outBlock (a : Vec F S144x4096 .f32) : Vec F S512x1024 .bf16 := View.canon (outStores (nums a) (dens a))

theorem of_pair {α β : Type*} {a : α} {b : β} {p : α × β} (h : (a, b) = p) : a = p.1 ∧ b = p.2 := by subst h; exact ⟨rfl, rfl⟩

theorem nil_fst {α β : Type*} (L : List α) : (([], []) : List α × List β).1 ++ L = L := rfl

theorem nil_snd {α β : Type*} (L : List β) : (([], []) : List α × List β).2 ++ L = L := rfl

/-- A later load of stored contents reads the canonical contents at its rectangle. -/
theorem cov_ld {S : Shape} {e : EltTy} (M : Memref sig .tc .vmem S e) (r : Rect S) (L : List (View.Piece (Elt F) S e)) :
    M.view.readCov L r.toLoadRect = View.ld (View.canon L) r := by
  rw [View.readCov_eq_canon']

/-- What the body leaves in the output block. -/
theorem out_eq (c : Dev nD) (i : grid0.Coords) (B : Bufs) (x0 : Vec F S512x1024 .bf16) (x1 : Vec F S512x256 .bf16)
    (x2 : Vec F S1x4096x160 .bf16) (x3 : Vec F S1x144x4096 .bf16) :
    out0_A_4 c i B.arg2 B.harg2 B.arg3 B.harg3 B.arg4 B.harg4 B.arg5 B.harg5 B.arg6 B.harg6 B.arg7 B.harg7 B.arg8 B.harg8 B.arg9 B.harg9 x0 x1 x2 x3
      = outBlock (sums (queries x0 x1) x2 x3 (i 1).val (show (i 1).val < 8 from (i 1).isLt)) := by
  unfold out0_A_4
  rw [View.read_writes_junk_eq_canon]
  unfold kernelRun0_A
  dsimp only
  sl_unfold_run_names
  have hx1 : View.readAt (Elt F) B.arg3.view (Rect.unit (s := S512x256) ![0, 0] S512x256.size inb_S512x256_S512x256_0_0).toLoadRect (B.harg3.unread x1) = x1 := by
    rw [View.readAt_eq_ld, B.harg3.read_unread, View.ld_unit_zero zero2]
  have hx0 : ∀ r : Rect S512x1024, View.readAt (Elt F) B.arg2.view r.toLoadRect (B.harg2.unread x0) = View.ld x0 r := fun r => by
    rw [View.readAt_eq_ld, B.harg2.read_unread]
  simp (config := { proj := false, dsimp := false }) only [hx1, hx0, trips2 i, trips3 i, trips4 i, trips1 i]
  rw [← queryStores]
  rw [pb_k0_t4.eq_1, pb_k0_t3.eq_1, pb_k0_t2.eq_1]
  rw [nil_fst, nil_fst, nil_fst, nil_snd, nil_snd, nil_snd]
  have e := loop_canon c i B (BitVec.ofNat 32 (i 1).val) x2 x3 (queryStores x0 x1)
    [⟨Rect.unit (s := S1x4096) ![0, 0] S1x4096.size inb_S1x4096_S1x4096_0_0, k0_pay34⟩]
    [⟨Rect.unit (s := S144x4096) ![0, 0] S144x4096.size inb_S144x4096_S144x4096_0_0, k0_pay35⟩]
    (View.canon_cons_unit_zero (S := S1x4096) zero2 _ _ _) (View.canon_cons_unit_zero (S := S144x4096) zero2 _ _ _)
    (i 1).val (trips1 i).ge (le_of_lt (show (i 1).val < 8 from (i 1).isLt))
  rw [← queries] at e
  obtain ⟨e8, e9⟩ := of_pair e
  simp (config := { proj := false, dsimp := false }) only [cov_ld, e8, e9, keysAt_eq B x2 (i 1).val (show (i 1).val < 8 from (i 1).isLt) (off9 i),
    valsAt_eq B x3 (i 1).val (show (i 1).val < 8 from (i 1).isLt) (off10 i)]
  rw [View.ld_unit_zero (S := S160x4096) zero2, View.ld_unit_zero (S := S1x4096) zero2, View.ld_unit_zero (S := S144x4096) zero2,
    View.canon_cons_unit_zero (S := S144x4096) zero2]
  rfl

end Cert.KernelIdeal.Body
-- ==== Proof.Read.lean ====
/-
  The body's words at one index, over the extended reals.
-/
module

public import proofs.«01_k».proof.Proof.Body
public import Idealize.ShloMosaic.Lib.Pointwise
public import Idealize.ShloMosaic.Lib.Pipeline.ValueKit

@[expose] public section

noncomputable section

namespace Cert.KernelIdeal.Body

open Cert.KernelIdeal Cert.KernelIdeal.Gen
open Idealize.ShloMosaic Idealize.ShloMosaic.TcCoe

set_option maxRecDepth 16384

theorem neg_big : (Named.named κ "neg_big" (0xF149F2CA#32 : BitVec 32) : Ideal .f32) = (⊥ : EReal) := rfl

theorem ofBits_neg_inf : Ideal.ofBits .f32 0xFF800000#32 = (⊥ : EReal) := by
  simp [Ideal.ofBits, Ideal.ieee]

/-- A column's token within its head: the low nine bits of the column. -/
theorem low9 : ∀ l : Fin 4096, IntOp.andi (BitVec.ofNat 32 l.val) 511#32 = BitVec.ofNat 32 (l.val % 512) := by decide +kernel

theorem toInt_small (n : ℕ) (h : n < 512) : (BitVec.ofNat 32 n).toInt = n := by
  rw [BitVec.toInt_eq_toNat_of_lt] <;> simp [BitVec.toNat_ofNat] <;> omega

/-- The mask of the diagonal block. -/
theorem mask_at (s t : ℕ) (hs : s < 512) (ht : t < 512) (x y : EReal) :
    Scalar.select (IntOp.cmpi .sle (BitVec.ofNat 32 s) (BitVec.ofNat 32 t)) x y = if s ≤ t then x else y := by
  have e : (IntOp.cmpi .sle (BitVec.ofNat 32 s) (BitVec.ofNat 32 t)) = BitVec.ofBool (decide (s ≤ t)) := by
    show BitVec.ofBool (BitVec.sle _ _) = _
    congr 1
    simp [BitVec.sle, toInt_small s hs, toInt_small t ht]
  rw [e]
  by_cases h : s ≤ t <;> simp [h, Scalar.select]

/-- The maximum of each column of a matrix. -/
theorem colMax {m n : ℕ} (v : FVec Ideal ⟨2, ![m, n]⟩ .f32) (h : (⟨2, ![m, n]⟩ : Shape).Reduces [0] ⟨1, ![n]⟩)
    (hφ) (hacc) (l : Fin n) :
    multiReduction .maximumf [0] ⟨1, ![n]⟩ v 0xFF800000#32 h hφ hacc (ix1 l) = Finset.univ.fold max (⊥ : EReal) fun k : Fin m => v (ix2 k l) := by
  rw [multiReduction_maximumf_eq_fold, Shape.Reduces.fold_fiber_r2_a0]
  exact congrArg (fun b => Finset.univ.fold max b fun k : Fin m => v (ix2 k l)) ofBits_neg_inf

theorem max_cast (m : Vec Ideal S1x4096 .f32) (w : FVec Ideal S4096 .f32) (l : Fin 4096) :
    maximumf m (shapeCast S1x4096 w shapeCasts_S4096_S1x4096) (ix2 0 l) = max (m (ix2 0 l)) (w (ix1 l)) := by
  pointwise

theorem max_cast_at (m : Vec Ideal S1x4096 .f32) (v : FVec Ideal S512x4096 .f32) (l : Fin 4096) :
    maximumf m (shapeCast S1x4096 (multiReduction .maximumf [0] S4096 v 0xFF800000#32 reduces_S512x4096_S4096 (.inl rfl) rfl)
      shapeCasts_S4096_S1x4096) (ix2 0 l) = max (m (ix2 0 l)) (Finset.univ.fold max (⊥ : EReal) fun s : Fin 512 => v (ix2 s l)) :=
  (max_cast m _ l).trans (congrArg (max (m (ix2 0 l))) (colMax v reduces_S512x4096_S4096 _ _ l))

/-- A key block's scores: key row by query column. -/
theorem pay36_at (K : Vec Ideal S1x512x160 .bf16) (q : Vec Ideal S160x4096 .bf16) (s : Fin 512) (l : Fin 4096) :
    k0_pay36 K q (ix2 s l) = ∑ d : Fin 160, K (ix3 0 s d) * q (ix2 d l) := by
  pointwise [k0_pay36]

/-- The new maximum of a key block. -/
theorem pay37_at (K : Vec Ideal S1x512x160 .bf16) (q : Vec Ideal S160x4096 .bf16) (m : Vec Ideal S1x4096 .f32) (l : Fin 4096) :
    k0_pay37 K q m (ix2 0 l) = max (m (ix2 0 l)) (Finset.univ.fold max ⊥ fun s : Fin 512 => k0_pay36 K q (ix2 s l)) := by
  unfold k0_pay37
  exact max_cast_at m _ l

theorem pay39_at (K : Vec Ideal S1x512x160 .bf16) (q : Vec Ideal S160x4096 .bf16) (m : Vec Ideal S1x4096 .f32) (l : Fin 4096) :
    k0_pay39 K q m (ix2 0 l) = k0_pay37 K q m (ix2 0 l) := by
  pointwise [k0_pay39]

/-- The new weighted sums of a key block. -/
theorem pay38_at (K : Vec Ideal S1x512x160 .bf16) (q : Vec Ideal S160x4096 .bf16) (m : Vec Ideal S1x4096 .f32)
    (a : Vec Ideal S144x4096 .f32) (v : Vec Ideal S1x144x512 .bf16) (r : Fin 144) (l : Fin 4096) :
    k0_pay38 K q m a v (ix2 r l) = FloatOps.exp2 (m (ix2 0 l) - k0_pay37 K q m (ix2 0 l)) * a (ix2 r l) +
      ∑ x : Fin 512, v (ix3 0 r x) * FloatOps.exp2 (k0_pay36 K q (ix2 x l) - k0_pay37 K q m (ix2 0 l)) := by
  pointwise [k0_pay38]

/-- The diagonal block's scores. -/
theorem pay52_at (K : Vec Ideal S1x512x160 .bf16) (q : Vec Ideal S160x4096 .bf16) (s : Fin 512) (l : Fin 4096) :
    k0_pay52 K q (ix2 s l) = if s.val ≤ l.val % 512 then ∑ d : Fin 160, K (ix3 0 s d) * q (ix2 d l) else ⊥ := by
  pointwise [k0_pay52]
  rw [neg_big, low9, mask_at s.val (l.val % 512) s.isLt (Nat.mod_lt _ (by norm_num))]

theorem pay53_at (K : Vec Ideal S1x512x160 .bf16) (q : Vec Ideal S160x4096 .bf16) (m : Vec Ideal S1x4096 .f32) (l : Fin 4096) :
    k0_pay53 K q m (ix2 0 l) = max (m (ix2 0 l)) (Finset.univ.fold max ⊥ fun s : Fin 512 => k0_pay52 K q (ix2 s l)) := by
  unfold k0_pay53
  exact max_cast_at m _ l

theorem pay54_at (S : Vec Ideal S512x4096 .f32) (m m' : Vec Ideal S1x4096 .f32)
    (a : Vec Ideal S144x4096 .f32) (v : Vec Ideal S1x144x512 .bf16) (r : Fin 144) (l : Fin 4096) :
    k0_pay54 S m m' a v (ix2 r l) = FloatOps.exp2 (m (ix2 0 l) - m' (ix2 0 l)) * a (ix2 r l) +
      ∑ x : Fin 512, v (ix3 0 r x) * (FloatOps.exp2 (S (ix2 x l) - m' (ix2 0 l)) : Ideal .f32) := by
  pointwise [k0_pay54]

/-- The running pair starts from no maximum, -/
theorem pay34_at (l : Fin 4096) : k0_pay34 (F := Ideal) (ix2 0 l) = (⊥ : EReal) := by
  pointwise [k0_pay34]
  exact neg_big

/-- and no sum. -/
theorem pay35_at (r : Fin 144) (l : Fin 4096) : k0_pay35 (F := Ideal) (ix2 r l) = (0 : EReal) := by
  pointwise [k0_pay35]

theorem keysAt_at (x2 : Vec Ideal S1x4096x160 .bf16) (k : ℕ) (h : k < 8) (s : Fin 512) (d : Fin 160) :
    keysAt x2 k h (ix3 0 s d) = x2 (ix3 0 ⟨512 * k + s.val, by omega⟩ d) := by
  pointwise [keysAt]

theorem valsAt_at (x3 : Vec Ideal S1x144x4096 .bf16) (k : ℕ) (h : k < 8) (r : Fin 144) (s : Fin 512) :
    valsAt x3 k h (ix3 0 r s) = x3 (ix3 0 r ⟨512 * k + s.val, by omega⟩) := by
  pointwise [valsAt]

end Cert.KernelIdeal.Body
-- ==== Proof.Attn.lean ====
/-
  The real attention both programs compute, and what one column of the launch's running pair holds at the end.
-/
module

public import proofs.«01_k».proof.Proof.Online
public import proofs.«01_k».proof.Proof.Read

@[expose] public section

noncomputable section

namespace Cert.Attn

/-- The inner product of a query with a key: the latent part and the position part. -/
def dot (ql : Fin 4 → Fin 4096 → Fin 8 → Fin 128 → ℝ) (qp : Fin 4 → Fin 4096 → Fin 8 → Fin 32 → ℝ)
    (kl : Fin 4 → Fin 4096 → Fin 128 → ℝ) (kp : Fin 4 → Fin 4096 → Fin 32 → ℝ) (b : Fin 4) (h : Fin 8) (t s : Fin 4096) : ℝ :=
  ∑ d, kl b s d * ql b t h d + ∑ d, kp b s d * qp b t h d

/-- A key's weight: the exponential of its score over the root of 96, zero for a key after the query. -/
def weight (z : Fin 4096 → ℝ) (t s : Fin 4096) : ℝ := if s.val ≤ t.val then Real.exp (z s / √96) else 0

/-- The attention of one query to the values `v`: their sum by weight over the sum of the weights. -/
def attend (z : Fin 4096 → ℝ) (t : Fin 4096) (v : Fin 4096 → ℝ) : ℝ :=
  (∑ s, weight z t s * v s) / ∑ s, weight z t s

theorem total_ne (z : Fin 4096 → ℝ) (t : Fin 4096) : ∑ s, weight z t s ≠ 0 := by
  refine (Finset.sum_pos' (fun s _ => ?_) ⟨t, Finset.mem_univ t, ?_⟩).ne'
  · unfold weight; split
    · exact (Real.exp_pos _).le
    · exact le_rfl
  · unfold weight; rw [if_pos le_rfl]; exact Real.exp_pos _

theorem exp_base (x : ℝ) : Real.exp 1 ^ x = Real.exp x := Real.exp_one_rpow x

/-- Two to a score scaled by `1 / (√96 · log 2)` is the exponential of the score over the root of 96. -/
theorem two_base (x : ℝ) : (2 : ℝ) ^ (x * (1 / (√96 * Real.log 2))) = Real.exp (x / √96) := by
  have h2 : Real.log 2 ≠ 0 := by positivity
  have h96 : √96 ≠ 0 := by positivity
  rw [Real.rpow_def_of_pos (by norm_num)]
  congr 1
  field_simp

end Cert.Attn

namespace Cert.KernelIdeal.Body

open Cert.KernelIdeal Cert.KernelIdeal.Gen Cert.Online
open Idealize.ShloMosaic Idealize.ShloMosaic.TcCoe

/-- The weight, base two, of key `s` for the query at token `t`. -/
def weight2 (y : ℕ → ℝ) (t s : ℕ) : ℝ := if s ≤ t then (2 : ℝ) ^ y s else 0

section Column

variable (q : Vec Ideal S160x4096 .bf16) (x2 : Vec Ideal S1x4096x160 .bf16) (x3 : Vec Ideal S1x144x4096 .bf16) (l : Fin 4096)
  (y : ℕ → ℝ) (u : Fin 144 → ℕ → ℝ)

/-- The keys before the diagonal block: column `l` of the running pair is in the state of their weighted sums. -/
theorem run_inv (hy : ∀ s : Fin 4096, ∑ d : Fin 160, x2 (ix3 0 s d) * q (ix2 d l) = ((y s.val : ℝ) : EReal))
    (hu : ∀ (r : Fin 144) (s : Fin 4096), x3 (ix3 0 r s) = ((u r s.val : ℝ) : EReal)) (t : ℕ) :
    ∀ (k : ℕ) (hk : k ≤ 8), 512 * k ≤ t → Inv ((run q x2 x3 k hk).1 (ix2 0 l)) (fun r : Fin 144 => (run q x2 x3 k hk).2 (ix2 r l))
      (fun r => ∑ s ∈ Finset.range (512 * k), weight2 y t s * u r s) := by
  intro k
  induction k with
  | zero =>
    intro _ _
    exact Or.inl ⟨pay34_at l, fun r => ⟨pay35_at r l, by simp⟩⟩
  | succ k ih =>
    intro hk ht
    have hS36 : ∀ i : Fin 512, k0_pay36 (keysAt x2 k (by omega)) q (ix2 i l) = ((y (512 * k + i.val) : ℝ) : EReal) := fun i => by
      rw [pay36_at, ← hy ⟨512 * k + i.val, by omega⟩]
      exact Finset.sum_congr rfl fun d _ => by rw [keysAt_at]
    have st := (ih (by omega) (by omega)).step (S := fun i : Fin 512 => k0_pay36 (keysAt x2 k (by omega)) q (ix2 i l))
      (w := fun i => weight2 y t (512 * k + i.val))
      (fun i => Or.inr ⟨y (512 * k + i.val), hS36 i, by unfold weight2; rw [if_pos (by omega)]⟩)
      ⟨0, by beta_reduce; rw [hS36]; simp⟩ (fun r i => u r (512 * k + i.val)) (pay37_at (keysAt x2 k (by omega)) q _ l)
    have hA : ∀ r, ∑ s ∈ Finset.range (512 * (k + 1)), weight2 y t s * u r s
        = ∑ s ∈ Finset.range (512 * k), weight2 y t s * u r s + ∑ i : Fin 512, weight2 y t (512 * k + i.val) * u r (512 * k + i.val) := fun r => by
      rw [show 512 * (k + 1) = 512 * k + 512 from by ring, Finset.sum_range_add, ← Finset.sum_range (fun i => weight2 y t (512 * k + i) * u r (512 * k + i))]
    have ha : ∀ r : Fin 144, (run q x2 x3 (k + 1) hk).2 (ix2 r l) = _ := fun r => by
      refine (pay38_at (keysAt x2 k (by omega)) q (run q x2 x3 k (by omega)).1 (run q x2 x3 k (by omega)).2 (valsAt x3 k (by omega)) r l).trans ?_
      exact congrArg (_ + ·) (Finset.sum_congr rfl fun i _ => by rw [valsAt_at, hu])
    have hm : (run q x2 x3 (k + 1) hk).1 (ix2 0 l) = _ := pay39_at (keysAt x2 k (by omega)) q (run q x2 x3 k (by omega)).1 l
    rw [hm, funext ha, funext hA]
    exact st

/-- With the diagonal block: the weighted sums of all the keys. -/
theorem sums_inv (hy : ∀ s : Fin 4096, ∑ d : Fin 160, x2 (ix3 0 s d) * q (ix2 d l) = ((y s.val : ℝ) : EReal))
    (hu : ∀ (r : Fin 144) (s : Fin 4096), x3 (ix3 0 r s) = ((u r s.val : ℝ) : EReal)) (k : ℕ) (hk : k < 8) :
    ∃ m', Inv m' (fun r : Fin 144 => sums q x2 x3 k hk (ix2 r l))
      (fun r => ∑ s ∈ Finset.range 4096, weight2 y (512 * k + l.val % 512) s * u r s) := by
  have hl : l.val % 512 < 512 := Nat.mod_lt _ (by norm_num)
  have hS : ∀ i : Fin 512, k0_pay52 (keysAt x2 k hk) q (ix2 i l)
      = if i.val ≤ l.val % 512 then ((y (512 * k + i.val) : ℝ) : EReal) else ⊥ := fun i => by
    rw [pay52_at, ← hy ⟨512 * k + i.val, by omega⟩]
    exact congrArg (fun z => if i.val ≤ l.val % 512 then z else (⊥ : EReal)) (Finset.sum_congr rfl fun d _ => by rw [keysAt_at])
  have st := (run_inv q x2 x3 l y u hy hu (512 * k + l.val % 512) k (by omega) (by omega)).step
    (S := fun i : Fin 512 => k0_pay52 (keysAt x2 k hk) q (ix2 i l)) (w := fun i => weight2 y (512 * k + l.val % 512) (512 * k + i.val))
    (fun i => by
      by_cases h : i.val ≤ l.val % 512
      · exact Or.inr ⟨y (512 * k + i.val), by rw [hS, if_pos h], by unfold weight2; rw [if_pos (by omega)]⟩
      · exact Or.inl ⟨by rw [hS, if_neg h], by unfold weight2; rw [if_neg (by omega)]⟩)
    ⟨0, by beta_reduce; rw [hS, if_pos (show (0 : Fin 512).val ≤ l.val % 512 from Nat.zero_le _)]; simp⟩ (fun r i => u r (512 * k + i.val)) (pay53_at (keysAt x2 k hk) q _ l)
  refine ⟨k0_pay53 (keysAt x2 k hk) q (run q x2 x3 k (by omega)).1 (ix2 0 l), ?_⟩
  have hA : ∀ r, ∑ s ∈ Finset.range 4096, weight2 y (512 * k + l.val % 512) s * u r s
      = ∑ s ∈ Finset.range (512 * k), weight2 y (512 * k + l.val % 512) s * u r s
        + ∑ i : Fin 512, weight2 y (512 * k + l.val % 512) (512 * k + i.val) * u r (512 * k + i.val) := fun r => by
    rw [← Finset.sum_range (fun i => weight2 y (512 * k + l.val % 512) (512 * k + i) * u r (512 * k + i)), ← Finset.sum_range_add]
    symm
    refine Finset.sum_subset (Finset.range_subset_range.mpr (by omega)) fun s _ hs => ?_
    rw [Finset.mem_range] at hs
    unfold weight2
    rw [if_neg (by omega), zero_mul]
  have ha : ∀ r : Fin 144, sums q x2 x3 k hk (ix2 r l) = _ := fun r => by
    refine (pay54_at (k0_pay52 (keysAt x2 k hk) q) (run q x2 x3 k (by omega)).1 (k0_pay53 (keysAt x2 k hk) q (run q x2 x3 k (by omega)).1)
      (run q x2 x3 k (by omega)).2 (valsAt x3 k hk) r l).trans ?_
    exact congrArg (_ + ·) (Finset.sum_congr rfl fun i _ => by rw [valsAt_at, hu])
  rw [funext ha, funext hA]
  exact st

/-- The quotient the launch writes: with a row of ones at 128, the weighted mean. -/
theorem mean_at (hy : ∀ s : Fin 4096, ∑ d : Fin 160, x2 (ix3 0 s d) * q (ix2 d l) = ((y s.val : ℝ) : EReal))
    (hu : ∀ (r : Fin 144) (s : Fin 4096), x3 (ix3 0 r s) = ((u r s.val : ℝ) : EReal)) (k : ℕ) (hk : k < 8)
    (h1 : ∀ s : Fin 4096, u 128 s.val = 1) (z : Fin 4096 → ℝ) (t : Fin 4096) (ht : t.val = 512 * k + l.val % 512)
    (hz : ∀ s : Fin 4096, (2 : ℝ) ^ y s.val = Real.exp (z s / √96)) (r : Fin 144) :
    Ideal.div (sums q x2 x3 k hk (ix2 r l)) (sums q x2 x3 k hk (ix2 128 l)) = ((Attn.attend z t (fun s => u r s.val) : ℝ) : EReal) := by
  obtain ⟨m', inv⟩ := sums_inv q x2 x3 l y u hy hu k hk
  have hw : ∀ s : Fin 4096, weight2 y (512 * k + l.val % 512) s.val = Attn.weight z t s := fun s => by
    unfold weight2 Attn.weight; rw [ht, hz]
  have hA : ∀ r : Fin 144, ∑ s ∈ Finset.range 4096, weight2 y (512 * k + l.val % 512) s * u r s = ∑ s : Fin 4096, Attn.weight z t s * u r s.val := fun r => by
    rw [Finset.sum_range]
    exact Finset.sum_congr rfl fun s _ => by rw [hw]
  rw [funext hA] at inv
  have hd : ∑ s : Fin 4096, Attn.weight z t s * u 128 s.val = ∑ s : Fin 4096, Attn.weight z t s :=
    Finset.sum_congr rfl fun s _ => by rw [h1, mul_one]
  refine (inv.quot r 128 (by rw [hd]; exact Attn.total_ne z t)).trans ?_
  rw [hd]
  rfl

end Column

end Cert.KernelIdeal.Body
-- ==== Proof.Tiles.lean ====
/-
  The body's words at one index, over the extended reals.
-/
module

public import proofs.«01_k».proof.Proof.Body
public import Idealize.ShloMosaic.Lib.Pointwise
public import Idealize.ShloMosaic.Lib.Pipeline.ValueKit

@[expose] public section

noncomputable section

namespace Cert.KernelIdeal.Body

open Cert.KernelIdeal Cert.KernelIdeal.Gen
open Idealize.ShloMosaic Idealize.ShloMosaic.TcCoe

set_option maxRecDepth 16384

/-- The output block: per head and token, the quotient of the token's column. -/
theorem outBlock_at (a : Vec Ideal S144x4096 .f32) (t : Fin 512) (j : Fin 1024) :
    outBlock a (ix2 t j) = Ideal.div (a (ix2 ⟨j.val % 128, by omega⟩ ⟨512 * (j.val / 128) + t.val, by omega⟩))
      (a (ix2 128 ⟨512 * (j.val / 128) + t.val, by omega⟩)) := by
  have key : ∀ (r r' : Fin 144) (l l' : Fin 4096), r.val = r'.val → l.val = l'.val →
      Ideal.div (a (ix2 r l)) (a (ix2 128 l)) = Ideal.div (a (ix2 r' l')) (a (ix2 128 l')) := by
    intro r r' l l' h h'; rw [Fin.ext h, Fin.ext h']
  unfold outBlock outStores
  canon_tiles x h
  all_goals idx_vars x
  all_goals pointwise [k0_pay5, k0_pay4, k0_pay3, k0_pay2, k0_pay1, k0_pay59, k0_pay58, k0_pay57, k0_pay56, nums, dens]
  all_goals exact key _ _ _ _ (by dsimp only; omega) (by dsimp only; omega)

/-- The query scratch is written everywhere. -/
theorem queries_cover (x0 : Vec Ideal S512x1024 .bf16) (x1 : Vec Ideal S512x256 .bf16) (d : Fin 160) (l : Fin 4096) :
    ∃ p ∈ queryStores x0 x1, (ix2 d l : S160x4096.Idx) ∈ p.1.set := by
  have hd : d.val < 128 ∨ (128 ≤ d.val ∧ d.val < 144) ∨ (144 ≤ d.val ∧ d.val < 160) := by omega
  obtain ⟨h, hl⟩ : ∃ h, h = l.val / 512 := ⟨_, rfl⟩
  have hh : h < 8 := by omega
  have e0 : ((ix2 d l : S160x4096.Idx) 0).val = d.val := rfl
  have e1 : ((ix2 d l : S160x4096.Idx) 1).val = l.val := rfl
  simp only [queryStores, List.exists_mem_cons_iff, Rect.mem_set_unit, Fin.forall_fin_two, e0, e1, Matrix.cons_val_zero,
    Matrix.cons_val_one, List.not_mem_nil, false_and, exists_false, or_false]
  interval_cases h <;> rcases hd with hd | hd | hd <;>
    repeat (first | exact Or.inl (by omega) | apply Or.inr | omega)

/-- The query scratch: column `512 h + t` holds head `h`'s query at token `t`, latent part first. -/
theorem queries_at (x0 : Vec Ideal S512x1024 .bf16) (x1 : Vec Ideal S512x256 .bf16) (d : Fin 160) (l : Fin 4096) :
    queries x0 x1 (ix2 d l) = if h : d.val < 128 then x0 (ix2 ⟨l.val % 512, by omega⟩ ⟨128 * (l.val / 512) + d.val, by omega⟩)
      else x1 (ix2 ⟨l.val % 512, by omega⟩ ⟨128 * ((d.val - 128) / 16) + 16 * (l.val / 512) + (d.val - 128) % 16, by omega⟩) := by
  unfold queries queryStores
  canon_tiles x h using (queries_cover x0 x1 d l)
  all_goals idx_vars x
  all_goals pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  all_goals
    first
    | rw [dif_pos (show d.val < 128 by omega)]
    | rw [dif_neg (show ¬ d.val < 128 by omega)]
    congr 2 <;> (apply Fin.ext; dsimp only; omega)

end Cert.KernelIdeal.Body
-- ==== Proof.Args.lean ====
/-
  What the launch's four staged inputs hold: each block of them, at an index, as a term over the arguments.
-/
module

public import proofs.«01_k».proof.Proof.Gen.KernelIdeal.Value
public import Idealize.ShloMosaic.Lib.Pointwise
public import Idealize.ShloMosaic.Lib.StableHlo.ReadAt
public import Idealize.ShloMosaic.Lib.Routing.OpsSet

@[expose] public section

noncomputable section

namespace Cert.KernelIdeal.Args

open Idealize.ShloMosaic Idealize.ShloMosaic.TcCoe
open Cert.KernelIdeal Cert.KernelIdeal.Gen

variable (m : (ℓ : Loc nD τ sig) → Buf (Elt Ideal) ℓ)

/-- The latent queries, as launched. -/
abbrev qlat (c : Dev nD) : FVec Ideal S4x4096x8x128 .f32 := m (c, Proc.tc.devRef main_arg0)
/-- The position queries, as launched. -/
abbrev qpos (c : Dev nD) : FVec Ideal S4x4096x8x32 .f32 := m (c, Proc.tc.devRef main_arg1)
/-- The latent keys (also the values), as launched. -/
abbrev klat (c : Dev nD) : FVec Ideal S4x4096x128 .f32 := m (c, Proc.tc.devRef main_arg2)
/-- The position keys, as launched. -/
abbrev kpos (c : Dev nD) : FVec Ideal S4x4096x32 .f32 := m (c, Proc.tc.devRef main_arg3)

/-- What the host multiplies both query arguments by: `1 / (sqrt 96 · log 2)`. -/
def scale : EReal := Ideal.div 1 (Ideal.sqrt (Ideal.ofBits .f32 0x42C00000#32) * Ideal.log (Ideal.ofBits .f32 0x40000000#32))

theorem scale_real : scale = ((1 / (√96 * Real.log 2) : ℝ) : EReal) := by
  have e96 : Ideal.ofBits .f32 0x42C00000#32 = ((96 : ℝ) : EReal) := by
    simp [Ideal.ofBits, Ideal.ieee, -EReal.coe_mul]; norm_num
  have e2 : Ideal.ofBits .f32 0x40000000#32 = ((2 : ℝ) : EReal) := by
    simp [Ideal.ofBits, Ideal.ieee, -EReal.coe_mul]; norm_num
  have hne : √96 * Real.log 2 ≠ 0 := by positivity
  unfold scale
  rw [e96, e2, Ideal.sqrt_coe, Ideal.log_coe, if_neg (by norm_num), if_neg (by norm_num), ← EReal.coe_mul, Ideal.div_coe hne,
    one_mul]

/-- The staged latent queries, at an index: the argument's entry times the scale. -/
theorem ql_at (c : Dev nD) (r : Fin 16384) (j : Fin 1024) :
    (V m c main_v7 : FVec Ideal S16384x1024 .bf16) (ix2 r j)
      = (qlat m c
          (ix4 ⟨r.val / 4096, by omega⟩ ⟨r.val % 4096, by omega⟩ ⟨j.val / 128, by omega⟩ ⟨j.val % 128, by omega⟩) : EReal) * scale := by
  unfold V scale
  after_reads_at

/-- The staged position queries, at an index: the argument's entry (its two halves laid out before the heads) times the scale. -/
theorem qp_at (c : Dev nD) (r : Fin 16384) (j : Fin 256) :
    (V m c main_v13 : FVec Ideal S16384x256 .bf16) (ix2 r j)
      = (qpos m c
          (ix4 ⟨r.val / 4096, by omega⟩ ⟨r.val % 4096, by omega⟩ ⟨j.val / 16 % 8, by omega⟩ ⟨j.val / 128 * 16 + j.val % 16, by omega⟩) : EReal)
        * scale := by
  unfold V scale
  after_reads_at

/-- The staged keys, at an index: the latent's 128 columns, then the 32 of the position part. -/
theorem kcat_at (c : Dev nD) (b : Fin 4) (s : Fin 4096) (d : Fin 160) :
    (V m c main_v16 : FVec Ideal S4x4096x160 .bf16) (ix3 b s d)
      = if h : d.val < 128 then klat m c (ix3 b s ⟨d.val, h⟩)
        else kpos m c (ix3 b s ⟨d.val - 128, by omega⟩) := by
  unfold V
  after_reads_at

/-- Where the update of the rows below the values lands: row zero. -/
theorem lands (idx : IVec S1 32) (hidx : (idx (ix1 0)).toInt = 0) (b' b : Fin 4) (s' s : Fin 4096) (r : Fin 16) :
    scatter_S4x16x4096_S1_S4x4096_01_1_1_0.resultIdx? (ix2 b' s') idx = some (ix3 b r s) ↔ (b' = b ∧ s' = s) ∧ r = 0 := by
  have w0 : scatter_S4x16x4096_S1_S4x4096_01_1_1_0.window (ix2 b' s') 0 = b'.val := rfl
  have w1 : scatter_S4x16x4096_S1_S4x4096_01_1_1_0.window (ix2 b' s') 1 = 0 := rfl
  have w2 : scatter_S4x16x4096_S1_S4x4096_01_1_1_0.window (ix2 b' s') 2 = s'.val := rfl
  have s0 : scatter_S4x16x4096_S1_S4x4096_01_1_1_0.start (ix2 b' s') idx 0 = 0 := rfl
  have s1 : scatter_S4x16x4096_S1_S4x4096_01_1_1_0.start (ix2 b' s') idx 1 = 0 := by
    rw [← hidx]
    unfold ScatterDims.start
    rw [dif_pos (by decide)]
    congr 2
    funext a
    match a with
    | ⟨0, _⟩ => exact Subsingleton.elim (α := Fin 1) _ _
  have s2 : scatter_S4x16x4096_S1_S4x4096_01_1_1_0.start (ix2 b' s') idx 2 = 0 := rfl
  rw [Routing.resultIdx?_eq_some]
  constructor
  · intro h
    have h0 := h 0
    have h1 := h 1
    have h2 := h 2
    rw [s0, w0] at h0
    rw [s1, w1] at h1
    rw [s2, w2] at h2
    change _ = ((b.val : ℕ) : ℤ) at h0
    change _ = ((r.val : ℕ) : ℤ) at h1
    change _ = ((s.val : ℕ) : ℤ) at h2
    refine ⟨⟨Fin.ext (by omega), Fin.ext (by omega)⟩, Fin.ext ?_⟩
    show r.val = 0
    omega
  · rintro ⟨⟨rfl, rfl⟩, rfl⟩ a
    match a with
    | ⟨0, _⟩ => show scatter_S4x16x4096_S1_S4x4096_01_1_1_0.start _ _ 0 + (scatter_S4x16x4096_S1_S4x4096_01_1_1_0.window _ 0 : ℕ) = _; rw [s0, w0]; simp
    | ⟨1, _⟩ => show scatter_S4x16x4096_S1_S4x4096_01_1_1_0.start _ _ 1 + (scatter_S4x16x4096_S1_S4x4096_01_1_1_0.window _ 1 : ℕ) = _; rw [s1, w1]; simp
    | ⟨2, _⟩ => show scatter_S4x16x4096_S1_S4x4096_01_1_1_0.start _ _ 2 + (scatter_S4x16x4096_S1_S4x4096_01_1_1_0.window _ 2 : ℕ) = _; rw [s2, w2]; simp

theorem ones_at (b : Fin 4) (r : Fin 16) (s : Fin 4096) :
    (Host.scatter scatter_S4x16x4096_S1_S4x4096_01_1_1_0 (fun _ b => b)
        (broadcastInDim S4x16x4096 ![] bcast_S_S4x16x4096 (constant S_ .bf16 0x0000#16))
        (broadcastInDim S1 ![] bcast_S_S1 (constantI S_ 32 0#32))
        (broadcastInDim S4x4096 ![] bcast_S_S4x4096 (constant S_ .bf16 0x3F80#16)) : FVec Ideal S4x16x4096 .bf16) (ix3 b r s)
      = if r.val = 0 then (1 : EReal) else (0 : EReal) := by
  have one : Ideal.ofBits .bf16 0x3F80#16 = (1 : EReal) := by
    simp [Ideal.ofBits, Ideal.ieee, -EReal.coe_mul]; norm_num
  have zero : Ideal.ofBits .bf16 0x0000#16 = (0 : EReal) := by simp [Ideal.ofBits, Ideal.ieee]
  have hl : ∀ j : S4x4096.Idx, scatter_S4x16x4096_S1_S4x4096_01_1_1_0.resultIdx? j (broadcastInDim S1 ![] bcast_S_S1 (constantI S_ 32 0#32)) = some (ix3 b r s) → r = 0 := by
    intro j hj
    rw [eq_ix2 j] at hj
    exact ((lands _ rfl _ _ _ _ _).1 hj).2
  by_cases h : r = 0
  · rw [if_pos (show r.val = 0 from congrArg Fin.val h), ← one]
    exact Routing.scatter_set_hit _ _ _ _ _ _ (fun j _ => rfl) (ix2 b s) ((lands _ rfl _ _ _ _ _).2 ⟨⟨rfl, rfl⟩, h⟩)
  · rw [if_neg (show ¬r.val = 0 from fun e => h (Fin.ext e)), ← zero]
    exact Routing.scatter_set_miss _ _ _ _ _ fun j hj => h (hl j hj)

theorem latent (c : Dev nD) (b : Fin 4) (s : Fin 4096) (d : Fin 128) :
    (StableHlo.upto hostOps0 (fun b => m (c, b)) 19 (Proc.tc.devRef main_v14) : FVec Ideal S4x4096x128 .bf16) (ix3 b s d)
      = klat m c (ix3 b s d) := by
  after_reads_at

/-- The staged values, at an index: the latent transposed, below it a row of ones, below that zeros. -/
theorem vt_at (c : Dev nD) (b : Fin 4) (r : Fin 144) (s : Fin 4096) :
    (V m c main_v23 : FVec Ideal S4x144x4096 .bf16) (ix3 b r s)
      = if h : r.val < 128 then klat m c (ix3 b s ⟨r.val, h⟩)
        else if r.val = 128 then (1 : EReal) else (0 : EReal) := by
  unfold V
  after_reads_at
  by_cases h : r.val < 128
  · rw [dif_pos h, dif_pos h, dif_pos h]
    exact latent m c b s _
  · rw [dif_neg h, dif_neg h]
    refine (ones_at b _ s).trans ?_
    have : (r.val - 128 = 0) ↔ r.val = 128 := by omega
    simp only [this]

/-! ## The blocks a grid point stages -/

/-- Where the grid point `t` is: batch `t / 8`, query tile `t % 8`; and which blocks it stages. -/
theorem at_point : ∀ t : Fin grid0.N, ((grid0.coords t 1).val = t.val % 8)
    ∧ (win0_0.index t 0 = t.val ∧ win0_0.index t 1 = 0) ∧ (win0_1.index t 0 = t.val ∧ win0_1.index t 1 = 0)
    ∧ (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_4.index t 0 = t.val ∧ win0_4.index t 1 = 0) := by decide +kernel

theorem points : cfg0.N = 32 := N_0

theorem iblk0 (c : Dev nD) (t : Fin cfg0.N) (r : Fin 512) (j : Fin 1024) :
    (iblk m c 0 t : FVec Ideal S512x1024 .bf16) (ix2 r j)
      = (V m c main_v7 : FVec Ideal S16384x1024 .bf16) (ix2 ⟨512 * t.val + r.val, by have := t.isLt; have := points; omega⟩ j) := by
  have hi := (at_point t).2.1
  unfold iblk
  rw [View.read_apply]
  refine congrArg (V m c main_v7 : FVec Ideal S16384x1024 .bf16) (funext fun a => Fin.ext ?_)
  match a with
  | ⟨0, _⟩ => show win0_0.index t 0 * 512 + 1 * r.val = 512 * t.val + r.val; rw [hi.1]; omega
  | ⟨1, _⟩ => show win0_0.index t 1 * 1024 + 1 * j.val = j.val; rw [hi.2]; omega

theorem iblk1 (c : Dev nD) (t : Fin cfg0.N) (r : Fin 512) (j : Fin 256) :
    (iblk m c 1 t : FVec Ideal S512x256 .bf16) (ix2 r j)
      = (V m c main_v13 : FVec Ideal S16384x256 .bf16) (ix2 ⟨512 * t.val + r.val, by have := t.isLt; have := points; omega⟩ j) := by
  have hi := (at_point t).2.2.1
  unfold iblk
  rw [View.read_apply]
  refine congrArg (V m c main_v13 : FVec Ideal S16384x256 .bf16) (funext fun a => Fin.ext ?_)
  match a with
  | ⟨0, _⟩ => show win0_1.index t 0 * 512 + 1 * r.val = 512 * t.val + r.val; rw [hi.1]; omega
  | ⟨1, _⟩ => show win0_1.index t 1 * 256 + 1 * j.val = j.val; rw [hi.2]; omega

theorem iblk2 (c : Dev nD) (t : Fin cfg0.N) (z : Fin 1) (s : Fin 4096) (d : Fin 160) :
    (iblk m c 2 t : FVec Ideal S1x4096x160 .bf16) (ix3 z s d)
      = (V m c main_v16 : FVec Ideal S4x4096x160 .bf16) (ix3 ⟨t.val / 8, by have := t.isLt; have := points; omega⟩ s d) := by
  have hi := (at_point t).2.2.2.1
  unfold iblk
  rw [View.read_apply]
  refine congrArg (V m c main_v16 : FVec Ideal S4x4096x160 .bf16) (funext fun a => Fin.ext ?_)
  match a with
  | ⟨0, _⟩ => show win0_2.index t 0 * 1 + 1 * z.val = t.val / 8; rw [hi.1]; omega
  | ⟨1, _⟩ => show win0_2.index t 1 * 4096 + 1 * s.val = s.val; rw [hi.2.1]; omega
  | ⟨2, _⟩ => show win0_2.index t 2 * 160 + 1 * d.val = d.val; rw [hi.2.2]; omega

theorem iblk3 (c : Dev nD) (t : Fin cfg0.N) (z : Fin 1) (r : Fin 144) (s : Fin 4096) :
    (iblk m c 3 t : FVec Ideal S1x144x4096 .bf16) (ix3 z r s)
      = (V m c main_v23 : FVec Ideal S4x144x4096 .bf16) (ix3 ⟨t.val / 8, by have := t.isLt; have := points; omega⟩ r s) := by
  have hi := (at_point t).2.2.2.2.1
  unfold iblk
  rw [View.read_apply]
  refine congrArg (V m c main_v23 : FVec Ideal S4x144x4096 .bf16) (funext fun a => Fin.ext ?_)
  match a with
  | ⟨0, _⟩ => show win0_3.index t 0 * 1 + 1 * z.val = t.val / 8; rw [hi.1]; omega
  | ⟨1, _⟩ => show win0_3.index t 1 * 144 + 1 * r.val = r.val; rw [hi.2.1]; omega
  | ⟨2, _⟩ => show win0_3.index t 2 * 4096 + 1 * s.val = s.val; rw [hi.2.2]; omega

end Cert.KernelIdeal.Args
-- ==== Proof.KernelValue.lean ====
/-
  What the kernel's program leaves in its result array, from finite arguments: the real attention.
-/
module

public import proofs.«01_k».proof.Proof.Attn
public import proofs.«01_k».proof.Proof.Tiles
public import proofs.«01_k».proof.Proof.Args

@[expose] public section

noncomputable section

namespace Cert.KernelIdeal.Result

open Cert.KernelIdeal Cert.KernelIdeal.Gen Cert.KernelIdeal.Args Cert.KernelIdeal.Body Cert.KernelIdeal.Value
open Idealize.ShloMosaic Idealize.ShloMosaic.TcCoe
open Idealize.ShloMosaic.Pipeline (Dat)

theorem ix4_ext {n0 n1 n2 n3 : ℕ} {a a' : Fin n0} {b b' : Fin n1} {c c' : Fin n2} {d d' : Fin n3}
    (ha : a.val = a'.val) (hb : b.val = b'.val) (hc : c.val = c'.val) (hd : d.val = d'.val) :
    (ix4 a b c d : Shape.Idx ⟨4, ![n0, n1, n2, n3]⟩) = ix4 a' b' c' d' := by
  obtain rfl := Fin.ext ha; obtain rfl := Fin.ext hb; obtain rfl := Fin.ext hc; obtain rfl := Fin.ext hd; rfl

variable (m : (ℓ : Loc nD τ sig) → Buf (Elt Ideal) ℓ) (c : Dev nD)
  (ql : Fin 4 → Fin 4096 → Fin 8 → Fin 128 → ℝ) (qp : Fin 4 → Fin 4096 → Fin 8 → Fin 32 → ℝ)
  (kl : Fin 4 → Fin 4096 → Fin 128 → ℝ) (kp : Fin 4 → Fin 4096 → Fin 32 → ℝ)

/-- The four arguments hold the given reals. -/
structure Holds : Prop where
  hql : ∀ b t h d, qlat m c (ix4 b t h d) = ((ql b t h d : ℝ) : EReal)
  hqp : ∀ b t h d, qpos m c (ix4 b t h d) = ((qp b t h d : ℝ) : EReal)
  hkl : ∀ b s d, klat m c (ix3 b s d) = ((kl b s d : ℝ) : EReal)
  hkp : ∀ b s d, kpos m c (ix3 b s d) = ((kp b s d : ℝ) : EReal)

/-- The result entry of row `r` (batch and token) and column `j` (head and latent column). -/
def entry (r : Fin 16384) (j : Fin 1024) : EReal :=
  ((Attn.attend (Attn.dot ql qp kl kp ⟨r.val / 4096, by omega⟩ ⟨j.val / 128, by omega⟩ ⟨r.val % 4096, by omega⟩)
    ⟨r.val % 4096, by omega⟩ (fun s => kl ⟨r.val / 4096, by omega⟩ s ⟨j.val % 128, by omega⟩) : ℝ) : EReal)

variable {m c ql qp kl kp}

/-- A key's row of the staged keys, and a query's column of the scratch, as reals. -/
def keyRow (kl : Fin 4 → Fin 4096 → Fin 128 → ℝ) (kp : Fin 4 → Fin 4096 → Fin 32 → ℝ) (b : Fin 4) (s : Fin 4096) (d : Fin 160) : ℝ :=
  if h : d.val < 128 then kl b s ⟨d.val, h⟩ else kp b s ⟨d.val - 128, by omega⟩

def queryCol (ql : Fin 4 → Fin 4096 → Fin 8 → Fin 128 → ℝ) (qp : Fin 4 → Fin 4096 → Fin 8 → Fin 32 → ℝ) (b : Fin 4) (h : Fin 8)
    (t : Fin 4096) (d : Fin 160) : ℝ :=
  (if hd : d.val < 128 then ql b t h ⟨d.val, hd⟩ else qp b t h ⟨d.val - 128, by omega⟩) * (1 / (√96 * Real.log 2))

theorem row_col (b : Fin 4) (h : Fin 8) (t s : Fin 4096) :
    ∑ d : Fin 160, keyRow kl kp b s d * queryCol ql qp b h t d = Attn.dot ql qp kl kp b h t s * (1 / (√96 * Real.log 2)) := by
  rw [show (∑ d : Fin 160, keyRow kl kp b s d * queryCol ql qp b h t d) = ∑ d : Fin (128 + 32), keyRow kl kp b s d * queryCol ql qp b h t d from rfl,
    Fin.sum_univ_add]
  unfold Attn.dot
  rw [add_mul, Finset.sum_mul, Finset.sum_mul]
  congr 1
  · refine Finset.sum_congr rfl fun d _ => ?_
    have hd : (Fin.castAdd 32 d).val < 128 := d.isLt
    unfold keyRow queryCol
    rw [dif_pos hd, dif_pos hd]
    exact (mul_assoc _ _ _).symm
  · refine Finset.sum_congr rfl fun d _ => ?_
    have hd : ¬(Fin.natAdd 128 d).val < 128 := by simp
    have he : (⟨(Fin.natAdd 128 d).val - 128, by simp⟩ : Fin 32) = d := Fin.ext (by simp)
    unfold keyRow queryCol
    rw [dif_neg hd, dif_neg hd, he]
    exact (mul_assoc _ _ _).symm

theorem keys_real (H : Holds m c ql qp kl kp) (t : Fin cfg0.N) (b : Fin 4) (hb : b.val = t.val / 8) (s : Fin 4096) (d : Fin 160) :
    (iblk m c 2 t : FVec Ideal S1x4096x160 .bf16) (ix3 0 s d) = ((keyRow kl kp b s d : ℝ) : EReal) := by
  rw [iblk2]
  rw [show (⟨t.val / 8, by have := t.isLt; have := points; omega⟩ : Fin 4) = b from Fin.ext hb.symm, kcat_at]
  unfold keyRow
  by_cases h : d.val < 128
  · rw [dif_pos h, dif_pos h, H.hkl]
  · rw [dif_neg h, dif_neg h, H.hkp]

theorem query_real (H : Holds m c ql qp kl kp) (t : Fin cfg0.N) (b : Fin 4) (hb : b.val = t.val / 8) (h : Fin 8) (k : Fin 4096) (a : Fin 512)
    (hk : k.val = 512 * (t.val % 8) + a.val) (l : Fin 4096) (hl : l.val = 512 * h.val + a.val) (d : Fin 160) :
    queries (iblk m c 0 t) (iblk m c 1 t) (ix2 d l) = ((queryCol ql qp b h k d : ℝ) : EReal) := by
  have ht : t.val < 32 := by have := t.isLt; have := points; omega
  rw [queries_at]
  unfold queryCol
  by_cases hd : d.val < 128
  · rw [dif_pos hd, dif_pos hd, EReal.coe_mul, ← H.hql, ← scale_real, iblk0, ql_at]
    exact congrArg (fun x => (qlat m c x : EReal) * scale) (ix4_ext (by dsimp only; omega) (by dsimp only; omega) (by dsimp only; omega) (by dsimp only; omega))
  · rw [dif_neg hd, dif_neg hd, EReal.coe_mul, ← H.hqp, ← scale_real, iblk1, qp_at]
    exact congrArg (fun x => (qpos m c x : EReal) * scale) (ix4_ext (by dsimp only; omega) (by dsimp only; omega) (by dsimp only; omega) (by dsimp only; omega))

/-- The staged values as reals: the latent's column, then ones, then zeros. -/
def valRow (kl : Fin 4 → Fin 4096 → Fin 128 → ℝ) (b : Fin 4) (r : Fin 144) (s : ℕ) : ℝ :=
  if hs : s < 4096 then (if h : r.val < 128 then kl b ⟨s, hs⟩ ⟨r.val, h⟩ else if r.val = 128 then 1 else 0) else 0

theorem vals_real (H : Holds m c ql qp kl kp) (t : Fin cfg0.N) (b : Fin 4) (hb : b.val = t.val / 8) (r : Fin 144) (s : Fin 4096) :
    (iblk m c 3 t : FVec Ideal S1x144x4096 .bf16) (ix3 0 r s) = ((valRow kl b r s.val : ℝ) : EReal) := by
  rw [iblk3]
  rw [show (⟨t.val / 8, by have := t.isLt; have := points; omega⟩ : Fin 4) = b from Fin.ext hb.symm, vt_at]
  unfold valRow
  rw [dif_pos s.isLt]
  by_cases h : r.val < 128
  · rw [dif_pos h, dif_pos h, H.hkl]
  · rw [dif_neg h, dif_neg h]
    by_cases h' : r.val = 128
    · rw [if_pos h', if_pos h']; rfl
    · rw [if_neg h', if_neg h']; rfl

/-- What grid point `t` writes: row `a` of its block is token `512 (t % 8) + a` of batch `t / 8`. -/
theorem point_at (H : Holds m c ql qp kl kp) (t : Fin cfg0.N) (n : ℕ) (hn : n < 8) (e : n = t.val % 8) (a : Fin 512) (j : Fin 1024) :
    outBlock (sums (queries (iblk m c 0 t) (iblk m c 1 t)) (iblk m c 2 t) (iblk m c 3 t) n hn) (ix2 a j)
      = entry ql qp kl kp ⟨512 * t.val + a.val, by have := t.isLt; have := points; omega⟩ j := by
  have ht : t.val < 32 := by have := t.isLt; have := points; omega
  set b : Fin 4 := ⟨t.val / 8, by omega⟩ with hb
  set h : Fin 8 := ⟨j.val / 128, by omega⟩ with hh
  set k : Fin 4096 := ⟨512 * (t.val % 8) + a.val, by omega⟩ with hk
  set l : Fin 4096 := ⟨512 * (j.val / 128) + a.val, by omega⟩ with hl
  rw [outBlock_at]
  have key := mean_at (queries (iblk m c 0 t) (iblk m c 1 t)) (iblk m c 2 t) (iblk m c 3 t) l
    (fun s => if hs : s < 4096 then Attn.dot ql qp kl kp b h k ⟨s, hs⟩ * (1 / (√96 * Real.log 2)) else 0) (valRow kl b)
    (fun s => by
      beta_reduce
      rw [dif_pos s.isLt, ← row_col, ← Online.coe_dot]
      exact Finset.sum_congr rfl fun d _ => by rw [keys_real H t b rfl, query_real H t b rfl h k a rfl l rfl])
    (fun r s => vals_real H t b rfl r s) n hn (fun s => by unfold valRow; rw [dif_pos s.isLt, dif_neg (by decide), if_pos (show (128 : Fin 144).val = 128 from rfl)])
    (Attn.dot ql qp kl kp b h k) k (by show 512 * (t.val % 8) + a.val = 512 * n + (512 * (j.val / 128) + a.val) % 512; omega)
    (fun s => by beta_reduce; rw [dif_pos s.isLt]; exact Attn.two_base _) ⟨j.val % 128, by omega⟩
  refine key.trans ?_
  unfold entry
  have eb : (⟨(512 * t.val + a.val) / 4096, by omega⟩ : Fin 4) = b := Fin.ext (by rw [hb]; dsimp only; omega)
  have ek : (⟨(512 * t.val + a.val) % 4096, by omega⟩ : Fin 4096) = k := Fin.ext (by rw [hk]; dsimp only; omega)
  have ev : (fun s : Fin 4096 => valRow kl b ⟨j.val % 128, by omega⟩ s.val) = fun s => kl b s ⟨j.val % 128, by omega⟩ := funext fun s => by
    unfold valRow
    rw [dif_pos s.isLt, dif_pos (show j.val % 128 < 128 from by omega)]
  dsimp only
  rw [eb, ek, ev]

/-- The result array. -/
def result (ql : Fin 4 → Fin 4096 → Fin 8 → Fin 128 → ℝ) (qp : Fin 4 → Fin 4096 → Fin 8 → Fin 32 → ℝ)
    (kl : Fin 4 → Fin 4096 → Fin 128 → ℝ) (kp : Fin 4 → Fin 4096 → Fin 32 → ℝ) : FVec Ideal S16384x1024 .bf16 :=
  fun i => entry ql qp kl kp (i 0) (i 1)

theorem flushed_eq (H : Holds m c ql qp kl kp) (t : Fin cfg0.N) (hf : (cfg0.win 4).flush t = true) :
    (dats m 0 c).flushed 4 t = ((cfg0.win 4).blk t).view.read (Elt Ideal) (result ql qp kl kp) := by
  have hi := (at_point t).2.2.2.2.2
  rw [flushed4_A, out_eq c (grid0.coords t) ⟨ms0_0 t, hs0_0 t, ms0_1 t, hs0_1 t, ms0_2 t, hs0_2 t, ms0_3 t, hs0_3 t, ms0_4 t, hs0_4 t,
    scM0_0, Memref.isWhole_whole _, scM0_1, Memref.isWhole_whole _, scM0_2, Memref.isWhole_whole _⟩]
  refine funext fun (i : S512x1024.Idx) => ?_
  rw [eq_ix2 i, View.read_apply]
  refine (point_at H t _ (show (grid0.coords t 1).val < 8 from (grid0.coords t 1).isLt) (at_point t).1 (i 0) (i 1)).trans ?_
  refine congrArg₂ (entry ql qp kl kp) (Fin.ext ?_) (Fin.ext ?_)
  · show 512 * t.val + (i 0).val = win0_4.index t 0 * 512 + 1 * (i 0).val; rw [hi.1]; omega
  · show (i 1).val = win0_4.index t 1 * 1024 + 1 * (i 1).val; rw [hi.2]; omega

theorem array_eq (H : Holds m c ql qp kl kp) : (dats m 0 c).arrAt 4 cfg0.N = result ql qp kl kp :=
  (dats m 0 c).arrAt_eq_of_cover 4 (result ql qp kl kp) (flushed_eq H) fun i => by
    have h0 : (i 0 : Nat) < 16384 := (i 0).isLt
    have h1 : (i 1 : Nat) < 1024 := (i 1).isLt
    have ht : (i 0 : Nat) / 512 < cfg0.N := lt_of_lt_of_eq (show (i 0 : Nat) / 512 < 32 by omega) points.symm
    refine ⟨⟨(i 0 : Nat) / 512, ht⟩, flush0_4 _, ?_⟩
    have hi := (at_point ⟨(i 0 : Nat) / 512, ht⟩).2.2.2.2.2
    show i ∈ ((View.whole main_v24).slice (win0_4.rect ⟨(i 0 : Nat) / 512, ht⟩)).set
    rw [View.set_slice_whole, Rect.mem_set_unit]
    intro a
    match a with
    | ⟨0, _⟩ => show win0_4.index ⟨(i 0 : Nat) / 512, ht⟩ 0 * 512 ≤ (i 0 : Nat) ∧ (i 0 : Nat) < win0_4.index ⟨(i 0 : Nat) / 512, ht⟩ 0 * 512 + 512
                rw [hi.1]; dsimp only; omega
    | ⟨1, _⟩ => show win0_4.index ⟨(i 0 : Nat) / 512, ht⟩ 1 * 1024 ≤ (i 1 : Nat) ∧ (i 1 : Nat) < win0_4.index ⟨(i 0 : Nat) / 512, ht⟩ 1 * 1024 + 1024
                rw [hi.2]; omega

end Cert.KernelIdeal.Result
-- ==== Proof.RefRead.lean ====
/-
  The reference at one index, over the extended reals.
-/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe

/-- The masked scores of all queries against all keys. -/
def masked (q : FVec Ideal S4x4096x8x128 .f32) (pe : FVec Ideal S4x4096x8x32 .f32) (ckv : FVec Ideal S4x4096x128 .f32)
    (kpe : FVec Ideal S4x4096x32 .f32) : FVec Ideal S4x8x4096x4096 .f32 :=
  select (broadcastInDim S4x8x4096x4096 ![2, 3] bcast_S4096x4096_S4x8x4096x4096_2_3 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))
    (Host.divf (addf (transpose S4x8x4096x4096 [0, 3, 2, 1] (Host.dotGeneral dot_S4x4096x128_S4x4096x8x128_S4x4096x4096x8_2_3_1_12_0_0 none ckv q) transposes_S4x4096x4096x8_S4x8x4096x4096_0_3_2_1)
        (transpose S4x8x4096x4096 [0, 3, 2, 1] (Host.dotGeneral dot_S4x4096x32_S4x4096x8x32_S4x4096x4096x8_2_3_1_12_0_0 none kpe pe) transposes_S4x4096x4096x8_S4x8x4096x4096_0_3_2_1))
      (broadcastInDim S4x8x4096x4096 ![] bcast_S_S4x8x4096x4096 (Host.sqrt (constant S_ .f32 0x42C00000#32))))
    (broadcastInDim S4x8x4096x4096 ![] bcast_S_S4x8x4096x4096 (id (constant S_ .f32 0xFF800000#32)))

/-- The largest score of each query. -/
def maxima (x : FVec Ideal S4x8x4096x4096 .f32) : FVec Ideal S4x8x4096 .f32 :=
  maximumf (broadcastInDim S4x8x4096 ![] bcast_S_S4x8x4096 (constant S_ .f32 0xFF800000#32))
    (Host.reduce FloatOps.maximumf x (constant S_ .f32 0xFF800000#32) reducesTo_S4x8x4096x4096_S4x8x4096_d3 h_S_)

/-- The exponentials relative to it. -/
def expd (x : FVec Ideal S4x8x4096x4096 .f32) : FVec Ideal S4x8x4096x4096 .f32 :=
  Host.exp (subf x (broadcastInDim S4x8x4096x4096 ![0, 1, 2, 3] bcast_S4x8x4096x1_S4x8x4096x4096_0_1_2_3
    (broadcastInDim S4x8x4096x1 ![0, 1, 2] bcast_S4x8x4096_S4x8x4096x1_0_1_2 (maxima x))))

/-- Their sums. -/
def sums (e : FVec Ideal S4x8x4096x4096 .f32) : FVec Ideal S4x8x4096 .f32 :=
  Host.reduceAdd e (constant S_ .f32 0x00000000#32) reducesTo_S4x8x4096x4096_S4x8x4096_d3 h_S_

/-- The values weighted by the quotients. -/
def weighted (ckv : FVec Ideal S4x4096x128 .f32) (e : FVec Ideal S4x8x4096x4096 .f32) : FVec Ideal S16384x1024 .bf16 :=
  truncf .bf16 (shapeCast _ (transpose S4x4096x8x128 [0, 3, 2, 1] (Host.dotGeneral dot_S4x4096x128_S4x8x4096x4096_S4x128x8x4096_1_3_2_12_0_0 none ckv
    (Host.divf e (broadcastInDim S4x8x4096x4096 ![0, 1, 2, 3] bcast_S4x8x4096x1_S4x8x4096x4096_0_1_2_3 (broadcastInDim S4x8x4096x1 ![0, 1, 2] bcast_S4x8x4096_S4x8x4096x1_0_1_2
      (sums e))))) transposes_S4x128x8x4096_S4x4096x8x128_0_3_2_1) shapeCasts_S4x4096x8x128_S16384x1024) bitsLt_bf16_f32

theorem res_eq (m : (ℓ : Loc nD τ sig) → Buf (Elt Ideal) ℓ) (c : Dev nD) :
    res_main_v29 (F := Ideal) m c = weighted (m ((c.tc : Thread nD τ).loc main_arg2)) (expd (masked (m ((c.tc : Thread nD τ).loc main_arg0))
      (m ((c.tc : Thread nD τ).loc main_arg1)) (m ((c.tc : Thread nD τ).loc main_arg2)) (m ((c.tc : Thread nD τ).loc main_arg3)))) := rfl

theorem ofBits_neg_inf : Ideal.ofBits .f32 0xFF800000#32 = (⊥ : EReal) := by
  simp [Ideal.ofBits, Ideal.ieee]

theorem ofBits_96 : Ideal.ofBits .f32 0x42C00000#32 = ((96 : ℝ) : EReal) := by
  simp [Ideal.ofBits, Ideal.ieee, -EReal.coe_mul]; norm_num

theorem toInt_small (n : ℕ) (h : n < 4096) : (BitVec.ofNat 32 n).toInt = n := by
  rw [BitVec.toInt_eq_toNat_of_lt] <;> simp [BitVec.toNat_ofNat] <;> omega

theorem mask_at (t s : ℕ) (ht : t < 4096) (hs : s < 4096) (x y : EReal) :
    Scalar.select (IntOp.cmpi .sge (BitVec.ofNat 32 t) (BitVec.ofNat 32 s)) x y = if s ≤ t then x else y := by
  have e : (IntOp.cmpi .sge (BitVec.ofNat 32 t) (BitVec.ofNat 32 s)) = BitVec.ofBool (decide (s ≤ t)) := by
    show BitVec.ofBool (BitVec.sle _ _) = _
    congr 1
    simp [BitVec.sle, toInt_small s hs, toInt_small t ht]
  rw [e]
  by_cases h : s ≤ t <;> simp [h, Scalar.select]

/-- A score: the two inner products over the root of 96, at a key no later than the query. -/
theorem masked_at (q : FVec Ideal S4x4096x8x128 .f32) (pe : FVec Ideal S4x4096x8x32 .f32) (ckv : FVec Ideal S4x4096x128 .f32)
    (kpe : FVec Ideal S4x4096x32 .f32) (b : Fin 4) (h : Fin 8) (t s : Fin 4096) :
    masked q pe ckv kpe (ix4 b h t s) = if s.val ≤ t.val then
      Ideal.div (∑ x : Fin 128, ckv (ix3 b s x) * q (ix4 b t h x) + ∑ x : Fin 32, kpe (ix3 b s x) * pe (ix4 b t h x))
        (Ideal.sqrt ((96 : ℝ) : EReal)) else ⊥ := by
  pointwise [masked]
  rw [mask_at t.val s.val t.isLt s.isLt, ofBits_96]
  exact congrArg (fun y => if s.val ≤ t.val then _ else y) ofBits_neg_inf

theorem lastMax {n0 n1 n2 n3 : ℕ} (x : FVec Ideal ⟨4, ![n0, n1, n2, n3]⟩ .f32) (c : FVec Ideal S_ .f32)
    (hr : (⟨4, ![n0, n1, n2, n3]⟩ : Shape).ReducesTo [3] ⟨3, ![n0, n1, n2]⟩) (hu) (b : Fin n0) (h : Fin n1) (t : Fin n2) :
    Host.reduce FloatOps.maximumf x c hr hu (ix3 b h t)
      = Finset.univ.fold (max : EReal → EReal → EReal) (c (Shape.Idx.first hu)) fun k : Fin n3 => x (ix4 b h t k) := by
  rw [Host.reduce_eq_fold, Shape.ReducesTo.fold_fiber_r4_a3]
  rfl

theorem lastSum {n0 n1 n2 n3 : ℕ} (x : FVec Ideal ⟨4, ![n0, n1, n2, n3]⟩ .f32) (c : FVec Ideal S_ .f32)
    (hr : (⟨4, ![n0, n1, n2, n3]⟩ : Shape).ReducesTo [3] ⟨3, ![n0, n1, n2]⟩) (hu) (b : Fin n0) (h : Fin n1) (t : Fin n2) :
    Host.reduceAdd x c hr hu (ix3 b h t)
      = (c (Shape.Idx.first hu) : EReal) + ∑ k : Fin n3, x (ix4 b h t k) := by
  rw [Host.reduceAdd_apply, Ideal.hostReduceAdd_def, Ideal.hostReduceAdd_r4_a3]
  rfl

theorem maxima_at (x : FVec Ideal S4x8x4096x4096 .f32) (b : Fin 4) (h : Fin 8) (t : Fin 4096) :
    maxima x (ix3 b h t) = max ⊥ (Finset.univ.fold max (⊥ : EReal) fun s : Fin 4096 => x (ix4 b h t s)) := by
  unfold maxima
  rw [maximumf_apply, lastMax]
  show max (Ideal.ofBits .f32 0xFF800000#32) (Finset.univ.fold max (Ideal.ofBits .f32 0xFF800000#32) _) = _
  rw [ofBits_neg_inf]

theorem expd_at (x : FVec Ideal S4x8x4096x4096 .f32) (b : Fin 4) (h : Fin 8) (t s : Fin 4096) :
    expd x (ix4 b h t s) = Ideal.exp (x (ix4 b h t s) - maxima x (ix3 b h t)) := by
  pointwise [expd]

theorem sums_at (e : FVec Ideal S4x8x4096x4096 .f32) (b : Fin 4) (h : Fin 8) (t : Fin 4096) :
    sums e (ix3 b h t) = 0 + ∑ s : Fin 4096, e (ix4 b h t s) := by
  unfold sums
  rw [lastSum]
  exact congrArg (· + _) Ideal.ofBits_zero_f32

/-- A result: the weighted sum of the latent values, each weight a quotient. -/
theorem weighted_at (ckv : FVec Ideal S4x4096x128 .f32) (e : FVec Ideal S4x8x4096x4096 .f32) (r : Fin 16384) (j : Fin 1024) :
    weighted ckv e (ix2 r j) = ∑ s : Fin 4096, ckv (ix3 ⟨r.val / 4096, by omega⟩ s ⟨j.val % 128, by omega⟩)
      * Ideal.div (e (ix4 ⟨r.val / 4096, by omega⟩ ⟨j.val / 128, by omega⟩ ⟨r.val % 4096, by omega⟩ s))
          (sums e (ix3 ⟨r.val / 4096, by omega⟩ ⟨j.val / 128, by omega⟩ ⟨r.val % 4096, by omega⟩)) := by
  pointwise [weighted]

end Cert.ReferenceIdeal.Read
-- ==== Proof.RefValue.lean ====
/-
  What the reference leaves in its result array, from finite arguments: the real attention; and what the precondition says.
-/
module

public import proofs.«01_k».proof.Proof.Attn
public import proofs.«01_k».proof.Proof.RefRead
public import proofs.«01_k».proof.Pre_finite
public import Idealize.ShloMosaic.Lib.ReduceAll

@[expose] public section

noncomputable section

namespace Cert.Pre_finite

open Idealize.ShloMosaic Idealize.ShloMosaic.TcCoe

theorem facts : Facts where
  bcast_S_S4x4096x8x128 := by decide
  reducesTo_S4x4096x8x128_S_d0_1_2_3 := by decide
  h_S_ := by decide
  bcast_S_S4x4096x8x32 := by decide
  reducesTo_S4x4096x8x32_S_d0_1_2_3 := by decide
  bcast_S_S4x4096x128 := by decide
  reducesTo_S4x4096x128_S_d0_1_2 := by decide
  bcast_S_S4x4096x32 := by decide
  reducesTo_S4x4096x32_S_d0_1_2 := by decide

theorem ofBits_inf : Ideal.ofBits .f32 0x7F800000#32 = (⊤ : EReal) := by
  simp [Ideal.ofBits, Ideal.ieee]

/-- An extended real of absolute value below `⊤` is its own real part. -/
theorem real_of_lt (x : EReal) (h : max x (-x) < ⊤) : x = ((x.toReal : ℝ) : EReal) := by
  induction x with
  | bot => exact absurd h (by simp)
  | top => exact absurd h (by simp)
  | coe r => rfl

/-- An array whose entries' test is one everywhere holds reals. -/
theorem real_of_test {s : Shape} (x : FVec Ideal s .f32) (y : FVec Ideal s .f32) (hy : ∀ i, y i = (⊤ : EReal)) (i : s.Idx)
    (h : cmpf .olt (Host.absf x) y i = 1#1) : x i = (((x i : EReal).toReal : ℝ) : EReal) := by
  refine real_of_lt _ ?_
  rw [← hy i]
  by_contra hn
  have : cmpf .olt (Host.absf x) y i = 0#1 := by
    show BitVec.ofBool (decide (max (x i : EReal) (-(x i : EReal)) < y i)) = 0#1
    rw [decide_eq_false hn]; rfl
  rw [this] at h
  exact absurd h (by decide)

attribute [local instance] facts

/-- The precondition says that every entry of the four arguments is real. -/
theorem reals (a0 : FVec Ideal S4x4096x8x128 .f32) (a1 : FVec Ideal S4x4096x8x32 .f32) (a2 : FVec Ideal S4x4096x128 .f32)
    (a3 : FVec Ideal S4x4096x32 .f32) (i0 : S_.Idx) (h : fn (F := Ideal) a0 a1 a2 a3 i0 = 1#1) :
    (∀ i, a0 i = (((a0 i : EReal).toReal : ℝ) : EReal)) ∧ (∀ i, a1 i = (((a1 i : EReal).toReal : ℝ) : EReal))
    ∧ (∀ i, a2 i = (((a2 i : EReal).toReal : ℝ) : EReal)) ∧ ∀ i, a3 i = (((a3 i : EReal).toReal : ℝ) : EReal) := by
  unfold fn fn_part1 at h
  dsimp only at h
  have split : ∀ {x y : BitVec 1}, IntOp.andi x y = 1#1 → x = 1#1 ∧ y = 1#1 := by decide
  obtain ⟨h, h3⟩ := split h
  obtain ⟨h, h2⟩ := split h
  obtain ⟨h0, h1⟩ := split h
  exact ⟨fun i => real_of_test a0 _ (fun _ => ofBits_inf) i (Host.reduce_andi_all _ _ _ _ _ h0 i),
    fun i => real_of_test a1 _ (fun _ => ofBits_inf) i (Host.reduce_andi_all _ _ _ _ _ h1 i),
    fun i => real_of_test a2 _ (fun _ => ofBits_inf) i (Host.reduce_andi_all _ _ _ _ _ h2 i),
    fun i => real_of_test a3 _ (fun _ => ofBits_inf) i (Host.reduce_andi_all _ _ _ _ _ h3 i)⟩

end Cert.Pre_finite

namespace Cert.ReferenceIdeal.Read

open Cert.ReferenceIdeal Cert.ReferenceIdeal.Gen Cert.ReferenceIdeal.Value
open Idealize.ShloMosaic Idealize.ShloMosaic.TcCoe

/-- The reference's entry, from real arguments. -/
theorem entry_eq (q : FVec Ideal S4x4096x8x128 .f32) (pe : FVec Ideal S4x4096x8x32 .f32) (ckv : FVec Ideal S4x4096x128 .f32)
    (kpe : FVec Ideal S4x4096x32 .f32) (ql : Fin 4 → Fin 4096 → Fin 8 → Fin 128 → ℝ) (qp : Fin 4 → Fin 4096 → Fin 8 → Fin 32 → ℝ)
    (kl : Fin 4 → Fin 4096 → Fin 128 → ℝ) (kp : Fin 4 → Fin 4096 → Fin 32 → ℝ)
    (hql : ∀ b t h d, q (ix4 b t h d) = ((ql b t h d : ℝ) : EReal)) (hqp : ∀ b t h d, pe (ix4 b t h d) = ((qp b t h d : ℝ) : EReal))
    (hkl : ∀ b s d, ckv (ix3 b s d) = ((kl b s d : ℝ) : EReal)) (hkp : ∀ b s d, kpe (ix3 b s d) = ((kp b s d : ℝ) : EReal))
    (r : Fin 16384) (j : Fin 1024) :
    weighted ckv (expd (masked q pe ckv kpe)) (ix2 r j)
      = ((Attn.attend (Attn.dot ql qp kl kp ⟨r.val / 4096, by omega⟩ ⟨j.val / 128, by omega⟩ ⟨r.val % 4096, by omega⟩)
          ⟨r.val % 4096, by omega⟩ (fun s => kl ⟨r.val / 4096, by omega⟩ s ⟨j.val % 128, by omega⟩) : ℝ) : EReal) := by
  rw [weighted_at]
  generalize (⟨r.val / 4096, by omega⟩ : Fin 4) = b
  generalize (⟨j.val / 128, by omega⟩ : Fin 8) = h
  generalize (⟨r.val % 4096, by omega⟩ : Fin 4096) = t
  generalize (⟨j.val % 128, by omega⟩ : Fin 128) = d
  have hS : ∀ s : Fin 4096, masked q pe ckv kpe (ix4 b h t s)
      = if s.val ≤ t.val then ((Attn.dot ql qp kl kp b h t s / √96 : ℝ) : EReal) else ⊥ := fun s => by
    rw [masked_at]
    refine congrArg (fun x => if s.val ≤ t.val then x else (⊥ : EReal)) ?_
    rw [Ideal.sqrt_coe, if_neg (by norm_num), Ideal.div_coe (by positivity : √(96 : ℝ) ≠ 0)]
    have e1 : ∑ x : Fin 128, ckv (ix3 b s x) * q (ix4 b t h x) = ∑ x : Fin 128, ((kl b s x : ℝ) : EReal) * ((ql b t h x : ℝ) : EReal) :=
      Finset.sum_congr rfl fun x _ => by rw [hkl, hql]
    have e2 : ∑ x : Fin 32, kpe (ix3 b s x) * pe (ix4 b t h x) = ∑ x : Fin 32, ((kp b s x : ℝ) : EReal) * ((qp b t h x : ℝ) : EReal) :=
      Finset.sum_congr rfl fun x _ => by rw [hkp, hqp]
    rw [e1, e2, Online.coe_dot, Online.coe_dot, ← EReal.coe_add, ← EReal.coe_mul]
    congr 1
    unfold Attn.dot
    ring
  have key := Online.softmax_sum (S := fun s => masked q pe ckv kpe (ix4 b h t s)) (w := Attn.weight (Attn.dot ql qp kl kp b h t) t)
    (fun s => by
      by_cases hs : s.val ≤ t.val
      · exact Or.inr ⟨_, by beta_reduce; rw [hS, if_pos hs], by unfold Attn.weight; rw [if_pos hs, Attn.exp_base]⟩
      · exact Or.inl ⟨by beta_reduce; rw [hS, if_neg hs], by unfold Attn.weight; rw [if_neg hs]⟩)
    ⟨t, by beta_reduce; rw [hS, if_pos le_rfl]; simp⟩ (fun s => kl b s d) (maxima_at (masked q pe ckv kpe) b h t) (Attn.total_ne _ t)
  refine Eq.trans ?_ key
  refine Finset.sum_congr rfl fun s _ => ?_
  rw [hkl, sums_at, expd_at]
  refine congrArg (fun x => ((kl b s d : ℝ) : EReal) * Ideal.div _ (0 + x)) (Finset.sum_congr rfl fun k _ => ?_)
  exact expd_at _ b h t k

end Cert.ReferenceIdeal.Read
-- ==== Proof.MergeLayer.lean ====
/-
  The layer of the merge call: a word from 0 to 3, by the precondition, so that every block it selects lies in its array.
-/
module

public import proofs.«01_k».proof.Proof.Gen.Merge.Frame
public import proofs.«01_k».proof.Proof.Gen.MergeIdeal.Frame
public import proofs.«01_k».proof.Defs
public import Idealize.ShloMosaic.Lib.ReduceAll
public import Idealize.ShloMosaic.Lib.Pointwise
public import Idealize.ShloMosaic.Lib.Pipeline.ValueKit

@[expose] public section

noncomputable section

namespace Cert.Proof.Layer

open Idealize.ShloMosaic Idealize.ShloMosaic.TcCoe

/-- A comparison of a word with 0 and with 4 that holds puts it among the first four. -/
theorem toNat_lt (w : BitVec 32) (h : IntOp.andi (IntOp.cmpi .sge w 0#32) (IntOp.cmpi .slt w 4#32) = 1#1) : w.toNat < 4 := by
  have andi_one (a b : BitVec 1) : IntOp.andi a b = 1#1 ↔ a = 1#1 ∧ b = 1#1 := by revert a b; decide
  have ofBool_eq_one (p : Bool) : (BitVec.ofBool p = 1#1) ↔ p = true := by cases p <;> decide
  rw [andi_one] at h
  simp only [ofBool_eq_one, IntOp.cmpi, BitVec.sle, BitVec.slt, decide_eq_true_eq, BitVec.toInt, BitVec.toNat_ofNat] at h
  have := w.isLt
  split_ifs at h <;> omega

instance pre_facts : Cert.Pre_a_layer.Facts := by constructor <;> decide

section
variable {F : FTy → Type} [FloatOps F]

/-- The predicate, read back. -/
theorem lt_of_pre (x0 : IVec Cert.Pre_a_layer.S1 32) (x1 x2 x3 x4 x5 x6 x7 x8 x9 x10 x11 x12)
    (h : Cert.Pre_a_layer.fn (F := F) x0 x1 x2 x3 x4 x5 x6 x7 x8 x9 x10 x11 x12 = fun _ => 1#1) : (x0 (ix1 0)).toNat < 4 := by
  have : Subsingleton Cert.Pre_a_layer.S_.Idx := ⟨fun a b => funext fun i => i.elim0⟩
  have e := congrFun h (fun i => i.elim0)
  exact toNat_lt _ (Host.reduce_andi_all _ _ _ _ _ e (ix1 0))

/-- A block of one layer, at one of the four layers, lies in the array. -/
theorem fits (n : ℕ) (h : n < 4) (p q : ℕ) : ∀ a : Fin 3, ((![n, 0, 0] : Fin 3 → ℕ) a + 1) * (![1, p, q] : Fin 3 → ℕ) a ≤ (![4, p, q] : Fin 3 → ℕ) a := by
  intro a
  match a with
  | ⟨0, _⟩ => show (n + 1) * 1 ≤ 4; omega
  | ⟨1, _⟩ => show (0 + 1) * p ≤ p; omega
  | ⟨2, _⟩ => show (0 + 1) * q ≤ q; omega

open Cert.MergeIdeal Cert.MergeIdeal.Gen in
/-- The prefetched word is the layer. -/
theorem word_ideal (m : (ℓ : Loc nD τ sig) → Buf (Elt F) ℓ) (inb h) :
    (tbl m).at 0 (Rect.unit (s := S1) ![0] S1.size inb) h = (m ((0 : Dev nD), Proc.tc.devRef main_arg0) : IVec S1 32) (ix1 0) := by
  have e : tbl m 0 = (m ((0 : Dev nD), Proc.tc.devRef main_arg0) : IVec S1 32) := V_main_arg0 m 0
  show (tbl m 0 : IVec S1 32) _ = _
  rw [e]
  exact congrArg _ (funext fun a => match a with | ⟨0, _⟩ => rfl)

open Cert.MergeIdeal Cert.MergeIdeal.Gen in
theorem ok_ideal (m : (ℓ : Loc nD τ sig) → Buf (Elt F) ℓ)
    (h : ((m ((0 : Dev nD), Proc.tc.devRef main_arg0) : IVec S1 32) (ix1 0)).toNat < 4) : Ok m := by
  rw [← word_ideal m Facts₀.inb_S1_S1_0 Facts₀.numel1_S1] at h
  exact ⟨fun i => ⟨fits _ h _ _, .inr (Affine.block_words_dvd (of_decide_eq_true rfl) (by decide))⟩,
    fun i => ⟨fits _ h _ _, .inr (Affine.block_words_dvd (of_decide_eq_true rfl) (by decide))⟩,
    fun i => ⟨fits _ h _ _, .inr (Affine.block_words_dvd (of_decide_eq_true rfl) (by decide))⟩,
    fun i => ⟨fits _ h _ _, .inr (Affine.block_words_dvd (of_decide_eq_true rfl) (by decide))⟩,
    fun i => ⟨fits _ h _ _, .inr (Affine.block_words_dvd (of_decide_eq_true rfl) (by decide))⟩,
    fun i => ⟨fits _ h _ _, .inr (Affine.block_words_dvd (of_decide_eq_true rfl) (by decide))⟩,
    fun i => ⟨fits _ h _ _, .inl rfl⟩, fun i => ⟨fits _ h _ _, .inl rfl⟩⟩

end

/-- The same of the program as it was traced, whose text is the same. -/
theorem ok_bits (m : (ℓ : Loc Cert.Merge.nD Cert.Merge.τ Cert.Merge.sig) → Buf (Elt Bits) ℓ)
    (h : ((m ((0 : Dev Cert.Merge.nD), Proc.tc.devRef Cert.Merge.main_arg0) : IVec Cert.Merge.S1 32) (ix1 0)).toNat < 4) : Cert.Merge.Gen.Ok m :=
  ok_ideal (F := Bits) m h

end Cert.Proof.Layer
-- ==== Proof.MergeArgs.lean ====
/-
  What the merge launch's twelve staged inputs hold: each block, at an index, as a term over the arguments and the layer.
-/
module

public import proofs.«01_k».proof.Proof.MergeLayer
public import Idealize.ShloMosaic.Lib.Pointwise
public import Idealize.ShloMosaic.Lib.StableHlo.ReadAt

@[expose] public section

set_option maxRecDepth 16384

noncomputable section

namespace Cert.MergeIdeal.Args

open Idealize.ShloMosaic Idealize.ShloMosaic.TcCoe
open Cert.MergeIdeal Cert.MergeIdeal.Gen Cert.Proof.Layer

variable (m : (ℓ : Loc nD τ sig) → Buf (Elt Ideal) ℓ)

/-- The arguments, as launched. -/
abbrev aX (c : Dev nD) : FVec Ideal S4x4096x1024 .f32 := m (c, Proc.tc.devRef main_arg1)
abbrev aPool (c : Dev nD) : FVec Ideal S4x4096x512 .f32 := m (c, Proc.tc.devRef main_arg2)
abbrev aHg (c : Dev nD) : FVec Ideal S4x4096x512 .f32 := m (c, Proc.tc.devRef main_arg3)
abbrev aLat (c : Dev nD) : FVec Ideal S4x4096x8x128 .f32 := m (c, Proc.tc.devRef main_arg4)
abbrev aIn (c : Dev nD) : FVec Ideal S4x1024x6048 .f32 := m (c, Proc.tc.devRef main_arg5)
abbrev aUv (c : Dev nD) : FVec Ideal S4x128x8x64 .f32 := m (c, Proc.tc.devRef main_arg6)
abbrev aBp (c : Dev nD) : FVec Ideal S4x512x1024 .f32 := m (c, Proc.tc.devRef main_arg7)
abbrev aBh (c : Dev nD) : FVec Ideal S4x512x1024 .f32 := m (c, Proc.tc.devRef main_arg8)
abbrev aBm (c : Dev nD) : FVec Ideal S4x512x1024 .f32 := m (c, Proc.tc.devRef main_arg9)
abbrev aOut (c : Dev nD) : FVec Ideal S4x1024x1024 .f32 := m (c, Proc.tc.devRef main_arg10)
abbrev aG (c : Dev nD) : FVec Ideal S4x1024 .f32 := m (c, Proc.tc.devRef main_arg11)
abbrev aB (c : Dev nD) : FVec Ideal S4x1024 .f32 := m (c, Proc.tc.devRef main_arg12)

/-- The layer, as launched. -/
abbrev lay : ℕ := ((m ((0 : Dev nD), Proc.tc.devRef main_arg0) : IVec S1 32) (ix1 0)).toNat

/-! ## The staged arrays -/

theorem x_at (c : Dev nD) (r : Fin 16384) (j : Fin 1024) :
    (V m c main_v16 : FVec Ideal S16384x1024 .f32) (ix2 r j) = aX m c (ix3 ⟨r.val / 4096, by omega⟩ ⟨r.val % 4096, by omega⟩ j) := by
  unfold V
  after_reads_at

theorem pool_at (c : Dev nD) (r : Fin 16384) (j : Fin 512) :
    (V m c main_v18 : FVec Ideal S16384x512 .bf16) (ix2 r j) = aPool m c (ix3 ⟨r.val / 4096, by omega⟩ ⟨r.val % 4096, by omega⟩ j) := by
  unfold V
  after_reads_at

theorem hg_at (c : Dev nD) (r : Fin 16384) (j : Fin 512) :
    (V m c main_v20 : FVec Ideal S16384x512 .bf16) (ix2 r j) = aHg m c (ix3 ⟨r.val / 4096, by omega⟩ ⟨r.val % 4096, by omega⟩ j) := by
  unfold V
  after_reads_at

theorem lat_at (c : Dev nD) (r : Fin 16384) (j : Fin 1024) :
    (V m c main_v22 : FVec Ideal S16384x1024 .bf16) (ix2 r j) = aLat m c (ix4 ⟨r.val / 4096, by omega⟩ ⟨r.val % 4096, by omega⟩ ⟨j.val / 128, by omega⟩ ⟨j.val % 128, by omega⟩) := by
  unfold V
  after_reads_at

theorem gates_at (c : Dev nD) (l : Fin 4) (d : Fin 1024) (j : Fin 3072) :
    (V m c main_v1 : FVec Ideal S4x1024x3072 .bf16) (ix3 l d j) = aIn m c (ix3 l d ⟨2976 + j.val, by omega⟩) := by
  unfold V
  after_reads_at

/-- The identity's entries. -/
theorem eye : ∀ h h' : Fin 8, IntOp.cmpi .eq (IntOp.addi (BitVec.ofNat 32 h.val) 0#32) (BitVec.ofNat 32 h'.val)
    = if h.val = h'.val then 1#1 else 0#1 := by decide

theorem eye_mul (a b : ℕ) (ha : a < 8) (hb : b < 8) (x : EReal) :
    (FloatOps.uitofp (F := Ideal) .f32 (IntOp.cmpi .eq (IntOp.addi (BitVec.ofNat 32 a) 0#32) (BitVec.ofNat 32 b)) : EReal) * x = if a = b then x else 0 := by
  have e := eye ⟨a, ha⟩ ⟨b, hb⟩
  dsimp only at e
  rw [e]
  show (((if a = b then 1#1 else 0#1 : BitVec 1).toNat : ℝ) : EReal) * x = _
  split_ifs <;> simp

/-- The value weights laid out by heads: one head's block where the row's head is the column's, zero elsewhere. -/
theorem uv_at (c : Dev nD) (l : Fin 4) (i : Fin 1024) (j : Fin 512) :
    (V m c main_v15 : FVec Ideal S4x1024x512 .bf16) (ix3 l i j)
      = if i.val / 128 = j.val / 64 then aUv m c (ix4 l ⟨i.val % 128, by omega⟩ ⟨j.val / 64, by omega⟩ ⟨j.val % 64, by omega⟩) else 0 := by
  unfold V
  after_reads_at
  refine (eye_mul (i.val / 128) (j.val / 64) (by omega) (by omega) _).trans ?_
  split_ifs with h
  · exact congrArg (aUv m c) (congrArg (fun z => ix4 l ⟨i.val % 128, by omega⟩ z ⟨j.val % 64, by omega⟩) (Fin.ext h))
  · rfl

theorem bp_at (c : Dev nD) (l : Fin 4) (e : Fin 512) (k : Fin 1024) :
    (V m c main_v23 : FVec Ideal S4x512x1024 .bf16) (ix3 l e k) = aBp m c (ix3 l e k) := by
  unfold V
  after_reads_at

theorem bh_at (c : Dev nD) (l : Fin 4) (e : Fin 512) (k : Fin 1024) :
    (V m c main_v24 : FVec Ideal S4x512x1024 .bf16) (ix3 l e k) = aBh m c (ix3 l e k) := by
  unfold V
  after_reads_at

theorem bm_at (c : Dev nD) (l : Fin 4) (e : Fin 512) (k : Fin 1024) :
    (V m c main_v25 : FVec Ideal S4x512x1024 .bf16) (ix3 l e k) = aBm m c (ix3 l e k) := by
  unfold V
  after_reads_at

theorem out_at_w (c : Dev nD) (l : Fin 4) (k n : Fin 1024) :
    (V m c main_v26 : FVec Ideal S4x1024x1024 .bf16) (ix3 l k n) = aOut m c (ix3 l k n) := by
  unfold V
  after_reads_at

theorem g_at (c : Dev nD) (l : Fin 4) (z : Fin 1) (n : Fin 1024) :
    (V m c main_v27 : FVec Ideal S4x1x1024 .f32) (ix3 l z n) = aG m c (ix2 l n) := by
  unfold V
  after_reads_at

theorem b_at (c : Dev nD) (l : Fin 4) (z : Fin 1) (n : Fin 1024) :
    (V m c main_v28 : FVec Ideal S4x1x1024 .f32) (ix3 l z n) = aB m c (ix2 l n) := by
  unfold V
  after_reads_at

/-! ## The blocks a grid point stages -/

/-- Grid point `t` stages the rows from `512 t` of the row arrays. -/
theorem at_point : ∀ t : Fin grid0.N, (cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0)
    ∧ (cc0_transform_3 (grid0.coords t) 0 = t.val ∧ cc0_transform_3 (grid0.coords t) 1 = 0)
    ∧ (cc0_transform_12 (grid0.coords t) 0 = t.val ∧ cc0_transform_12 (grid0.coords t) 1 = 0) := by decide +kernel

/-- The row of the arrays that row `r` of grid point `t` is. -/
def row (t : Fin grid0.N) (r : Fin 512) : Fin 16384 := ⟨512 * t.val + r.val, by have := lt_of_lt_of_eq t.isLt N_0; omega⟩

/-- The layer's word, as the index maps read it. -/
theorem first (inb h) : ((tbl m).at 0 (Rect.unit (s := S1) ![0] S1.size inb) h).toNat = lay m := congrArg BitVec.toNat (word_ideal m inb h)

variable (hO : Ok m) (c : Dev nD) (t : Fin (cfgM m hO).N)

theorem iblk0 (r : Fin 512) (j : Fin 1024) :
    (iblk m hO c 0 t : FVec Ideal S512x1024 .f32) (ix2 r j) = (V m c main_v16 : FVec Ideal S16384x1024 .f32) (ix2 (row t r) j) := by
  have hi := (at_point t).1
  unfold iblk
  refine congrArg (V m c main_v16 : FVec Ideal S16384x1024 .f32) (funext fun a => Fin.ext ?_)
  match a with
  | ⟨0, _⟩ => show cc0_transform_0 (grid0.coords t) 0 * 512 + 1 * r.val = 512 * t.val + r.val; rw [hi.1]; omega
  | ⟨1, _⟩ => show cc0_transform_0 (grid0.coords t) 1 * 1024 + 1 * j.val = j.val; rw [hi.2]; omega

theorem iblk1 (r : Fin 512) (j : Fin 512) :
    (iblk m hO c 1 t : FVec Ideal S512x512 .bf16) (ix2 r j) = (V m c main_v18 : FVec Ideal S16384x512 .bf16) (ix2 (row t r) j) := by
  have hi := (at_point t).2.1
  unfold iblk
  refine congrArg (V m c main_v18 : FVec Ideal S16384x512 .bf16) (funext fun a => Fin.ext ?_)
  match a with
  | ⟨0, _⟩ => show cc0_transform_1 (grid0.coords t) 0 * 512 + 1 * r.val = 512 * t.val + r.val; rw [hi.1]; omega
  | ⟨1, _⟩ => show cc0_transform_1 (grid0.coords t) 1 * 512 + 1 * j.val = j.val; rw [hi.2]; omega

theorem iblk2 (r : Fin 512) (j : Fin 512) :
    (iblk m hO c 2 t : FVec Ideal S512x512 .bf16) (ix2 r j) = (V m c main_v20 : FVec Ideal S16384x512 .bf16) (ix2 (row t r) j) := by
  have hi := (at_point t).2.2.1
  unfold iblk
  refine congrArg (V m c main_v20 : FVec Ideal S16384x512 .bf16) (funext fun a => Fin.ext ?_)
  match a with
  | ⟨0, _⟩ => show cc0_transform_2 (grid0.coords t) 0 * 512 + 1 * r.val = 512 * t.val + r.val; rw [hi.1]; omega
  | ⟨1, _⟩ => show cc0_transform_2 (grid0.coords t) 1 * 512 + 1 * j.val = j.val; rw [hi.2]; omega

theorem iblk3 (r : Fin 512) (j : Fin 1024) :
    (iblk m hO c 3 t : FVec Ideal S512x1024 .bf16) (ix2 r j) = (V m c main_v22 : FVec Ideal S16384x1024 .bf16) (ix2 (row t r) j) := by
  have hi := (at_point t).2.2.2.1
  unfold iblk
  refine congrArg (V m c main_v22 : FVec Ideal S16384x1024 .bf16) (funext fun a => Fin.ext ?_)
  match a with
  | ⟨0, _⟩ => show cc0_transform_3 (grid0.coords t) 0 * 512 + 1 * r.val = 512 * t.val + r.val; rw [hi.1]; omega
  | ⟨1, _⟩ => show cc0_transform_3 (grid0.coords t) 1 * 1024 + 1 * j.val = j.val; rw [hi.2]; omega

variable (hl : lay m < 4)

include hl in
theorem iblk4 (d : Fin 1024) (j : Fin 3072) :
    (iblk m hO c 4 t : FVec Ideal S1x1024x3072 .bf16) (ix3 0 d j) = (V m c main_v1 : FVec Ideal S4x1024x3072 .bf16) (ix3 ⟨lay m, hl⟩ d j) := by
  unfold iblk
  refine congrArg (V m c main_v1 : FVec Ideal S4x1024x3072 .bf16) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 1024 + 1 * d.val = d.val; omega
  | ⟨2, _⟩ => show 0 * 3072 + 1 * j.val = j.val; omega

include hl in
theorem iblk5 (d : Fin 1024) (j : Fin 512) :
    (iblk m hO c 5 t : FVec Ideal S1x1024x512 .bf16) (ix3 0 d j) = (V m c main_v15 : FVec Ideal S4x1024x512 .bf16) (ix3 ⟨lay m, hl⟩ d j) := by
  unfold iblk
  refine congrArg (V m c main_v15 : FVec Ideal S4x1024x512 .bf16) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 1024 + 1 * d.val = d.val; omega
  | ⟨2, _⟩ => show 0 * 512 + 1 * j.val = j.val; omega

include hl in
theorem iblk6 (d : Fin 512) (j : Fin 1024) :
    (iblk m hO c 6 t : FVec Ideal S1x512x1024 .bf16) (ix3 0 d j) = (V m c main_v23 : FVec Ideal S4x512x1024 .bf16) (ix3 ⟨lay m, hl⟩ d j) := by
  unfold iblk
  refine congrArg (V m c main_v23 : FVec Ideal S4x512x1024 .bf16) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 512 + 1 * d.val = d.val; omega
  | ⟨2, _⟩ => show 0 * 1024 + 1 * j.val = j.val; omega

include hl in
theorem iblk7 (d : Fin 512) (j : Fin 1024) :
    (iblk m hO c 7 t : FVec Ideal S1x512x1024 .bf16) (ix3 0 d j) = (V m c main_v24 : FVec Ideal S4x512x1024 .bf16) (ix3 ⟨lay m, hl⟩ d j) := by
  unfold iblk
  refine congrArg (V m c main_v24 : FVec Ideal S4x512x1024 .bf16) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 512 + 1 * d.val = d.val; omega
  | ⟨2, _⟩ => show 0 * 1024 + 1 * j.val = j.val; omega

include hl in
theorem iblk8 (d : Fin 512) (j : Fin 1024) :
    (iblk m hO c 8 t : FVec Ideal S1x512x1024 .bf16) (ix3 0 d j) = (V m c main_v25 : FVec Ideal S4x512x1024 .bf16) (ix3 ⟨lay m, hl⟩ d j) := by
  unfold iblk
  refine congrArg (V m c main_v25 : FVec Ideal S4x512x1024 .bf16) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 512 + 1 * d.val = d.val; omega
  | ⟨2, _⟩ => show 0 * 1024 + 1 * j.val = j.val; omega

include hl in
theorem iblk9 (d : Fin 1024) (j : Fin 1024) :
    (iblk m hO c 9 t : FVec Ideal S1x1024x1024 .bf16) (ix3 0 d j) = (V m c main_v26 : FVec Ideal S4x1024x1024 .bf16) (ix3 ⟨lay m, hl⟩ d j) := by
  unfold iblk
  refine congrArg (V m c main_v26 : FVec Ideal S4x1024x1024 .bf16) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 1024 + 1 * d.val = d.val; omega
  | ⟨2, _⟩ => show 0 * 1024 + 1 * j.val = j.val; omega

include hl in
theorem iblk10 (d : Fin 1) (j : Fin 1024) :
    (iblk m hO c 10 t : FVec Ideal S1x1x1024 .f32) (ix3 0 d j) = (V m c main_v27 : FVec Ideal S4x1x1024 .f32) (ix3 ⟨lay m, hl⟩ d j) := by
  unfold iblk
  refine congrArg (V m c main_v27 : FVec Ideal S4x1x1024 .f32) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 1 + 1 * d.val = d.val; omega
  | ⟨2, _⟩ => show 0 * 1024 + 1 * j.val = j.val; omega

include hl in
theorem iblk11 (d : Fin 1) (j : Fin 1024) :
    (iblk m hO c 11 t : FVec Ideal S1x1x1024 .f32) (ix3 0 d j) = (V m c main_v28 : FVec Ideal S4x1x1024 .f32) (ix3 ⟨lay m, hl⟩ d j) := by
  unfold iblk
  refine congrArg (V m c main_v28 : FVec Ideal S4x1x1024 .f32) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 1 + 1 * d.val = d.val; omega
  | ⟨2, _⟩ => show 0 * 1024 + 1 * j.val = j.val; omega

end Cert.MergeIdeal.Args
-- ==== Proof.MergeSpec.lean ====
/-
  The merge of one token, over the extended reals: three gated branch products, the output product added to the scaled
  residual, and the layer norm of the row. Both programs are read as this.
-/
module

public import Idealize.ShloMosaic.PureOps.Ideal.Laws
public import Idealize.ShloMosaic.Lib.Pointwise
public import Mathlib.Analysis.SpecialFunctions.Trigonometric.DerivHyp

@[expose] public section

noncomputable section

namespace Cert.Proof.MergeRow

open Idealize.ShloMosaic

/-- The row before the norm: `alpha x + merged · w_out`, the three gates being the thirds of the gate product. -/
def preNorm (x : Fin 1024 → EReal) (yp oh om : Fin 512 → EReal) (wg : Fin 1024 → Fin 3072 → EReal)
    (wp wh wm : Fin 512 → Fin 1024 → EReal) (wo : Fin 1024 → Fin 1024 → EReal) (n : Fin 1024) : EReal :=
  Ideal.ofBits .f32 0x3FD744FD#32 * x n + ∑ k : Fin 1024,
    (Ideal.logistic (∑ d, x d * wg d ⟨k.val, by omega⟩) * (∑ e, yp e * wp e k)
      + Ideal.logistic (∑ d, x d * wg d ⟨1024 + k.val, by omega⟩) * (∑ e, oh e * wh e k)
      + Ideal.logistic (∑ d, x d * wg d ⟨2048 + k.val, by omega⟩) * (∑ e, om e * wm e k)) * wo k n

/-- The mean of a row. -/
def mean (h : Fin 1024 → EReal) : EReal := Ideal.div (∑ k, h k) (Ideal.ofBits .f32 0x44800000#32)

/-- The layer norm of a row. -/
def normed (h g b : Fin 1024 → EReal) (n : Fin 1024) : EReal :=
  (h n - mean h) * Ideal.rsqrt (mean (fun k => (h k - mean h) * (h k - mean h)) + Ideal.ofBits .f32 0x3727C5AC#32) * g n + b n

/-- The merge's entry at row `r` (batch and token) and column `n`, from the arguments and the layer. -/
def entry (l : Fin 4) (x : FVec Ideal ⟨3, ![4, 4096, 1024]⟩ .f32) (yp oh : FVec Ideal ⟨3, ![4, 4096, 512]⟩ .f32)
    (ol : FVec Ideal ⟨4, ![4, 4096, 8, 128]⟩ .f32) (wi : FVec Ideal ⟨3, ![4, 1024, 6048]⟩ .f32) (uv : FVec Ideal ⟨4, ![4, 128, 8, 64]⟩ .f32)
    (wp wh wm : FVec Ideal ⟨3, ![4, 512, 1024]⟩ .f32) (wo : FVec Ideal ⟨3, ![4, 1024, 1024]⟩ .f32) (g b : FVec Ideal ⟨2, ![4, 1024]⟩ .f32)
    (r : Fin 16384) (n : Fin 1024) : EReal :=
  normed (preNorm (fun d => x (ix3 ⟨r.val / 4096, by omega⟩ ⟨r.val % 4096, by omega⟩ d))
      (fun e => yp (ix3 ⟨r.val / 4096, by omega⟩ ⟨r.val % 4096, by omega⟩ e)) (fun e => oh (ix3 ⟨r.val / 4096, by omega⟩ ⟨r.val % 4096, by omega⟩ e))
      (fun e => ∑ c : Fin 128, ol (ix4 ⟨r.val / 4096, by omega⟩ ⟨r.val % 4096, by omega⟩ ⟨e.val / 64, by omega⟩ c)
        * uv (ix4 l c ⟨e.val / 64, by omega⟩ ⟨e.val % 64, by omega⟩))
      (fun d j => wi (ix3 l d ⟨2976 + j.val, by omega⟩)) (fun e k => wp (ix3 l e k)) (fun e k => wh (ix3 l e k)) (fun e k => wm (ix3 l e k))
      (fun k n => wo (ix3 l k n)))
    (fun n => g (ix2 l n)) (fun n => b (ix2 l n)) n

/-- Equal rows and weights give equal rows. -/
theorem normed_congr {x x' : Fin 1024 → EReal} {yp yp' oh oh' om om' : Fin 512 → EReal} {wg wg' : Fin 1024 → Fin 3072 → EReal}
    {wp wp' wh wh' wm wm' : Fin 512 → Fin 1024 → EReal} {wo wo' : Fin 1024 → Fin 1024 → EReal} {g g' b b' : Fin 1024 → EReal}
    (hx : ∀ d, x d = x' d) (hyp : ∀ e, yp e = yp' e) (hoh : ∀ e, oh e = oh' e) (hom : ∀ e, om e = om' e) (hwg : ∀ d j, wg d j = wg' d j)
    (hwp : ∀ e k, wp e k = wp' e k) (hwh : ∀ e k, wh e k = wh' e k) (hwm : ∀ e k, wm e k = wm' e k) (hwo : ∀ k n, wo k n = wo' k n)
    (hg : ∀ n, g n = g' n) (hb : ∀ n, b n = b' n) (n : Fin 1024) :
    normed (preNorm x yp oh om wg wp wh wm wo) g b n = normed (preNorm x' yp' oh' om' wg' wp' wh' wm' wo') g' b' n := by
  obtain rfl := funext hx; obtain rfl := funext hyp; obtain rfl := funext hoh; obtain rfl := funext hom
  obtain rfl : wg = wg' := funext fun d => funext (hwg d)
  obtain rfl : wp = wp' := funext fun d => funext (hwp d)
  obtain rfl : wh = wh' := funext fun d => funext (hwh d)
  obtain rfl : wm = wm' := funext fun d => funext (hwm d)
  obtain rfl : wo = wo' := funext fun d => funext (hwo d)
  obtain rfl := funext hg; obtain rfl := funext hb
  rfl

theorem half : Ideal.ofBits .f32 0x3F000000#32 = ((1 / 2 : ℝ) : EReal) := by
  simp [Ideal.ofBits, Ideal.ieee, -EReal.coe_mul]; norm_num

theorem one : Ideal.ofBits .f32 0x3F800000#32 = (1 : EReal) := by
  simp [Ideal.ofBits, Ideal.ieee, -EReal.coe_mul]; norm_num

/-- The logistic function by the hyperbolic tangent, at the infinities as well. -/
theorem gate (x : EReal) :
    Ideal.ofBits .f32 0x3F000000#32 * (Ideal.tanh (Ideal.ofBits .f32 0x3F000000#32 * x) + Ideal.ofBits .f32 0x3F800000#32)
      = Ideal.logistic x := by
  rw [half, one]
  induction x with
  | bot =>
    rw [EReal.coe_mul_bot_of_pos (by norm_num), Ideal.tanh_bot, Ideal.logistic_bot]
    rw [show (-1 + 1 : EReal) = 0 from by
      rw [← EReal.coe_one, ← EReal.coe_neg, ← EReal.coe_add, neg_add_cancel, EReal.coe_zero], mul_zero]
  | top =>
    rw [EReal.coe_mul_top_of_pos (by norm_num), Ideal.tanh_top, Ideal.logistic_top]
    rw [← EReal.coe_one, ← EReal.coe_add, ← EReal.coe_mul]
    norm_num
  | coe r =>
    rw [← EReal.coe_mul, Ideal.tanh_coe, Ideal.logistic_coe, ← EReal.coe_one, ← EReal.coe_add, ← EReal.coe_mul]
    congr 1
    rw [Real.tanh_eq_sinh_div_cosh, Real.sinh_eq, Real.cosh_eq]
    have e1 : Real.exp (1 / 2 * r) * Real.exp (-(1 / 2 * r)) = 1 := by rw [← Real.exp_add]; simp
    have e2 : Real.exp (-r) = Real.exp (-(1 / 2 * r)) * Real.exp (-(1 / 2 * r)) := by rw [← Real.exp_add]; congr 1; ring
    have p := Real.exp_pos (1 / 2 * r)
    have q := Real.exp_pos (-(1 / 2 * r))
    rw [e2]
    generalize Real.exp (1 / 2 * r) = u at e1 p
    generalize Real.exp (-(1 / 2 * r)) = v at e1 q
    rw [show (u - v) / 2 / ((u + v) / 2) = (u - v) / (u + v) from by field_simp]
    have hs : u + v ≠ 0 := by positivity
    have ht : 1 + v * v ≠ 0 := by positivity
    field_simp
    linear_combination (2 * v) * e1

/-- A sum over the heads' columns laid side by side, every other head's being zero, is the one head's. -/
theorem sum_block (f : Fin 1024 → EReal) (h : Fin 8) (hf : ∀ i : Fin 1024, i.val / 128 ≠ h.val → f i = 0) :
    ∑ i, f i = ∑ c : Fin 128, f ⟨128 * h.val + c.val, by omega⟩ := by
  symm
  refine Finset.sum_bij_ne_zero (fun c _ _ => ⟨128 * h.val + c.val, by omega⟩) (fun _ _ _ => Finset.mem_univ _) ?_ ?_ (fun _ _ _ => rfl)
  · intro a _ _ b _ _ e
    have := congrArg Fin.val e
    dsimp only at this
    exact Fin.ext (by omega)
  · intro i _ hi
    have e : i.val / 128 = h.val := by
      by_contra hne
      exact hi (hf i hne)
    have ei : (⟨128 * h.val + (⟨i.val % 128, by omega⟩ : Fin 128).val, by have := i.isLt; omega⟩ : Fin 1024) = i :=
      Fin.ext (by show 128 * h.val + i.val % 128 = i.val; omega)
    exact ⟨⟨i.val % 128, by omega⟩, Finset.mem_univ _, by rw [ei]; exact hi, ei⟩

end Cert.Proof.MergeRow
-- ==== Proof.MergeBody.lean ====
/-
  What one grid point of the merge kernel leaves in its output block, at an index, from the twelve input blocks.
-/
module

public import proofs.«01_k».proof.Proof.Gen.MergeIdeal.Frame
public import proofs.«01_k».proof.Proof.MergeSpec
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

namespace Cert.MergeIdeal.Body

open Cert.MergeIdeal Cert.MergeIdeal.Gen Cert.Proof.MergeRow
open Idealize.ShloMosaic Idealize.ShloMosaic.TcCoe

section Run
variable {F : FTy → Type} [FloatOps F]

theorem zero2 : (![0, 0] : Fin 2 → ℕ) = fun _ => 0 := funext fun a => by fin_cases a <;> rfl
theorem zero3 : (![0, 0, 0] : Fin 3 → ℕ) = fun _ => 0 := funext fun a => by fin_cases a <;> rfl

/-- The whole buffers the body is run on. -/
structure Bufs where
  (arg2 : Memref sig .tc .vmem S512x1024 .f32) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x1024 .bf16) (harg5 : arg5.IsWhole)
  (arg6 : Memref sig .tc .vmem S1x1024x3072 .bf16) (harg6 : arg6.IsWhole)
  (arg7 : Memref sig .tc .vmem S1x1024x512 .bf16) (harg7 : arg7.IsWhole)
  (arg8 : Memref sig .tc .vmem S1x512x1024 .bf16) (harg8 : arg8.IsWhole)
  (arg9 : Memref sig .tc .vmem S1x512x1024 .bf16) (harg9 : arg9.IsWhole)
  (arg10 : Memref sig .tc .vmem S1x512x1024 .bf16) (harg10 : arg10.IsWhole)
  (arg11 : Memref sig .tc .vmem S1x1024x1024 .bf16) (harg11 : arg11.IsWhole)
  (arg12 : Memref sig .tc .vmem S1x1x1024 .f32) (harg12 : arg12.IsWhole)
  (arg13 : Memref sig .tc .vmem S1x1x1024 .f32) (harg13 : arg13.IsWhole)
  (arg14 : Memref sig .tc .vmem S512x1024 .f32) (harg14 : arg14.IsWhole)

/-- The three thirds of the gate weights. -/
def gate0 (x4 : Vec F S1x1024x3072 .bf16) : Vec F S1x1024x1024 .bf16 :=
  View.ld x4 (Rect.unit ![0, 0, 0] S1x1024x1024.size inb_S1x1024x3072_S1x1024x1024_0_0_0)
def gate1 (x4 : Vec F S1x1024x3072 .bf16) : Vec F S1x1024x1024 .bf16 :=
  View.ld x4 (Rect.unit ![0, 0, 1024] S1x1024x1024.size inb_S1x1024x3072_S1x1024x1024_0_0_1024)
def gate2 (x4 : Vec F S1x1024x3072 .bf16) : Vec F S1x1024x1024 .bf16 :=
  View.ld x4 (Rect.unit ![0, 0, 2048] S1x1024x1024.size inb_S1x1024x3072_S1x1024x1024_0_0_2048)

/-- The block before the norm. -/
def before (x0 : Vec F S512x1024 .f32) (x1 : Vec F S512x512 .bf16) (x2 : Vec F S512x512 .bf16) (x3 : Vec F S512x1024 .bf16)
    (x4 : Vec F S1x1024x3072 .bf16) (x5 : Vec F S1x1024x512 .bf16) (x6 : Vec F S1x512x1024 .bf16) (x7 : Vec F S1x512x1024 .bf16)
    (x8 : Vec F S1x512x1024 .bf16) (x9 : Vec F S1x1024x1024 .bf16) : FVec F S512x1024 .f32 :=
  k0_pay8 (k0_pay2 x0) (k0_pay3 x0) (k0_pay4 x3 x5) (k0_pay5 x0 (gate0 x4) x1 x6) (k0_pay6 x0 (gate1 x4)) (k0_pay7 (F := F)) x2 x7
    (gate2 x4) x8 x9

theorem out_eq (c : Dev nD) (i : grid0.Coords) (B : Bufs) (x0 : Vec F S512x1024 .f32) (x1 : Vec F S512x512 .bf16)
    (x2 : Vec F S512x512 .bf16) (x3 : Vec F S512x1024 .bf16) (x4 : Vec F S1x1024x3072 .bf16) (x5 : Vec F S1x1024x512 .bf16)
    (x6 : Vec F S1x512x1024 .bf16) (x7 : Vec F S1x512x1024 .bf16) (x8 : Vec F S1x512x1024 .bf16) (x9 : Vec F S1x1024x1024 .bf16)
    (x10 : Vec F S1x1x1024 .f32) (x11 : Vec F S1x1x1024 .f32) (xt0 : TbBuf0 (F := F) c tbM0_0) :
    out0_A_12 c i B.arg2 B.harg2 B.arg3 B.harg3 B.arg4 B.harg4 B.arg5 B.harg5 B.arg6 B.harg6 B.arg7 B.harg7 B.arg8 B.harg8 B.arg9 B.harg9
        B.arg10 B.harg10 B.arg11 B.harg11 B.arg12 B.harg12 B.arg13 B.harg13 B.arg14 B.harg14 x0 x1 x2 x3 x4 x5 x6 x7 x8 x9 x10 x11 xt0
      = k0_pay1 (before x0 x1 x2 x3 x4 x5 x6 x7 x8 x9) (k0_pay9 x10) x11 := by
  unfold out0_A_12
  rw [View.read_writes_junk_eq_canon]
  unfold kernelRun0_A
  dsimp only
  sl_unfold_run_names
  rw [View.canon_cons_unit_zero (S := S512x1024) zero2]
  simp (config := { proj := false, dsimp := false }) only [View.readAt_eq_ld, B.harg2.read_unread, B.harg3.read_unread, B.harg4.read_unread,
    B.harg5.read_unread, B.harg6.read_unread, B.harg7.read_unread, B.harg8.read_unread, B.harg9.read_unread, B.harg10.read_unread,
    B.harg11.read_unread, B.harg12.read_unread, B.harg13.read_unread]
  rw [View.ld_unit_zero (S := S512x1024) zero2, View.ld_unit_zero (S := S512x1024) zero2, View.ld_unit_zero (S := S512x512) zero2,
    View.ld_unit_zero (S := S512x512) zero2, View.ld_unit_zero (S := S1x1024x512) zero3, View.ld_unit_zero (S := S1x512x1024) zero3,
    View.ld_unit_zero (S := S1x512x1024) zero3, View.ld_unit_zero (S := S1x512x1024) zero3, View.ld_unit_zero (S := S1x1024x1024) zero3,
    View.ld_unit_zero (S := S1x1x1024) zero3, View.ld_unit_zero (S := S1x1x1024) zero3]
  rfl

end Run

/-! ## At an index -/

theorem gate0_at (x4 : Vec Ideal S1x1024x3072 .bf16) (d k : Fin 1024) : gate0 x4 (ix3 0 d k) = x4 (ix3 0 d ⟨k.val, by omega⟩) :=
  congrArg x4 (funext fun a => Fin.ext (match a with
    | ⟨0, _⟩ => rfl
    | ⟨1, _⟩ => (by show 0 + 1 * d.val = d.val; omega)
    | ⟨2, _⟩ => (by show 0 + 1 * k.val = k.val; omega)))
theorem gate1_at (x4 : Vec Ideal S1x1024x3072 .bf16) (d k : Fin 1024) : gate1 x4 (ix3 0 d k) = x4 (ix3 0 d ⟨1024 + k.val, by omega⟩) :=
  congrArg x4 (funext fun a => Fin.ext (match a with
    | ⟨0, _⟩ => rfl
    | ⟨1, _⟩ => (by show 0 + 1 * d.val = d.val; omega)
    | ⟨2, _⟩ => (by show 1024 + 1 * k.val = 1024 + k.val; omega)))
theorem gate2_at (x4 : Vec Ideal S1x1024x3072 .bf16) (d k : Fin 1024) : gate2 x4 (ix3 0 d k) = x4 (ix3 0 d ⟨2048 + k.val, by omega⟩) :=
  congrArg x4 (funext fun a => Fin.ext (match a with
    | ⟨0, _⟩ => rfl
    | ⟨1, _⟩ => (by show 0 + 1 * d.val = d.val; omega)
    | ⟨2, _⟩ => (by show 2048 + 1 * k.val = 2048 + k.val; omega)))

theorem pay4_at (v3 : Vec Ideal S512x1024 .bf16) (v5 : Vec Ideal S1x1024x512 .bf16) (a e : Fin 512) :
    k0_pay4 v3 v5 (ix2 a e) = ∑ i : Fin 1024, v3 (ix2 a i) * v5 (ix3 0 i e) := by
  pointwise [k0_pay4]

theorem pay5_at (v0 : Vec Ideal S512x1024 .f32) (v9 : Vec Ideal S1x1024x1024 .bf16) (v19 : Vec Ideal S512x512 .bf16)
    (v21 : Vec Ideal S1x512x1024 .bf16) (a : Fin 512) (k : Fin 1024) :
    k0_pay5 v0 v9 v19 v21 (ix2 a k) = Ideal.ofBits .f32 0x3F000000#32 * (Ideal.tanh (Ideal.ofBits .f32 0x3F000000#32 * ∑ d : Fin 1024, v0 (ix2 a d) * v9 (ix3 0 d k)) + Ideal.ofBits .f32 0x3F800000#32)
      * ∑ e : Fin 512, v19 (ix2 a e) * v21 (ix3 0 e k) := by
  pointwise [k0_pay5, k0_pay3, k0_pay2]

theorem pay6_at (v0 : Vec Ideal S512x1024 .f32) (v25 : Vec Ideal S1x1024x1024 .bf16) (a : Fin 512) (k : Fin 1024) :
    k0_pay6 v0 v25 (ix2 a k) = Ideal.tanh (Ideal.ofBits .f32 0x3F000000#32 * ∑ d : Fin 1024, v0 (ix2 a d) * v25 (ix3 0 d k)) := by
  pointwise [k0_pay6, k0_pay3, k0_pay2]

theorem pay8_at (v1 : FVec Ideal S512x1024 .f32) (v2 : FVec Ideal S512x1024 .bf16) (v8 : FVec Ideal S512x512 .bf16) (v24 v30 v31 : FVec Ideal S512x1024 .f32)
    (v35 : Vec Ideal S512x512 .bf16) (v37 : Vec Ideal S1x512x1024 .bf16) (v42 : Vec Ideal S1x1024x1024 .bf16) (v52 : Vec Ideal S1x512x1024 .bf16)
    (v60 : Vec Ideal S1x1024x1024 .bf16) (a : Fin 512) (n : Fin 1024) :
    k0_pay8 v1 v2 v8 v24 v30 v31 v35 v37 v42 v52 v60 (ix2 a n) = Ideal.ofBits .f32 0x3FD744FD#32 * v1 (ix2 a n) + ∑ k : Fin 1024,
      (v24 (ix2 a k) + Ideal.ofBits .f32 0x3F000000#32 * (v30 (ix2 a k) + v31 (ix2 a k)) * (∑ e : Fin 512, v35 (ix2 a e) * v37 (ix3 0 e k))
        + Ideal.ofBits .f32 0x3F000000#32 * (Ideal.tanh (Ideal.ofBits .f32 0x3F000000#32 * ∑ d : Fin 1024, v2 (ix2 a d) * v42 (ix3 0 d k)) + Ideal.ofBits .f32 0x3F800000#32)
          * (∑ e : Fin 512, v8 (ix2 a e) * v52 (ix3 0 e k))) * v60 (ix3 0 k n) := by
  pointwise [k0_pay8]

theorem pay1_at (v63 : FVec Ideal S512x1024 .f32) (v65 : FVec Ideal S1x1024 .f32) (v66 : Vec Ideal S1x1x1024 .f32) (a : Fin 512) (n : Fin 1024) :
    k0_pay1 v63 v65 v66 (ix2 a n) = normed (fun n => v63 (ix2 a n)) (fun n => v65 (ix2 0 n)) (fun n => v66 (ix3 0 0 n)) n := by
  pointwise [k0_pay1, normed, mean]

theorem before_at (x0 : Vec Ideal S512x1024 .f32) (x1 : Vec Ideal S512x512 .bf16) (x2 : Vec Ideal S512x512 .bf16) (x3 : Vec Ideal S512x1024 .bf16)
    (x4 : Vec Ideal S1x1024x3072 .bf16) (x5 : Vec Ideal S1x1024x512 .bf16) (x6 : Vec Ideal S1x512x1024 .bf16) (x7 : Vec Ideal S1x512x1024 .bf16)
    (x8 : Vec Ideal S1x512x1024 .bf16) (x9 : Vec Ideal S1x1024x1024 .bf16) (a : Fin 512) (n : Fin 1024) :
    before x0 x1 x2 x3 x4 x5 x6 x7 x8 x9 (ix2 a n) = preNorm (fun d => x0 (ix2 a d)) (fun e => x1 (ix2 a e)) (fun e => x2 (ix2 a e))
      (fun e => ∑ i : Fin 1024, x3 (ix2 a i) * x5 (ix3 0 i e)) (fun d j => x4 (ix3 0 d j)) (fun e k => x6 (ix3 0 e k)) (fun e k => x7 (ix3 0 e k))
      (fun e k => x8 (ix3 0 e k)) (fun k n => x9 (ix3 0 k n)) n := by
  have e2 : ∀ d, k0_pay2 x0 (ix2 a d) = x0 (ix2 a d) := fun d => by pointwise [k0_pay2]
  have e3 : ∀ d, k0_pay3 x0 (ix2 a d) = x0 (ix2 a d) := fun d => by pointwise [k0_pay3, k0_pay2]
  have e7 : ∀ k : Fin 1024, k0_pay7 (F := Ideal) (ix2 a k) = Ideal.ofBits .f32 0x3F800000#32 := fun k => by pointwise [k0_pay7]
  unfold before preNorm
  rw [pay8_at]
  simp only [pay5_at, pay6_at, pay4_at, e2, e3, e7, gate, gate0_at, gate1_at, gate2_at]

/-- The block a grid point leaves, at an index. -/
theorem out_at (x0 : Vec Ideal S512x1024 .f32) (x1 : Vec Ideal S512x512 .bf16) (x2 : Vec Ideal S512x512 .bf16) (x3 : Vec Ideal S512x1024 .bf16)
    (x4 : Vec Ideal S1x1024x3072 .bf16) (x5 : Vec Ideal S1x1024x512 .bf16) (x6 : Vec Ideal S1x512x1024 .bf16) (x7 : Vec Ideal S1x512x1024 .bf16)
    (x8 : Vec Ideal S1x512x1024 .bf16) (x9 : Vec Ideal S1x1024x1024 .bf16) (x10 : Vec Ideal S1x1x1024 .f32) (x11 : Vec Ideal S1x1x1024 .f32)
    (a : Fin 512) (n : Fin 1024) :
    k0_pay1 (before x0 x1 x2 x3 x4 x5 x6 x7 x8 x9) (k0_pay9 x10) x11 (ix2 a n)
      = normed (preNorm (fun d => x0 (ix2 a d)) (fun e => x1 (ix2 a e)) (fun e => x2 (ix2 a e))
      (fun e => ∑ i : Fin 1024, x3 (ix2 a i) * x5 (ix3 0 i e)) (fun d j => x4 (ix3 0 d j)) (fun e k => x6 (ix3 0 e k)) (fun e k => x7 (ix3 0 e k))
      (fun e k => x8 (ix3 0 e k)) (fun k n => x9 (ix3 0 k n))) (fun n => x10 (ix3 0 0 n)) (fun n => x11 (ix3 0 0 n)) n := by
  have e9 : ∀ n : Fin 1024, k0_pay9 x10 (ix2 0 n) = x10 (ix3 0 0 n) := fun n => by pointwise [k0_pay9]
  rw [pay1_at]
  simp only [before_at, e9]

end Cert.MergeIdeal.Body
-- ==== Proof.MergeValue.lean ====
/-
  What the merge program leaves in its result array: the merge of the arguments at the layer.
-/
module

public import proofs.«01_k».proof.Proof.MergeArgs
public import proofs.«01_k».proof.Proof.MergeBody

@[expose] public section

set_option maxRecDepth 16384

noncomputable section

namespace Cert.MergeIdeal.Result

open Cert.MergeIdeal Cert.MergeIdeal.Gen Cert.MergeIdeal.Args Cert.MergeIdeal.Body Cert.Proof.MergeRow Cert.Proof.Layer
open Idealize.ShloMosaic Idealize.ShloMosaic.TcCoe Idealize.SL.Sem

variable (m : (ℓ : Loc nD τ sig) → Buf (Elt Ideal) ℓ) (hO : Ok m) (c : Dev nD) (hl : lay m < 4)

/-- The blocks a grid point stages. -/
def b0 (t : Fin (cfgM m hO).N) : FVec Ideal S512x1024 .f32 := iblk m hO c 0 t
def b1 (t : Fin (cfgM m hO).N) : FVec Ideal S512x512 .bf16 := iblk m hO c 1 t
def b2 (t : Fin (cfgM m hO).N) : FVec Ideal S512x512 .bf16 := iblk m hO c 2 t
def b3 (t : Fin (cfgM m hO).N) : FVec Ideal S512x1024 .bf16 := iblk m hO c 3 t
def b4 (t : Fin (cfgM m hO).N) : FVec Ideal S1x1024x3072 .bf16 := iblk m hO c 4 t
def b5 (t : Fin (cfgM m hO).N) : FVec Ideal S1x1024x512 .bf16 := iblk m hO c 5 t
def b6 (t : Fin (cfgM m hO).N) : FVec Ideal S1x512x1024 .bf16 := iblk m hO c 6 t
def b7 (t : Fin (cfgM m hO).N) : FVec Ideal S1x512x1024 .bf16 := iblk m hO c 7 t
def b8 (t : Fin (cfgM m hO).N) : FVec Ideal S1x512x1024 .bf16 := iblk m hO c 8 t
def b9 (t : Fin (cfgM m hO).N) : FVec Ideal S1x1024x1024 .bf16 := iblk m hO c 9 t
def b10 (t : Fin (cfgM m hO).N) : FVec Ideal S1x1x1024 .f32 := iblk m hO c 10 t
def b11 (t : Fin (cfgM m hO).N) : FVec Ideal S1x1x1024 .f32 := iblk m hO c 11 t

/-- The result array. -/
def result : FVec Ideal S16384x1024 .f32 := fun i =>
  entry ⟨lay m, hl⟩ (aX m c) (aPool m c) (aHg m c) (aLat m c) (aIn m c) (aUv m c) (aBp m c) (aBh m c) (aBm m c) (aOut m c) (aG m c) (aB m c) (i 0) (i 1)

/-- The latent attention's values from the block-diagonal weights: the other heads' columns meet zeros. -/
theorem values_eq (t : Fin (cfgM m hO).N) (a : Fin 512) (e : Fin 512) :
    ∑ i : Fin 1024, b3 m hO c t (ix2 a i) * b5 m hO c t (ix3 0 i e)
      = ∑ d : Fin 128, aLat m c (ix4 ⟨(row t a).val / 4096, by omega⟩ ⟨(row t a).val % 4096, by omega⟩ ⟨e.val / 64, by omega⟩ d)
        * aUv m c (ix4 ⟨lay m, hl⟩ d ⟨e.val / 64, by omega⟩ ⟨e.val % 64, by omega⟩) := by
  have h5 : ∀ i : Fin 1024, b5 m hO c t (ix3 0 i e)
      = if i.val / 128 = e.val / 64 then aUv m c (ix4 ⟨lay m, hl⟩ ⟨i.val % 128, by omega⟩ ⟨e.val / 64, by omega⟩ ⟨e.val % 64, by omega⟩) else 0 :=
    fun i => (iblk5 m hO c t hl i e).trans (uv_at m c _ i e)
  rw [sum_block _ ⟨e.val / 64, by omega⟩ fun i hi => by rw [h5, if_neg hi, mul_zero]]
  refine Finset.sum_congr rfl fun d _ => ?_
  rw [h5, if_pos (show (128 * (e.val / 64) + d.val) / 128 = e.val / 64 by omega), show b3 m hO c t _ = _ from (iblk3 m hO c t a _).trans (lat_at m c _ _)]
  have e1 : (⟨(128 * (e.val / 64) + d.val) / 128, by omega⟩ : Fin 8) = ⟨e.val / 64, by omega⟩ := Fin.ext (by dsimp only; omega)
  have e2 : (⟨(128 * (e.val / 64) + d.val) % 128, by omega⟩ : Fin 128) = d := Fin.ext (by dsimp only; omega)
  dsimp only
  rw [e1, e2]

/-- What grid point `t` writes, at an index. -/
theorem point_at (t : Fin (cfgM m hO).N) (a : Fin 512) (n : Fin 1024) :
    k0_pay1 (before (b0 m hO c t) (b1 m hO c t) (b2 m hO c t) (b3 m hO c t) (b4 m hO c t) (b5 m hO c t) (b6 m hO c t)
      (b7 m hO c t) (b8 m hO c t) (b9 m hO c t)) (k0_pay9 (b10 m hO c t)) (b11 m hO c t) (ix2 a n)
      = result m c hl (ix2 (row t a) n) :=
  (out_at _ _ _ _ _ _ _ _ _ _ _ _ a n).trans (normed_congr (fun d => (iblk0 m hO c t a d).trans (x_at m c _ d))
    (fun e => (iblk1 m hO c t a e).trans (pool_at m c _ e)) (fun e => (iblk2 m hO c t a e).trans (hg_at m c _ e)) (values_eq m hO c hl t a)
    (fun d j => (iblk4 m hO c t hl d j).trans (gates_at m c _ d j)) (fun e k => (iblk6 m hO c t hl e k).trans (bp_at m c _ e k))
    (fun e k => (iblk7 m hO c t hl e k).trans (bh_at m c _ e k)) (fun e k => (iblk8 m hO c t hl e k).trans (bm_at m c _ e k))
    (fun k n => (iblk9 m hO c t hl k n).trans (out_at_w m c _ k n)) (fun n => (iblk10 m hO c t hl 0 n).trans (g_at m c _ 0 n))
    (fun n => (iblk11 m hO c t hl 0 n).trans (b_at m c _ 0 n)) n)

theorem outs_eq (t : Fin (cfgM m hO).N) : (outsAt0 m hO c t : FVec Ideal S512x1024 .f32)
    = k0_pay1 (F := Ideal) (before (F := Ideal) (b0 m hO c t) (b1 m hO c t) (b2 m hO c t) (b3 m hO c t) (b4 m hO c t) (b5 m hO c t) (b6 m hO c t)
      (b7 m hO c t) (b8 m hO c t) (b9 m hO c t)) (k0_pay9 (F := Ideal) (b10 m hO c t)) (b11 m hO c t) :=
  out_eq c (grid0.coords t) ⟨ms0_0 m hO t, hs0_0 m hO t, ms0_1 m hO t, hs0_1 m hO t, ms0_2 m hO t, hs0_2 m hO t, ms0_3 m hO t, hs0_3 m hO t,
    ms0_4 m hO t, hs0_4 m hO t, ms0_5 m hO t, hs0_5 m hO t, ms0_6 m hO t, hs0_6 m hO t, ms0_7 m hO t, hs0_7 m hO t, ms0_8 m hO t, hs0_8 m hO t,
    ms0_9 m hO t, hs0_9 m hO t, ms0_10 m hO t, hs0_10 m hO t, ms0_11 m hO t, hs0_11 m hO t, ms0_12 m hO t, hs0_12 m hO t⟩
    (iblk m hO c 0 t) (iblk m hO c 1 t) (iblk m hO c 2 t) (iblk m hO c 3 t) (iblk m hO c 4 t) (iblk m hO c 5 t) (iblk m hO c 6 t)
    (iblk m hO c 7 t) (iblk m hO c 8 t) (iblk m hO c 9 t) (iblk m hO c 10 t) (iblk m hO c 11 t) (tbl m 0)

theorem flushed_eq (t : Fin (cfgM m hO).N) (hf : ((cfgM m hO).win 12).flush t = true) :
    (dats m hO 0 c).flushed 12 t = (((cfgM m hO).win 12).blk t).view.read (Elt Ideal) (result m c hl) := by
  have hi := (at_point t).2.2.2.2
  show ((cfgM m hO).win 12).cut (grid0.coords t) ((dats m hO 0 c).after 12 t) = _
  rw [after0_12]
  refine funext fun (i : S512x1024.Idx) => ?_
  rw [eq_ix2 i]
  refine (congrFun (outs_eq m hO c t) (ix2 (i 0) (i 1))).trans ((point_at m hO c hl t (i 0) (i 1)).trans ?_)
  refine congrArg (result m c hl) (funext fun a => Fin.ext ?_)
  match a with
  | ⟨0, _⟩ => show 512 * t.val + (i 0).val = cc0_transform_12 (grid0.coords t) 0 * 512 + 1 * (i 0).val; rw [hi.1]; omega
  | ⟨1, _⟩ => show (i 1).val = cc0_transform_12 (grid0.coords t) 1 * 1024 + 1 * (i 1).val; rw [hi.2]; omega

theorem array_eq : (dats m hO 0 c).arrAt 12 (cfgM m hO).N = result m c hl :=
  (dats m hO 0 c).arrAt_eq_of_cover 12 (result m c hl) (flushed_eq m hO c hl) fun (i : S16384x1024.Idx) => by
    have h0 : (i 0 : Nat) < 16384 := (i 0).isLt
    have h1 : (i 1 : Nat) < 1024 := (i 1).isLt
    have ht : (i 0 : Nat) / 512 < (cfgM m hO).N := lt_of_lt_of_eq (show (i 0 : Nat) / 512 < 32 by omega) N_0.symm
    refine ⟨⟨(i 0 : Nat) / 512, ht⟩, flush0_12 _ _, ?_⟩
    have hi := (at_point ⟨(i 0 : Nat) / 512, ht⟩).2.2.2.2
    show i ∈ ((View.whole main_v29).slice (((cfgM m hO).win 12).rect ⟨(i 0 : Nat) / 512, ht⟩)).set
    refine Eq.mpr (congrArg (i ∈ ·) (View.set_slice_whole main_v29 (((cfgM m hO).win 12).rect ⟨(i 0 : Nat) / 512, ht⟩))) ?_
    refine Rect.mem_set_unit.mpr fun a => ?_
    match a with
    | ⟨0, _⟩ => show cc0_transform_12 (grid0.coords ⟨(i 0 : Nat) / 512, ht⟩) 0 * 512 ≤ (i 0 : Nat)
                    ∧ (i 0 : Nat) < cc0_transform_12 (grid0.coords ⟨(i 0 : Nat) / 512, ht⟩) 0 * 512 + 512
                rw [hi.1]; dsimp only; omega
    | ⟨1, _⟩ => show cc0_transform_12 (grid0.coords ⟨(i 0 : Nat) / 512, ht⟩) 1 * 1024 ≤ (i 1 : Nat)
                    ∧ (i 1 : Nat) < cc0_transform_12 (grid0.coords ⟨(i 0 : Nat) / 512, ht⟩) 1 * 1024 + 1024
                rw [hi.2]; omega

/-- The run, with the result array and the arguments named. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v29) = result m c hl
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h.1 c).1 12).trans (array_eq m (ok_ideal m hl) c hl), h.2 c⟩)
    (θ_run_and (run_main m ρ (ok_ideal m hl)) (unchanged m ρ (ok_ideal m hl)))

end Cert.MergeIdeal.Result
-- ==== Proof.MergeRefRead.lean ====
/-
  The merge reference's result, at an index: the weights at the layer, then each piece of the text read over them.
-/
module

public import proofs.«01_k».proof.Proof.Gen.MergeRefIdeal.Run
public import proofs.«01_k».proof.Proof.MergeSpec
public import Idealize.ShloMosaic.Lib.Pointwise
public import Idealize.ShloMosaic.Lib.DynamicIndex

@[expose] public section

set_option maxRecDepth 16384

noncomputable section

namespace Cert.MergeRefIdeal.Read

open Idealize.ShloMosaic Idealize.ShloMosaic.TcCoe Idealize.ShloMosaic.StableHlo
open Cert.MergeRefIdeal Cert.MergeRefIdeal.Gen Cert.MergeRefIdeal.Value Cert.Proof.MergeRow

/-! ## The weights at the layer -/

/-- The layer's number as a scalar. -/
def word (l : IVec S1 32) : IVec S_ 32 := shapeCast _ l shapeCasts_S1_S_

/-- Where a block begins: at the layer, wrapped if negative, and at zero along the other axes. -/
def start2 (p : BitVec 32) (w : IVec S_ 32) : Fin 2 → Int := fun k => ((![select (cmpi .slt w (constantI S_ 32 0#32)) (addi w (constantI S_ 32 4#32)) w,
  select (cmpi .slt (constantI S_ 32 0#32) (constantI S_ 32 0#32)) (addi (constantI S_ 32 0#32) (constantI S_ 32 p)) (constantI S_ 32 0#32)] : Fin 2 → IVec S_ 32)
  k (Shape.Idx.first h_S_)).toInt

def start3 (p q : BitVec 32) (w : IVec S_ 32) : Fin 3 → Int := fun k => ((![select (cmpi .slt w (constantI S_ 32 0#32)) (addi w (constantI S_ 32 4#32)) w,
  select (cmpi .slt (constantI S_ 32 0#32) (constantI S_ 32 0#32)) (addi (constantI S_ 32 0#32) (constantI S_ 32 p)) (constantI S_ 32 0#32),
  select (cmpi .slt (constantI S_ 32 0#32) (constantI S_ 32 0#32)) (addi (constantI S_ 32 0#32) (constantI S_ 32 q)) (constantI S_ 32 0#32)] : Fin 3 → IVec S_ 32)
  k (Shape.Idx.first h_S_)).toInt

def start4 (p q r : BitVec 32) (w : IVec S_ 32) : Fin 4 → Int := fun k => ((![select (cmpi .slt w (constantI S_ 32 0#32)) (addi w (constantI S_ 32 4#32)) w,
  select (cmpi .slt (constantI S_ 32 0#32) (constantI S_ 32 0#32)) (addi (constantI S_ 32 0#32) (constantI S_ 32 p)) (constantI S_ 32 0#32),
  select (cmpi .slt (constantI S_ 32 0#32) (constantI S_ 32 0#32)) (addi (constantI S_ 32 0#32) (constantI S_ 32 q)) (constantI S_ 32 0#32),
  select (cmpi .slt (constantI S_ 32 0#32) (constantI S_ 32 0#32)) (addi (constantI S_ 32 0#32) (constantI S_ 32 r)) (constantI S_ 32 0#32)] : Fin 4 → IVec S_ 32)
  k (Shape.Idx.first h_S_)).toInt

theorem wrapped (l : IVec S1 32) (h : (l (ix1 0)).toNat < 4) :
    (select (cmpi .slt (word l) (constantI S_ 32 0#32)) (addi (word l) (constantI S_ 32 4#32)) (word l) (Shape.Idx.first h_S_)).toInt
      = ((l (ix1 0)).toNat : Int) := by
  have e : ∀ i, word l i = l (ix1 0) := fun i => congrArg l (funext fun a => match a with | ⟨0, _⟩ => Subsingleton.elim (α := Fin 1) _ _)
  have hi : (l (ix1 0)).toInt = ((l (ix1 0)).toNat : Int) := BitVec.toInt_eq_toNat_of_lt (by omega)
  rw [select_slt_zero_of_nonneg _ _ _ _ (by rw [e, hi]; omega), e, hi]

theorem start2_eq (p : BitVec 32) (l : IVec S1 32) (h : (l (ix1 0)).toNat < 4) (a : Fin 2) :
    start2 p (word l) a = ((![(l (ix1 0)).toNat, 0] : Fin 2 → ℕ) a : Int) :=
  match a with
  | ⟨0, _⟩ => wrapped l h
  | ⟨1, _⟩ => toInt_wrap_ofNat 0 (by norm_num) (d := constantI S_ 32 p) (i := Shape.Idx.first h_S_)

theorem start3_eq (p q : BitVec 32) (l : IVec S1 32) (h : (l (ix1 0)).toNat < 4) (a : Fin 3) :
    start3 p q (word l) a = ((![(l (ix1 0)).toNat, 0, 0] : Fin 3 → ℕ) a : Int) :=
  match a with
  | ⟨0, _⟩ => wrapped l h
  | ⟨1, _⟩ => toInt_wrap_ofNat 0 (by norm_num) (d := constantI S_ 32 p) (i := Shape.Idx.first h_S_)
  | ⟨2, _⟩ => toInt_wrap_ofNat 0 (by norm_num) (d := constantI S_ 32 q) (i := Shape.Idx.first h_S_)

theorem start4_eq (p q r : BitVec 32) (l : IVec S1 32) (h : (l (ix1 0)).toNat < 4) (a : Fin 4) :
    start4 p q r (word l) a = ((![(l (ix1 0)).toNat, 0, 0, 0] : Fin 4 → ℕ) a : Int) :=
  match a with
  | ⟨0, _⟩ => wrapped l h
  | ⟨1, _⟩ => toInt_wrap_ofNat 0 (by norm_num) (d := constantI S_ 32 p) (i := Shape.Idx.first h_S_)
  | ⟨2, _⟩ => toInt_wrap_ofNat 0 (by norm_num) (d := constantI S_ 32 q) (i := Shape.Idx.first h_S_)
  | ⟨3, _⟩ => toInt_wrap_ofNat 0 (by norm_num) (d := constantI S_ 32 r) (i := Shape.Idx.first h_S_)

/-- A weight's block at the layer. -/
theorem slice2 {n1 : ℕ} (x : FVec Ideal ⟨2, ![4, n1]⟩ .f32) (p : BitVec 32) (l : IVec S1 32) (h : (l (ix1 0)).toNat < 4)
    (hs : (⟨2, ![4, n1]⟩ : Shape).Slices (fun _ => 0) ⟨2, ![1, n1]⟩) (d : Fin n1) :
    Host.dynamicSlice ⟨2, ![1, n1]⟩ x (start2 p (word l)) hs (ix2 0 d) = x (ix2 ⟨(l (ix1 0)).toNat, h⟩ d) := by
  have hoff : (⟨2, ![4, n1]⟩ : Shape).Slices ![(l (ix1 0)).toNat, 0] ⟨2, ![1, n1]⟩ :=
    ⟨rfl, fun a => match a with
      | ⟨0, _⟩ => (by show (l (ix1 0)).toNat + 1 ≤ 4; omega)
      | ⟨1, _⟩ => (by show 0 + n1 ≤ n1; omega)⟩
  rw [Host.dynamicSlice_eq_extractStridedSlice _ x _ _ hs hoff (start2_eq p l h)]
  refine congrArg x (funext fun a => Fin.ext ?_)
  match a with
  | ⟨0, _⟩ => show (l (ix1 0)).toNat + 0 = (l (ix1 0)).toNat; omega
  | ⟨1, _⟩ => show 0 + d.val = d.val; omega

/-- A weight's block at the layer. -/
theorem slice3 {n1 n2 : ℕ} (x : FVec Ideal ⟨3, ![4, n1, n2]⟩ .f32) (p q : BitVec 32) (l : IVec S1 32) (h : (l (ix1 0)).toNat < 4)
    (hs : (⟨3, ![4, n1, n2]⟩ : Shape).Slices (fun _ => 0) ⟨3, ![1, n1, n2]⟩) (d : Fin n1) (j : Fin n2) :
    Host.dynamicSlice ⟨3, ![1, n1, n2]⟩ x (start3 p q (word l)) hs (ix3 0 d j) = x (ix3 ⟨(l (ix1 0)).toNat, h⟩ d j) := by
  have hoff : (⟨3, ![4, n1, n2]⟩ : Shape).Slices ![(l (ix1 0)).toNat, 0, 0] ⟨3, ![1, n1, n2]⟩ :=
    ⟨rfl, fun a => match a with
      | ⟨0, _⟩ => (by show (l (ix1 0)).toNat + 1 ≤ 4; omega)
      | ⟨1, _⟩ => (by show 0 + n1 ≤ n1; omega)
      | ⟨2, _⟩ => (by show 0 + n2 ≤ n2; omega)⟩
  rw [Host.dynamicSlice_eq_extractStridedSlice _ x _ _ hs hoff (start3_eq p q l h)]
  refine congrArg x (funext fun a => Fin.ext ?_)
  match a with
  | ⟨0, _⟩ => show (l (ix1 0)).toNat + 0 = (l (ix1 0)).toNat; omega
  | ⟨1, _⟩ => show 0 + d.val = d.val; omega
  | ⟨2, _⟩ => show 0 + j.val = j.val; omega

/-- A weight's block at the layer. -/
theorem slice4 {n1 n2 n3 : ℕ} (x : FVec Ideal ⟨4, ![4, n1, n2, n3]⟩ .f32) (p q r : BitVec 32) (l : IVec S1 32) (h : (l (ix1 0)).toNat < 4)
    (hs : (⟨4, ![4, n1, n2, n3]⟩ : Shape).Slices (fun _ => 0) ⟨4, ![1, n1, n2, n3]⟩) (d : Fin n1) (j : Fin n2) (z : Fin n3) :
    Host.dynamicSlice ⟨4, ![1, n1, n2, n3]⟩ x (start4 p q r (word l)) hs (ix4 0 d j z) = x (ix4 ⟨(l (ix1 0)).toNat, h⟩ d j z) := by
  have hoff : (⟨4, ![4, n1, n2, n3]⟩ : Shape).Slices ![(l (ix1 0)).toNat, 0, 0, 0] ⟨4, ![1, n1, n2, n3]⟩ :=
    ⟨rfl, fun a => match a with
      | ⟨0, _⟩ => (by show (l (ix1 0)).toNat + 1 ≤ 4; omega)
      | ⟨1, _⟩ => (by show 0 + n1 ≤ n1; omega)
      | ⟨2, _⟩ => (by show 0 + n2 ≤ n2; omega)
      | ⟨3, _⟩ => (by show 0 + n3 ≤ n3; omega)⟩
  rw [Host.dynamicSlice_eq_extractStridedSlice _ x _ _ hs hoff (start4_eq p q r l h)]
  refine congrArg x (funext fun a => Fin.ext ?_)
  match a with
  | ⟨0, _⟩ => show (l (ix1 0)).toNat + 0 = (l (ix1 0)).toNat; omega
  | ⟨1, _⟩ => show 0 + d.val = d.val; omega
  | ⟨2, _⟩ => show 0 + j.val = j.val; omega
  | ⟨3, _⟩ => show 0 + z.val = z.val; omega

def wIn (x : FVec Ideal S4x1024x6048 .f32) (w : IVec S_ 32) : FVec Ideal S1024x6048 .f32 :=
  shapeCast _ (Host.dynamicSlice S1x1024x6048 x (start3 1024#32 6048#32 w) sliceFits_S4x1024x6048_S1x1024x6048) shapeCasts_S1x1024x6048_S1024x6048

theorem wIn_at (x : FVec Ideal S4x1024x6048 .f32) (l : IVec S1 32) (h : (l (ix1 0)).toNat < 4) (d : Fin 1024) (j : Fin 6048) :
    wIn x (word l) (ix2 d j) = x (ix3 ⟨(l (ix1 0)).toNat, h⟩ d j) := by
  unfold wIn
  rw [← slice3 x 1024#32 6048#32 l h sliceFits_S4x1024x6048_S1x1024x6048 d j]
  generalize Host.dynamicSlice S1x1024x6048 x (start3 1024#32 6048#32 (word l)) sliceFits_S4x1024x6048_S1x1024x6048 = y
  pointwise []

def wUv (x : FVec Ideal S4x128x8x64 .f32) (w : IVec S_ 32) : FVec Ideal S128x8x64 .f32 :=
  shapeCast _ (Host.dynamicSlice S1x128x8x64 x (start4 128#32 8#32 64#32 w) sliceFits_S4x128x8x64_S1x128x8x64) shapeCasts_S1x128x8x64_S128x8x64

theorem wUv_at (x : FVec Ideal S4x128x8x64 .f32) (l : IVec S1 32) (h : (l (ix1 0)).toNat < 4) (d : Fin 128) (j : Fin 8) (z : Fin 64) :
    wUv x (word l) (ix3 d j z) = x (ix4 ⟨(l (ix1 0)).toNat, h⟩ d j z) := by
  unfold wUv
  rw [← slice4 x 128#32 8#32 64#32 l h sliceFits_S4x128x8x64_S1x128x8x64 d j z]
  generalize Host.dynamicSlice S1x128x8x64 x (start4 128#32 8#32 64#32 (word l)) sliceFits_S4x128x8x64_S1x128x8x64 = y
  pointwise []

def wBr (x : FVec Ideal S4x512x1024 .f32) (w : IVec S_ 32) : FVec Ideal S512x1024 .f32 :=
  shapeCast _ (Host.dynamicSlice S1x512x1024 x (start3 512#32 1024#32 w) sliceFits_S4x512x1024_S1x512x1024) shapeCasts_S1x512x1024_S512x1024

theorem wBr_at (x : FVec Ideal S4x512x1024 .f32) (l : IVec S1 32) (h : (l (ix1 0)).toNat < 4) (d : Fin 512) (j : Fin 1024) :
    wBr x (word l) (ix2 d j) = x (ix3 ⟨(l (ix1 0)).toNat, h⟩ d j) := by
  unfold wBr
  rw [← slice3 x 512#32 1024#32 l h sliceFits_S4x512x1024_S1x512x1024 d j]
  generalize Host.dynamicSlice S1x512x1024 x (start3 512#32 1024#32 (word l)) sliceFits_S4x512x1024_S1x512x1024 = y
  pointwise []

def wOut (x : FVec Ideal S4x1024x1024 .f32) (w : IVec S_ 32) : FVec Ideal S1024x1024 .f32 :=
  shapeCast _ (Host.dynamicSlice S1x1024x1024 x (start3 1024#32 1024#32 w) sliceFits_S4x1024x1024_S1x1024x1024) shapeCasts_S1x1024x1024_S1024x1024

theorem wOut_at (x : FVec Ideal S4x1024x1024 .f32) (l : IVec S1 32) (h : (l (ix1 0)).toNat < 4) (d : Fin 1024) (j : Fin 1024) :
    wOut x (word l) (ix2 d j) = x (ix3 ⟨(l (ix1 0)).toNat, h⟩ d j) := by
  unfold wOut
  rw [← slice3 x 1024#32 1024#32 l h sliceFits_S4x1024x1024_S1x1024x1024 d j]
  generalize Host.dynamicSlice S1x1024x1024 x (start3 1024#32 1024#32 (word l)) sliceFits_S4x1024x1024_S1x1024x1024 = y
  pointwise []

def wLn (x : FVec Ideal S4x1024 .f32) (w : IVec S_ 32) : FVec Ideal S1024 .f32 :=
  shapeCast _ (Host.dynamicSlice S1x1024 x (start2 1024#32 w) sliceFits_S4x1024_S1x1024) shapeCasts_S1x1024_S1024

theorem wLn_at (x : FVec Ideal S4x1024 .f32) (l : IVec S1 32) (h : (l (ix1 0)).toNat < 4) (d : Fin 1024) :
    wLn x (word l) (ix1 d) = x (ix2 ⟨(l (ix1 0)).toNat, h⟩ d) := by
  unfold wLn
  rw [← slice2 x 1024#32 l h sliceFits_S4x1024_S1x1024 d]
  generalize Host.dynamicSlice S1x1024 x (start2 1024#32 (word l)) sliceFits_S4x1024_S1x1024 = y
  pointwise []

/-! ## The pieces -/

/-- The gates: the logistic function of the last 3072 columns of the projection. -/
def gates (x : FVec Ideal S4x4096x1024 .f32) (wi : FVec Ideal S1024x6048 .f32) : FVec Ideal S4x4096x3072 .f32 :=
  Host.divf (broadcastInDim S4x4096x3072 ![] bcast_S_S4x4096x3072 (constant S_ .f32 0x3F800000#32)) (addf (broadcastInDim S4x4096x3072 ![] bcast_S_S4x4096x3072 (constant S_ .f32 0x3F800000#32)) (Host.exp (Host.negf (extractStridedSlice S4x4096x3072 ![0, 0, 2976]
    (Host.dotGeneral dot_S4x4096x1024_S1024x6048_S4x4096x6048_2_0_01_1_n_n none x wi) slices_S4x4096x6048_S4x4096x3072_0_0_2976))))

theorem gates_at (x : FVec Ideal S4x4096x1024 .f32) (wi : FVec Ideal S1024x6048 .f32) (b : Fin 4) (t : Fin 4096) (k : Fin 3072) :
    gates x wi (ix3 b t k) = Ideal.logistic (∑ d : Fin 1024, x (ix3 b t d) * wi (ix2 d ⟨2976 + k.val, by omega⟩)) := by
  pointwise [gates]
  rfl

/-- The latent attention's values, the heads side by side. -/
def values (uv : FVec Ideal S128x8x64 .f32) (ol : FVec Ideal S4x4096x8x128 .f32) : FVec Ideal S4x4096x512 .f32 :=
  shapeCast _ (transpose S4x4096x8x64 [2, 3, 0, 1] (Host.dotGeneral dot_S128x8x64_S4x4096x8x128_S8x64x4x4096_0_3_2_01_1_2 none uv ol)
    transposes_S8x64x4x4096_S4x4096x8x64_2_3_0_1) shapeCasts_S4x4096x8x64_S4x4096x512

theorem values_at (uv : FVec Ideal S128x8x64 .f32) (ol : FVec Ideal S4x4096x8x128 .f32) (b : Fin 4) (t : Fin 4096) (e : Fin 512) :
    values uv ol (ix3 b t e) = ∑ c : Fin 128, ol (ix4 b t ⟨e.val / 64, by omega⟩ c) * uv (ix3 c ⟨e.val / 64, by omega⟩ ⟨e.val % 64, by omega⟩) := by
  pointwise [values]
  exact Finset.sum_congr rfl fun c _ => mul_comm _ _

/-- A branch's product. -/
def branch (y : FVec Ideal S4x4096x512 .f32) (w : FVec Ideal S512x1024 .f32) : FVec Ideal S4x4096x1024 .f32 :=
  Host.dotGeneral dot_S4x4096x512_S512x1024_S4x4096x1024_2_0_01_1_n_n none y w

theorem branch_at (y : FVec Ideal S4x4096x512 .f32) (w : FVec Ideal S512x1024 .f32) (b : Fin 4) (t : Fin 4096) (k : Fin 1024) :
    branch y w (ix3 b t k) = ∑ e : Fin 512, y (ix3 b t e) * w (ix2 e k) := by
  pointwise [branch]

/-- The row before the norm. -/
def summed (x : FVec Ideal S4x4096x1024 .f32) (g : FVec Ideal S4x4096x3072 .f32) (p q r : FVec Ideal S4x4096x1024 .f32)
    (wo : FVec Ideal S1024x1024 .f32) : FVec Ideal S4x4096x1024 .f32 :=
  addf (mulf (broadcastInDim S4x4096x1024 ![] bcast_S_S4x4096x1024 (constant S_ .f32 0x3FD744FD#32)) x)
    (Host.dotGeneral dot_S4x4096x1024_S1024x1024_S4x4096x1024_2_0_01_1_n_n none
      (addf (addf (mulf (extractStridedSlice S4x4096x1024 ![0, 0, 0] g slices_S4x4096x3072_S4x4096x1024_0_0_0) p)
        (mulf (extractStridedSlice S4x4096x1024 ![0, 0, 1024] g slices_S4x4096x3072_S4x4096x1024_0_0_1024) q))
        (mulf (extractStridedSlice S4x4096x1024 ![0, 0, 2048] g slices_S4x4096x3072_S4x4096x1024_0_0_2048) r)) wo)

theorem summed_at (x : FVec Ideal S4x4096x1024 .f32) (g : FVec Ideal S4x4096x3072 .f32) (p q r : FVec Ideal S4x4096x1024 .f32)
    (wo : FVec Ideal S1024x1024 .f32) (b : Fin 4) (t : Fin 4096) (n : Fin 1024) :
    summed x g p q r wo (ix3 b t n) = Ideal.ofBits .f32 0x3FD744FD#32 * x (ix3 b t n) + ∑ k : Fin 1024,
      (g (ix3 b t ⟨k.val, by omega⟩) * p (ix3 b t k) + g (ix3 b t ⟨1024 + k.val, by omega⟩) * q (ix3 b t k)
        + g (ix3 b t ⟨2048 + k.val, by omega⟩) * r (ix3 b t k)) * wo (ix2 k n) := by
  pointwise [summed]

/-- The means of the rows. -/
def means (x : FVec Ideal S4x4096x1024 .f32) : FVec Ideal S4x4096x1 .f32 :=
  Host.divf (broadcastInDim S4x4096x1 ![0, 1] bcast_S4x4096_S4x4096x1_0_1 (Host.reduceAdd x (constant S_ .f32 0x00000000#32) reducesTo_S4x4096x1024_S4x4096_d2 h_S_)) (broadcastInDim S4x4096x1 ![] bcast_S_S4x4096x1 (constant S_ .f32 0x44800000#32))

theorem means_at (x : FVec Ideal S4x4096x1024 .f32) (b : Fin 4) (t : Fin 4096) (z : Fin 1) :
    means x (ix3 b t z) = mean fun k => x (ix3 b t k) := by
  pointwise [means, mean]

/-- The rows less their means. -/
def centred (x : FVec Ideal S4x4096x1024 .f32) : FVec Ideal S4x4096x1024 .f32 :=
  subf x (broadcastInDim S4x4096x1024 ![0, 1, 2] bcast_S4x4096x1_S4x4096x1024_0_1_2 (means x))

theorem centred_at (x : FVec Ideal S4x4096x1024 .f32) (b : Fin 4) (t : Fin 4096) (n : Fin 1024) :
    centred x (ix3 b t n) = x (ix3 b t n) - mean fun k => x (ix3 b t k) := by
  rw [← means_at x b t 0]
  unfold centred
  generalize means x = y
  pointwise []

/-- A vector along the last axis. -/
def along (g : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 g)

/-- The layer norm of the rows. -/
def norm (x : FVec Ideal S4x4096x1024 .f32) (g b : FVec Ideal S1024 .f32) : FVec Ideal S16384x1024 .f32 :=
  shapeCast _ (addf (mulf (mulf (centred x) (broadcastInDim S4x4096x1024 ![0, 1, 2] bcast_S4x4096x1_S4x4096x1024_0_1_2
    (Host.rsqrt (addf (means (mulf (centred x) (centred x))) (broadcastInDim S4x4096x1 ![] bcast_S_S4x4096x1 (constant S_ .f32 0x3727C5AC#32)))))) (along g)) (along b))
    shapeCasts_S4x4096x1024_S16384x1024

theorem norm_at (x : FVec Ideal S4x4096x1024 .f32) (g b : FVec Ideal S1024 .f32) (r : Fin 16384) (n : Fin 1024) :
    norm x g b (ix2 r n) = normed (fun k => x (ix3 ⟨r.val / 4096, by omega⟩ ⟨r.val % 4096, by omega⟩ k)) (fun n => g (ix1 n)) (fun n => b (ix1 n)) n := by
  have e : ∀ k, mulf (centred x) (centred x) (ix3 ⟨r.val / 4096, by omega⟩ ⟨r.val % 4096, by omega⟩ k)
      = centred x (ix3 ⟨r.val / 4096, by omega⟩ ⟨r.val % 4096, by omega⟩ k) * centred x (ix3 ⟨r.val / 4096, by omega⟩ ⟨r.val % 4096, by omega⟩ k) := fun _ => rfl
  have h := means_at (mulf (centred x) (centred x)) ⟨r.val / 4096, by omega⟩ ⟨r.val % 4096, by omega⟩ 0
  simp only [e, centred_at] at h
  unfold normed
  rw [← h, ← centred_at]
  unfold norm along
  generalize means (mulf (centred x) (centred x)) = y
  generalize centred x = z
  pointwise []

/-! ## The whole -/

/-- The reference's result as a function of its arguments. -/
def whole (l : IVec S1 32) (x : FVec Ideal S4x4096x1024 .f32) (yp oh : FVec Ideal S4x4096x512 .f32) (ol : FVec Ideal S4x4096x8x128 .f32)
    (wi : FVec Ideal S4x1024x6048 .f32) (uv : FVec Ideal S4x128x8x64 .f32) (wp wh wm : FVec Ideal S4x512x1024 .f32) (wo : FVec Ideal S4x1024x1024 .f32)
    (g b : FVec Ideal S4x1024 .f32) : FVec Ideal S16384x1024 .f32 :=
  norm (summed x (gates x (wIn wi (word l))) (branch yp (wBr wp (word l))) (branch oh (wBr wh (word l)))
    (branch (values (wUv uv (word l)) ol) (wBr wm (word l))) (wOut wo (word l))) (wLn g (word l)) (wLn b (word l))

theorem whole_at (l : IVec S1 32) (h : (l (ix1 0)).toNat < 4) (x : FVec Ideal S4x4096x1024 .f32) (yp oh : FVec Ideal S4x4096x512 .f32) (ol : FVec Ideal S4x4096x8x128 .f32)
    (wi : FVec Ideal S4x1024x6048 .f32) (uv : FVec Ideal S4x128x8x64 .f32) (wp wh wm : FVec Ideal S4x512x1024 .f32) (wo : FVec Ideal S4x1024x1024 .f32)
    (g b : FVec Ideal S4x1024 .f32) (r : Fin 16384) (n : Fin 1024) :
    whole l x yp oh ol wi uv wp wh wm wo g b (ix2 r n)
      = entry ⟨(l (ix1 0)).toNat, h⟩ x yp oh ol wi uv wp wh wm wo g b r n := by
  unfold whole
  rw [norm_at]
  unfold entry preNorm
  simp only [summed_at, gates_at, branch_at, values_at, wIn_at _ l h, wUv_at _ l h, wBr_at _ l h, wOut_at _ l h, wLn_at _ l h]

/-- The run's result is that function of the launch's arguments. -/
theorem res_eq (m : (ℓ : Loc nD τ sig) → Buf (Elt Ideal) ℓ) (c : Dev nD) :
    (shapeCast _ (addf (mulf (mulf (subf (res_main_v118 (launchContents m c)) (broadcastInDim S4x4096x1024 ![0, 1, 2] bcast_S4x4096x1_S4x4096x1024_0_1_2 (res_main_v122 (launchContents m c)))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v124 (launchContents m c)) (res_main_v124 (launchContents m c))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ (Host.dynamicSlice S1x1024 ((launchContents m c) (Proc.devRef .tc main_arg11)) (fun k => (((![select (cmpi .slt (res_main_v75 (launchContents m c)) (constantI S_ 32 0#32)) (addi (res_main_v75 (launchContents m c)) (constantI S_ 32 4#32)) (res_main_v75 (launchContents m c)), select (cmpi .slt (constantI S_ 32 0#32) (constantI S_ 32 0#32)) (addi (constantI S_ 32 0#32) (constantI S_ 32 1024#32)) (constantI S_ 32 0#32)] : Fin 2 → (⟨S_, .i32⟩ : BufTy).Contents (Elt Ideal))) k (Shape.Idx.first h_S_)).toInt) sliceFits_S4x1024_S1x1024) shapeCasts_S1x1024_S1024)))) (broadcastInDim S4x4096x1024 ![0, 1, 2] bcast_S1x1x1024_S4x4096x1024_0_1_2 (broadcastInDim S1x1x1024 ![2] bcast_S1024_S1x1x1024_2 (shapeCast _ (Host.dynamicSlice S1x1024 ((launchContents m c) (Proc.devRef .tc main_arg12)) (fun k => (((![select (cmpi .slt (res_main_v84 (launchContents m c)) (constantI S_ 32 0#32)) (addi (res_main_v84 (launchContents m c)) (constantI S_ 32 4#32)) (res_main_v84 (launchContents m c)), select (cmpi .slt (constantI S_ 32 0#32) (constantI S_ 32 0#32)) (addi (constantI S_ 32 0#32) (constantI S_ 32 1024#32)) (constantI S_ 32 0#32)] : Fin 2 → (⟨S_, .i32⟩ : BufTy).Contents (Elt Ideal))) k (Shape.Idx.first h_S_)).toInt) sliceFits_S4x1024_S1x1024) shapeCasts_S1x1024_S1024)))) shapeCasts_S4x4096x1024_S16384x1024 : FVec Ideal S16384x1024 .f32) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := rfl

end Cert.MergeRefIdeal.Read
-- ==== Proof.FfnFrame.lean ====
/-
  The frame of the feed-forward call, from the two runs of its body: the launch's set-up as generated, with the time its two
  readings of the accumulation need.
-/
module

public import proofs.«01_k».proof.Proof.Gen.FfnIdeal.Frame.RunB
public import Idealize.ShloMosaic.Lib.Claim

@[expose] public section

set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 cover its block (1 store of `S512x1024`). -/
theorem cover0_A_7 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).1 S512x1024.size (by sl_kernel_rfl) y

/-- What case A leaves in output 7's staging buffer: its pieces read back over junk. -/
def out0_A_7 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) : Vec F S512x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).1)

/-- Case A's pieces for output 8 cover its block (22 stores of `S1x8x256`). -/
theorem cover0_A_8 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) (y : S1x8x5632.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).2.1 S1x8x256.size (by sl_kernel_rfl) y

/-- What case A leaves in output 8's staging buffer: its pieces read back over junk. -/
def out0_A_8 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) : Vec F S1x8x5632 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).2.1)

/-- Case A's pieces for scratch `arg11`, which the kernel carries between points, cover it: one of them a store of the WHOLE buffer. -/
theorem scover0_A_0 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) (y : S8x5632.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).2.2.1 (by sl_whole_mem) y

/-- What case A leaves in scratch `arg11`: its pieces read back over junk. -/
def sout0_A_0 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) : Vec F S8x5632 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).2.2.1)

/-- Case B's pieces for output 7 cover its block (1 store of `S512x1024`). -/
theorem cover0_B_7 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) (xs0 : Vec F S8x5632 .f32) (y : S512x1024.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).1 S512x1024.size (by sl_kernel_rfl) y

/-- What case B leaves in output 7's staging buffer: its pieces read back over junk. -/
def out0_B_7 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) (xs0 : Vec F S8x5632 .f32) : Vec F S512x1024 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).1)

/-- Case B's pieces for output 8 cover its block (22 stores of `S1x8x256`). -/
theorem cover0_B_8 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) (xs0 : Vec F S8x5632 .f32) (y : S1x8x5632.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).2.1 S1x8x256.size (by sl_kernel_rfl) y

/-- What case B leaves in output 8's staging buffer: its pieces read back over junk. -/
def out0_B_8 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) (xs0 : Vec F S8x5632 .f32) : Vec F S1x8x5632 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).2.1)

/-- Case B's pieces for scratch `arg11`, which the kernel carries between points, cover it: 22 pieces of `S8x256` tiling it. -/
theorem scover0_B_0 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) (xs0 : Vec F S8x5632 .f32) (y : S8x5632.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).2.2.1 S8x256.size (by sl_kernel_rfl) y

/-- What case B leaves in scratch `arg11`: its pieces read back over junk. -/
def sout0_B_0 (c : Dev nD) (i : grid0.Coords) (arg2 : Memref sig .tc .vmem S512x1024 .f32) (harg2 : arg2.IsWhole) (arg3 : Memref sig .tc .vmem S1x1024x5632 .bf16) (harg3 : arg3.IsWhole) (arg4 : Memref sig .tc .vmem S1x3x5632 .f32) (harg4 : arg4.IsWhole) (arg5 : Memref sig .tc .vmem S1x1x5632 .f32) (harg5 : arg5.IsWhole) (arg6 : Memref sig .tc .vmem S1x2816x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S512x1024 .f32) (harg9 : arg9.IsWhole) (arg10 : Memref sig .tc .vmem S1x8x5632 .f32) (harg10 : arg10.IsWhole) (arg11 : Memref sig .tc .vmem S8x5632 .f32) (harg11 : arg11.IsWhole) (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32) (x3 : Vec F S1x1x5632 .f32) (x4 : Vec F S1x2816x1024 .bf16) (x5 : Vec F S1x1x1024 .f32) (x6 : Vec F S1x1x1024 .f32) (xt0 : TbBuf0 (F := F) c tbM0_0) (xs0 : Vec F S8x5632 .f32) : Vec F S8x5632 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).2.2.1)

/-! ## What the outputs hold after each point -/

/-- What the two outputs' staging buffers and the carried rows hold after the body at position `n`: those of the case that `n` is in, the
    second case over the carried rows that the position before left. -/
def outsAt0 (hO : Ok m) (c : Dev nD) : (n : ℕ) → n < (cfgM m hO).N → Vec F S512x1024 .f32 × Vec F S1x8x5632 .f32 × Vec F S8x5632 .f32
  | 0, hn => (out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), out0_A_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) scM0_0 (Memref.isWhole_whole _) scM0_1 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0))
  | n + 1, hn =>
    if h0 : (n + 1) % 8 = 0 then
      (out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), out0_A_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0))
    else
      (out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.2, out0_B_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2.2)

set_option maxHeartbeats 4000000 in
/-- `outsAt0` at a point of case A: that case's contents. -/
theorem outsAt0_A (hO : Ok m) (c : Dev nD) (t : Fin (cfgM m hO).N) (h0 : t.val % 8 = 0) :
    outsAt0 m hO c t.val t.isLt = (out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (iblk m hO c 5 t) (iblk m hO c 6 t) (tbl m 0)) := by
  obtain ⟨n, hn⟩ := t
  cases n with
  | zero => exact rfl
  | succ n => exact (dif_pos h0).trans rfl

set_option maxHeartbeats 4000000 in
/-- `outsAt0` at a point of case B: that case's contents, over what the point before left. -/
theorem outsAt0_B (hO : Ok m) (c : Dev nD) (t : Fin (cfgM m hO).N) (h0 : ¬t.val % 8 = 0) :
    outsAt0 m hO c t.val t.isLt = (out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.2, out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2) ∗ (∃ d, owns (c : Thread nD τ) scM0_1 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2) ∗ (∃ d, owns (c : Thread nD τ) scM0_1 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2) ∗ (∃ d, owns (c : Thread nD τ) scM0_1 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t.val t.isLt).1
    | ⟨8, _⟩ => (outsAt0 m hO c t.val t.isLt).2.1
  Φ t := PhiS m hO c t.val (Nat.le_of_lt_succ t.isLt)
  q _ := fullShare
  owed _ := 0

/-- The arrays of the proof data are those the region finds. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t.val t.isLt).1 := by dsimp only [dats]; try rfl
theorem after0_8 (hO : Ok m) (c : Dev nD) (t : Fin (cfgM m hO).N) : (dats m hO 0 c).after 8 t = (outsAt0 m hO c t.val t.isLt).2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 6400000 in
/-- The body at any point: by the case the point is in, its run applies to the blocks staged and to the rows that the point before left,
    and its own rows are handed on. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    after0_0, after0_1, after0_2, after0_3, after0_4, after0_5, after0_6, after0_7, after0_8]
  rw [show (dats m hO 0 c).Φ t.succ = PhiS m hO c (t.val + 1) t.isLt from rfl, PhiS_succ, PhiT0_eq]
  have hN : t.val < 32 := lt_of_lt_of_eq t.isLt (show (cfgM m hO).N = 32 from N_0)
  by_cases h0 : t.val % 8 = 0
  · by_cases hz : t.val = 0
    · rw [PhiS_castSucc m hO c t, PhiS_zero m hO c _ _ hz, PhiT0_eq, PhiA0_eq]
      rw [outsAt0_A m hO c t h0]
      unfold out0_A_7 out0_A_8 sout0_A_0; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (tbl m 0)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HT0]; · iexact HT0
      iintro ⟨H0, H1, H2, H3, H4, H5, H6, ⟨%e7, H7⟩, ⟨%e8, H8⟩, ⟨%es0, HS0⟩, ⟨%fT1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            iexists _; unfold owns; iexists _; isplitr
            swap; · iexact HS1
            ipureintro; rfl
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _)
    · rw [PhiS_castSucc m hO c t, PhiS_pos m hO c _ _ hz, PhiT0_eq]
      rw [outsAt0_A m hO c t h0]
      unfold out0_A_7 out0_A_8 sout0_A_0; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (tbl m 0)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexists _; iexact HS0
      isplitl [HS1]; · iexact HS1
      isplitl [HT0]; · iexact HT0
      iintro ⟨H0, H1, H2, H3, H4, H5, H6, ⟨%e7, H7⟩, ⟨%e8, H8⟩, ⟨%es0, HS0⟩, ⟨%fT1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            iexists _; unfold owns; iexists _; isplitr
            swap; · iexact HS1
            ipureintro; rfl
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _)
  · by_cases hz : t.val = 0
    · exfalso; have hN : t.val < 32 := lt_of_lt_of_eq t.isLt (show (cfgM m hO).N = 32 from N_0); omega
    · rw [PhiS_castSucc m hO c t, PhiS_pos m hO c _ _ hz, PhiT0_eq]
      rw [outsAt0_B m hO c t h0]
      unfold out0_B_7 out0_B_8 sout0_B_0; (try dsimp only)
      iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (tbl m 0) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HT0]; · iexact HT0
      iintro ⟨H0, H1, H2, H3, H4, H5, H6, ⟨%e7, H7⟩, ⟨%e8, H8⟩, ⟨%es0, HS0⟩, ⟨%fT1, HS1⟩, HT0⟩
      isplitl [HS0 HS1 Hg HT0]
      · isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            iexists _; unfold owns; iexists _; isplitr
            swap; · iexact HS1
            ipureintro; rfl
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives back what the launch handed over, the carried rows forgotten. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 32 := N_0; omega)

/-! ## The run and the frame -/

set_option backward.isDefEq.respectTransparency.types false in
set_option maxHeartbeats 800000 in
/-- The run from any memory with zero counters, and every counter at zero at its end. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- The run from any memory with zero counters: the region's arrays end as the proof data say, every other buffer as the lines after
    the region leave it. -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The arguments end unchanged and every counter at zero, at a layer that fits. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.FfnIdeal.Gen

end
-- ==== Proof.FfnSpec.lean ====
/-
  The feed-forward of one token, over the extended reals: the widening product, the causal convolution of its columns along
  the sequence, the gated product, the narrowing product added to the scaled residual, and the layer norm of the row.
-/
module

public import proofs.«01_k».proof.Proof.MergeSpec

@[expose] public section

noncomputable section

namespace Cert.Proof.FfnRow

open Idealize.ShloMosaic Cert.Proof.MergeRow

/-- The value `k` tokens back, zero before the sequence begins. -/
def back (u : Fin 4096 → EReal) (k : ℕ) (s : Fin 4096) : EReal := if h : k ≤ s.val then u ⟨s.val - k, by omega⟩ else 0

/-- The convolution of a column: a tap on this token and on the two before. -/
def conv (u : Fin 4096 → EReal) (w : Fin 3 → EReal) (b : EReal) (s : Fin 4096) : EReal :=
  b + back u 2 s * w 0 + back u 1 s * w 1 + u s * w 2

/-- Column `j` of the widening product of token `s` of batch `b`. -/
def up (l : Fin 4) (x : FVec Ideal ⟨3, ![4, 4096, 1024]⟩ .f32) (wu : FVec Ideal ⟨3, ![4, 1024, 5632]⟩ .f32) (b : Fin 4) (j : Fin 5632)
    (s : Fin 4096) : EReal := ∑ d : Fin 1024, x (ix3 b s d) * wu (ix3 l d j)

/-- The same column after the convolution. -/
def conved (l : Fin 4) (x : FVec Ideal ⟨3, ![4, 4096, 1024]⟩ .f32) (wu : FVec Ideal ⟨3, ![4, 1024, 5632]⟩ .f32)
    (cw : FVec Ideal ⟨3, ![4, 3, 5632]⟩ .f32) (cb : FVec Ideal ⟨2, ![4, 5632]⟩ .f32) (b : Fin 4) (j : Fin 5632) (s : Fin 4096) : EReal :=
  conv (up l x wu b j) (fun i => cw (ix3 l i j)) (cb (ix2 l j)) s

/-- A gate times the logistic function of itself. -/
def silu (g : EReal) : EReal := g * Ideal.logistic g

/-- The row before the norm, from the residual row and the convolved columns of the token. -/
def preNorm (x : Fin 1024 → EReal) (cv : Fin 5632 → EReal) (wd : Fin 2816 → Fin 1024 → EReal) (n : Fin 1024) : EReal :=
  Ideal.ofBits .f32 0x3FD744FD#32 * x n + ∑ k : Fin 2816, silu (cv ⟨k.val, by omega⟩) * cv ⟨2816 + k.val, by omega⟩ * wd k n

/-- The feed-forward's entry at row `r` (batch and token) and column `n`, from the arguments and the layer. -/
def entry (l : Fin 4) (x : FVec Ideal ⟨3, ![4, 4096, 1024]⟩ .f32) (wu : FVec Ideal ⟨3, ![4, 1024, 5632]⟩ .f32)
    (cw : FVec Ideal ⟨3, ![4, 3, 5632]⟩ .f32) (cb : FVec Ideal ⟨2, ![4, 5632]⟩ .f32) (wd : FVec Ideal ⟨3, ![4, 2816, 1024]⟩ .f32)
    (g b : FVec Ideal ⟨2, ![4, 1024]⟩ .f32) (r : Fin 16384) (n : Fin 1024) : EReal :=
  normed (preNorm (fun d => x (ix3 ⟨r.val / 4096, by omega⟩ ⟨r.val % 4096, by omega⟩ d))
      (fun j => conved l x wu cw cb ⟨r.val / 4096, by omega⟩ j ⟨r.val % 4096, by omega⟩) (fun k n => wd (ix3 l k n)))
    (fun n => g (ix2 l n)) (fun n => b (ix2 l n)) n

/-- The carried rows: the last two tokens' widening product. -/
def carried (l : Fin 4) (x : FVec Ideal ⟨3, ![4, 4096, 1024]⟩ .f32) (wu : FVec Ideal ⟨3, ![4, 1024, 5632]⟩ .f32) (b : Fin 4) (i : Fin 2)
    (j : Fin 5632) : EReal := up l x wu b j ⟨4094 + i.val, by omega⟩

/-! ## Real values -/

/-- Not an infinity. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.back {u : Fin 4096 → EReal} (h : ∀ s, IsReal (u s)) (k : ℕ) (s : Fin 4096) : IsReal (back u k s) := by
  unfold FfnRow.back; split_ifs
  · exact h _
  · exact ⟨0, by simp⟩

/-- Real arguments convolve to real columns. -/
theorem conved_real (l : Fin 4) (x : FVec Ideal ⟨3, ![4, 4096, 1024]⟩ .f32) (wu : FVec Ideal ⟨3, ![4, 1024, 5632]⟩ .f32)
    (cw : FVec Ideal ⟨3, ![4, 3, 5632]⟩ .f32) (cb : FVec Ideal ⟨2, ![4, 5632]⟩ .f32) (hx : ∀ i, IsReal (x i)) (hu : ∀ i, IsReal (wu i))
    (hw : ∀ i, IsReal (cw i)) (hb : ∀ i, IsReal (cb i)) (b : Fin 4) (j : Fin 5632) (s : Fin 4096) : IsReal (conved l x wu cw cb b j s) := by
  have h : ∀ s, IsReal (up l x wu b j s) := fun s => IsReal.sum _ _ fun d => (hx _).mul (hu _)
  exact ((((hb _).add ((IsReal.back h _ _).mul (hw _))).add ((IsReal.back h _ _).mul (hw _))).add ((h _).mul (hw _)))

/-- On a real gate, half the gate and half its product with the hyperbolic tangent of the half add up to the gate times its
logistic function. -/
theorem silu_half {g : EReal} (h : IsReal g) :
    Ideal.ofBits .f32 0x3F000000#32 * g + Ideal.ofBits .f32 0x3F000000#32 * g * Ideal.tanh (Ideal.ofBits .f32 0x3F000000#32 * g) = silu g := by
  obtain ⟨r, rfl⟩ := h
  unfold silu
  rw [← gate, half, one, ← EReal.coe_mul, Ideal.tanh_coe, ← EReal.coe_one, ← EReal.coe_add, ← EReal.coe_mul, ← EReal.coe_mul, ← EReal.coe_mul,
    ← EReal.coe_add]
  congr 1
  ring

end Cert.Proof.FfnRow
-- ==== Proof.FfnLayer.lean ====
/-
  The preconditions of the feed-forward call: a layer from 0 to 3, so that every block it selects lies in its array, and real
  entries of the arguments its gate is computed from.
-/
module

public import proofs.«01_k».proof.Proof.FfnFrame
public import proofs.«01_k».proof.Proof.FfnSpec
public import proofs.«01_k».proof.Proof.MergeLayer
public import proofs.«01_k».proof.Proof.RefValue

@[expose] public section

noncomputable section

namespace Cert.Proof.FfnLayer

open Idealize.ShloMosaic Idealize.ShloMosaic.TcCoe Cert.Proof.Layer Cert.Proof.FfnRow

instance layer_facts : Cert.Pre_a_layer_f.Facts := by constructor <;> decide
instance finite_facts : Cert.Pre_finite_f.Facts := by constructor <;> decide

section
variable {F : FTy → Type} [FloatOps F]

/-- The layer's predicate, read back. -/
theorem lt_of_pre (x0 : IVec Cert.Pre_a_layer_f.S1 32) (x1 x2 x3 x4 x5 x6 x7)
    (h : Cert.Pre_a_layer_f.fn (F := F) x0 x1 x2 x3 x4 x5 x6 x7 = fun _ => 1#1) : (x0 (ix1 0)).toNat < 4 := by
  have : Subsingleton Cert.Pre_a_layer_f.S_.Idx := ⟨fun a b => funext fun i => i.elim0⟩
  have e := congrFun h (fun i => i.elim0)
  exact toNat_lt _ (Host.reduce_andi_all _ _ _ _ _ e (ix1 0))

open Cert.FfnIdeal Cert.FfnIdeal.Gen in
/-- The prefetched word is the layer. -/
theorem word (m : (ℓ : Loc nD τ sig) → Buf (Elt F) ℓ) (inb h) :
    (tbl m).at 0 (Rect.unit (s := S1) ![0] S1.size inb) h = (m ((0 : Dev nD), Proc.tc.devRef main_arg0) : IVec S1 32) (ix1 0) := by
  have e : tbl m 0 = (m ((0 : Dev nD), Proc.tc.devRef main_arg0) : IVec S1 32) := V_main_arg0 m 0
  show (tbl m 0 : IVec S1 32) _ = _
  rw [e]
  exact congrArg _ (funext fun a => match a with | ⟨0, _⟩ => rfl)

open Cert.FfnIdeal Cert.FfnIdeal.Gen in
theorem ok (m : (ℓ : Loc nD τ sig) → Buf (Elt F) ℓ)
    (h : ((m ((0 : Dev nD), Proc.tc.devRef main_arg0) : IVec S1 32) (ix1 0)).toNat < 4) : Ok m := by
  rw [← word m Facts₀.inb_S1_S1_0 Facts₀.numel1_S1] at h
  exact ⟨fun i => ⟨fits _ h _ _, .inr (Affine.block_words_dvd (of_decide_eq_true rfl) (by decide))⟩,
    fun i => ⟨fits _ h _ _, .inl rfl⟩, fun i => ⟨fits _ h _ _, .inl rfl⟩,
    fun i => ⟨fits _ h _ _, .inr (Affine.block_words_dvd (of_decide_eq_true rfl) (by decide))⟩,
    fun i => ⟨fits _ h _ _, .inl rfl⟩, fun i => ⟨fits _ h _ _, .inl rfl⟩⟩

end

open Cert.Pre_finite_f in
/-- The other precondition: the same of the layer, and real entries. -/
theorem reals (a0 : IVec S1 32) (a1 : FVec Ideal S4x4096x1024 .f32) (a2 : FVec Ideal S4x1024x5632 .f32) (a3 : FVec Ideal S4x3x5632 .f32)
    (a4 : FVec Ideal S4x5632 .f32) (a5 : FVec Ideal S4x2816x1024 .f32) (a6 a7 : FVec Ideal S4x1024 .f32)
    (h : fn (F := Ideal) a0 a1 a2 a3 a4 a5 a6 a7 = fun _ => 1#1) :
    (a0 (ix1 0)).toNat < 4 ∧ (∀ i, IsReal (a1 i)) ∧ (∀ i, IsReal (a2 i)) ∧ (∀ i, IsReal (a3 i)) ∧ ∀ i, IsReal (a4 i) := by
  have : Subsingleton S_.Idx := ⟨fun a b => funext fun i => i.elim0⟩
  have e := congrFun h ix0
  unfold fn fn_part1 at e
  dsimp only at e
  have split : ∀ {x y : BitVec 1}, IntOp.andi x y = 1#1 → x = 1#1 ∧ y = 1#1 := by decide
  obtain ⟨e, h4⟩ := split e
  obtain ⟨e, h3⟩ := split e
  obtain ⟨e, h2⟩ := split e
  obtain ⟨h0, h1⟩ := split e
  exact ⟨toNat_lt _ (Host.reduce_andi_all _ _ _ _ _ h0 (ix1 0)),
    fun i => ⟨_, Cert.Pre_finite.real_of_test a1 _ (fun _ => Cert.Pre_finite.ofBits_inf) i (Host.reduce_andi_all _ _ _ _ _ h1 i)⟩,
    fun i => ⟨_, Cert.Pre_finite.real_of_test a2 _ (fun _ => Cert.Pre_finite.ofBits_inf) i (Host.reduce_andi_all _ _ _ _ _ h2 i)⟩,
    fun i => ⟨_, Cert.Pre_finite.real_of_test a3 _ (fun _ => Cert.Pre_finite.ofBits_inf) i (Host.reduce_andi_all _ _ _ _ _ h3 i)⟩,
    fun i => ⟨_, Cert.Pre_finite.real_of_test a4 _ (fun _ => Cert.Pre_finite.ofBits_inf) i (Host.reduce_andi_all _ _ _ _ _ h4 i)⟩⟩

end Cert.Proof.FfnLayer

end
-- ==== Proof.FfnBits.lean ====
/-
  The feed-forward program over machine words: its text is that of its idealization, so the one run serves both.
-/
module

public import proofs.«01_k».proof.Proof.FfnLayer
public import proofs.«01_k».proof.Proof.Gen.Ffn

@[expose] public section

set_option maxRecDepth 16384

noncomputable section

namespace Cert.Proof.FfnLayer

open Idealize.ShloMosaic Idealize.ShloMosaic.TcCoe Idealize.SL.Sem

set_option maxHeartbeats 4000000 in
/-- From any layer below four, the program over machine words runs, leaves its arguments and ends with every counter at zero. -/
theorem frame_bits (m : (ℓ : Loc Cert.Ffn.nD Cert.Ffn.τ Cert.Ffn.sig) → Buf (Elt Bits) ℓ) (ρ : Dev Cert.Ffn.nD → PrngReg)
    (h : ((m ((0 : Dev Cert.Ffn.nD), Proc.tc.devRef Cert.Ffn.main_arg0) : IVec Cert.Ffn.S1 32) (ix1 0)).toNat < 4) :
    θ_run (Cert.Ffn.defs (F := Bits)) (onTc (τ := Cert.Ffn.τ) (Cert.Ffn.main (F := Bits))) ⟨m, fun _ => 0, ρ⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0) :=
  Eq.mp (by sl_kernel_rfl) (Cert.FfnIdeal.Gen.frame (F := Bits) m ρ (ok m h))

end Cert.Proof.FfnLayer

end
-- ==== Proof.FfnArgs.lean ====
/-
  What the feed-forward launch's seven staged inputs hold: each block, at an index, as an entry of the arguments.
-/
module

public import proofs.«01_k».proof.Proof.FfnLayer
public import Idealize.ShloMosaic.Lib.Pointwise
public import Idealize.ShloMosaic.Lib.StableHlo.ReadAt

@[expose] public section

set_option maxRecDepth 16384

noncomputable section

namespace Cert.FfnIdeal.Args

open Idealize.ShloMosaic Idealize.ShloMosaic.TcCoe
open Cert.FfnIdeal Cert.FfnIdeal.Gen

variable (m : (ℓ : Loc nD τ sig) → Buf (Elt Ideal) ℓ)

/-- The arguments, as launched. -/
abbrev aX (c : Dev nD) : FVec Ideal S4x4096x1024 .f32 := m (c, Proc.tc.devRef main_arg1)
abbrev aUp (c : Dev nD) : FVec Ideal S4x1024x5632 .f32 := m (c, Proc.tc.devRef main_arg2)
abbrev aCw (c : Dev nD) : FVec Ideal S4x3x5632 .f32 := m (c, Proc.tc.devRef main_arg3)
abbrev aCb (c : Dev nD) : FVec Ideal S4x5632 .f32 := m (c, Proc.tc.devRef main_arg4)
abbrev aDown (c : Dev nD) : FVec Ideal S4x2816x1024 .f32 := m (c, Proc.tc.devRef main_arg5)
abbrev aG (c : Dev nD) : FVec Ideal S4x1024 .f32 := m (c, Proc.tc.devRef main_arg6)
abbrev aB (c : Dev nD) : FVec Ideal S4x1024 .f32 := m (c, Proc.tc.devRef main_arg7)

/-- The layer, as launched. -/
abbrev lay : ℕ := ((m ((0 : Dev nD), Proc.tc.devRef main_arg0) : IVec S1 32) (ix1 0)).toNat

/-! ## The staged arrays -/

theorem x_at (c : Dev nD) (r : Fin 16384) (j : Fin 1024) :
    (V m c main_v0 : FVec Ideal S16384x1024 .f32) (ix2 r j) = aX m c (ix3 ⟨r.val / 4096, by omega⟩ ⟨r.val % 4096, by omega⟩ j) := by
  unfold V
  after_reads_at

theorem up_at (c : Dev nD) (l : Fin 4) (d : Fin 1024) (j : Fin 5632) :
    (V m c main_v1 : FVec Ideal S4x1024x5632 .bf16) (ix3 l d j) = aUp m c (ix3 l d j) := by
  unfold V
  after_reads_at

theorem cw_at (c : Dev nD) (l : Fin 4) (d : Fin 3) (j : Fin 5632) :
    (V m c main_arg3 : FVec Ideal S4x3x5632 .f32) (ix3 l d j) = aCw m c (ix3 l d j) := by
  unfold V
  after_reads_at

theorem cb_at (c : Dev nD) (l : Fin 4) (z : Fin 1) (j : Fin 5632) :
    (V m c main_v2 : FVec Ideal S4x1x5632 .f32) (ix3 l z j) = aCb m c (ix2 l j) := by
  unfold V
  after_reads_at

theorem down_at (c : Dev nD) (l : Fin 4) (d : Fin 2816) (j : Fin 1024) :
    (V m c main_v3 : FVec Ideal S4x2816x1024 .bf16) (ix3 l d j) = aDown m c (ix3 l d j) := by
  unfold V
  after_reads_at

theorem g_at (c : Dev nD) (l : Fin 4) (z : Fin 1) (j : Fin 1024) :
    (V m c main_v4 : FVec Ideal S4x1x1024 .f32) (ix3 l z j) = aG m c (ix2 l j) := by
  unfold V
  after_reads_at

theorem b_at (c : Dev nD) (l : Fin 4) (z : Fin 1) (j : Fin 1024) :
    (V m c main_v5 : FVec Ideal S4x1x1024 .f32) (ix3 l z j) = aB m c (ix2 l j) := by
  unfold V
  after_reads_at

/-! ## The blocks a grid point stages -/

/-- Grid point `t` stages and writes the rows from `512 t` of the row arrays, and writes block `t` of the tails. -/
theorem at_point : ∀ t : Fin grid0.N, (cc0_transform_0 (grid0.coords t) 0 = t.val ∧ cc0_transform_0 (grid0.coords t) 1 = 0)
    ∧ (cc0_transform_7 (grid0.coords t) 0 = t.val ∧ cc0_transform_7 (grid0.coords t) 1 = 0)
    ∧ (cc0_transform_8 (grid0.coords t) 0 = t.val ∧ cc0_transform_8 (grid0.coords t) 1 = 0 ∧ cc0_transform_8 (grid0.coords t) 2 = 0) := by decide +kernel

/-- The row of the arrays that row `r` of grid point `t` is. -/
def row (t : Fin grid0.N) (r : Fin 512) : Fin 16384 := ⟨512 * t.val + r.val, by have := lt_of_lt_of_eq t.isLt N_0; omega⟩

/-- The layer's word, as the index maps read it. -/
theorem first (inb h) : ((tbl m).at 0 (Rect.unit (s := S1) ![0] S1.size inb) h).toNat = lay m := congrArg BitVec.toNat (Cert.Proof.FfnLayer.word m inb h)

variable (hO : Ok m) (c : Dev nD) (t : Fin (cfgM m hO).N)

theorem iblk0 (r : Fin 512) (j : Fin 1024) :
    (iblk m hO c 0 t : FVec Ideal S512x1024 .f32) (ix2 r j) = (V m c main_v0 : FVec Ideal S16384x1024 .f32) (ix2 (row t r) j) := by
  have hi := (at_point t).1
  unfold iblk
  refine congrArg (V m c main_v0 : FVec Ideal S16384x1024 .f32) (funext fun a => Fin.ext ?_)
  match a with
  | ⟨0, _⟩ => show cc0_transform_0 (grid0.coords t) 0 * 512 + 1 * r.val = 512 * t.val + r.val; rw [hi.1]; omega
  | ⟨1, _⟩ => show cc0_transform_0 (grid0.coords t) 1 * 1024 + 1 * j.val = j.val; rw [hi.2]; omega

variable (hl : lay m < 4)

include hl in
theorem iblk1 (d : Fin 1024) (j : Fin 5632) :
    (iblk m hO c 1 t : FVec Ideal S1x1024x5632 .bf16) (ix3 0 d j) = (V m c main_v1 : FVec Ideal S4x1024x5632 .bf16) (ix3 ⟨lay m, hl⟩ d j) := by
  unfold iblk
  refine congrArg (V m c main_v1 : FVec Ideal S4x1024x5632 .bf16) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 1024 + 1 * d.val = d.val; omega
  | ⟨2, _⟩ => show 0 * 5632 + 1 * j.val = j.val; omega

include hl in
theorem iblk2 (d : Fin 3) (j : Fin 5632) :
    (iblk m hO c 2 t : FVec Ideal S1x3x5632 .f32) (ix3 0 d j) = (V m c main_arg3 : FVec Ideal S4x3x5632 .f32) (ix3 ⟨lay m, hl⟩ d j) := by
  unfold iblk
  refine congrArg (V m c main_arg3 : FVec Ideal S4x3x5632 .f32) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 3 + 1 * d.val = d.val; omega
  | ⟨2, _⟩ => show 0 * 5632 + 1 * j.val = j.val; omega

include hl in
theorem iblk3 (d : Fin 1) (j : Fin 5632) :
    (iblk m hO c 3 t : FVec Ideal S1x1x5632 .f32) (ix3 0 d j) = (V m c main_v2 : FVec Ideal S4x1x5632 .f32) (ix3 ⟨lay m, hl⟩ d j) := by
  unfold iblk
  refine congrArg (V m c main_v2 : FVec Ideal S4x1x5632 .f32) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 1 + 1 * d.val = d.val; omega
  | ⟨2, _⟩ => show 0 * 5632 + 1 * j.val = j.val; omega

include hl in
theorem iblk4 (d : Fin 2816) (j : Fin 1024) :
    (iblk m hO c 4 t : FVec Ideal S1x2816x1024 .bf16) (ix3 0 d j) = (V m c main_v3 : FVec Ideal S4x2816x1024 .bf16) (ix3 ⟨lay m, hl⟩ d j) := by
  unfold iblk
  refine congrArg (V m c main_v3 : FVec Ideal S4x2816x1024 .bf16) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 2816 + 1 * d.val = d.val; omega
  | ⟨2, _⟩ => show 0 * 1024 + 1 * j.val = j.val; omega

include hl in
theorem iblk5 (d : Fin 1) (j : Fin 1024) :
    (iblk m hO c 5 t : FVec Ideal S1x1x1024 .f32) (ix3 0 d j) = (V m c main_v4 : FVec Ideal S4x1x1024 .f32) (ix3 ⟨lay m, hl⟩ d j) := by
  unfold iblk
  refine congrArg (V m c main_v4 : FVec Ideal S4x1x1024 .f32) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 1 + 1 * d.val = d.val; omega
  | ⟨2, _⟩ => show 0 * 1024 + 1 * j.val = j.val; omega

include hl in
theorem iblk6 (d : Fin 1) (j : Fin 1024) :
    (iblk m hO c 6 t : FVec Ideal S1x1x1024 .f32) (ix3 0 d j) = (V m c main_v5 : FVec Ideal S4x1x1024 .f32) (ix3 ⟨lay m, hl⟩ d j) := by
  unfold iblk
  refine congrArg (V m c main_v5 : FVec Ideal S4x1x1024 .f32) (funext fun a => Fin.ext ?_)
  match a with
  | ⟨0, _⟩ => show ((tbl m).at 0 (Rect.unit (s := S1) ![0] S1.size inb_S1_S1_0) numel1_S1).toNat * 1 + 1 * 0 = lay m; rw [first m _ numel1_S1]; omega
  | ⟨1, _⟩ => show 0 * 1 + 1 * d.val = d.val; omega
  | ⟨2, _⟩ => show 0 * 1024 + 1 * j.val = j.val; omega

end Cert.FfnIdeal.Args

end
-- ==== Proof.FfnBody.lean ====
/-
  What one grid point of the feed-forward kernel leaves in its buffers, from the seven input blocks and the eight rows before the
  block: the output block, and the last eight rows of the widening product, which it writes into both the tail and the rows kept for the next block.
-/
module

public import proofs.«01_k».proof.Proof.FfnFrame
public import Idealize.ShloMosaic.Lib.Pipeline.Value
public import Idealize.ShloMosaic.Lib.Pipeline.ValueKit
public import Idealize.ShloMosaic.Lib.Pipeline.ReadBack
public import Idealize.ShloMosaic.Lib.Tactic
public import Idealize.ShloMosaic.Lib.Tactic.RunNames

@[expose] public section

set_option maxRecDepth 16384

noncomputable section

namespace Cert.FfnIdeal.Body

open Cert.FfnIdeal Cert.FfnIdeal.Gen
open Idealize.ShloMosaic Idealize.ShloMosaic.TcCoe

variable {F : FTy → Type} [FloatOps F]

theorem zero2a : ∀ a, (![0, 0] : Fin 2 → ℕ) a = 0 := fun a => by fin_cases a <;> rfl
theorem zero2 : (![0, 0] : Fin 2 → ℕ) = fun _ => 0 := funext fun a => by fin_cases a <;> rfl
theorem zero3 : (![0, 0, 0] : Fin 3 → ℕ) = fun _ => 0 := funext fun a => by fin_cases a <;> rfl

/-- A block of 256 columns, of one row or of several, lies in its array. -/
theorem in2 {o n m N : ℕ} (h : o + n ≤ m) (lo : ℕ) (hl : lo + 256 ≤ N) :
    ∀ a : Fin 2, (![o, lo] : Fin 2 → ℕ) a + (![n, 256] : Fin 2 → ℕ) a ≤ (![m, N] : Fin 2 → ℕ) a := by
  intro a
  match a with
  | ⟨0, _⟩ => exact h
  | ⟨1, _⟩ => exact hl
theorem in3 {o n m : ℕ} (h : o + n ≤ m) (lo : ℕ) (hl : lo + 256 ≤ 5632) :
    ∀ a : Fin 3, (![0, o, lo] : Fin 3 → ℕ) a + (![1, n, 256] : Fin 3 → ℕ) a ≤ (![1, m, 5632] : Fin 3 → ℕ) a := by
  intro a
  match a with
  | ⟨0, _⟩ => exact le_rfl
  | ⟨1, _⟩ => exact h
  | ⟨2, _⟩ => exact hl

/-- 256 columns of the widening weights, of a tap, of the shift, and of one of the rows before the block. -/
def wCols (x1 : Vec F S1x1024x5632 .bf16) (lo : ℕ) (hl : lo + 256 ≤ 5632) : Vec F S1x1024x256 .bf16 :=
  View.ld x1 (Rect.unit ![0, 0, lo] S1x1024x256.size (in3 (by decide) lo hl))
def tapCols (x2 : Vec F S1x3x5632 .f32) (i : ℕ) (hi : i + 1 ≤ 3) (lo : ℕ) (hl : lo + 256 ≤ 5632) : Vec F S1x1x256 .f32 :=
  View.ld x2 (Rect.unit ![0, i, lo] S1x1x256.size (in3 hi lo hl))
def shiftCols (x3 : Vec F S1x1x5632 .f32) (lo : ℕ) (hl : lo + 256 ≤ 5632) : Vec F S1x1x256 .f32 :=
  View.ld x3 (Rect.unit ![0, 0, lo] S1x1x256.size (in3 (by decide) lo hl))
def rowCols (H : Vec F S8x5632 .f32) (r : ℕ) (hr : r + 1 ≤ 8) (lo : ℕ) (hl : lo + 256 ≤ 5632) : Vec F S1x256 .f32 :=
  View.ld H (Rect.unit ![r, lo] S1x256.size (in2 hr lo hl))

/-- The row numbers of the eight rows at a block's head. -/
abbrev headRows : IVec S8x1 32 := iota .tc S8x1 32 [0] iota_S8x1_d0_w32

/-- The gate of 256 columns, from the last two rows before the block. -/
def gateCols (x0 : Vec F S512x1024 .f32) (x1 : Vec F S1x1024x5632 .bf16) (x2 : Vec F S1x3x5632 .f32) (x3 : Vec F S1x1x5632 .f32)
    (l l2 : Vec F S1x256 .f32) (lo : ℕ) (hl : lo + 256 ≤ 5632) : FVec F S512x256 .f32 :=
  k0_pay15 (k0_pay13 headRows (k0_pay6 x0 (wCols x1 lo hl)) (k0_pay7 x0 (wCols x1 lo hl)) l l2 (k0_pay8 x0 (wCols x1 lo hl) l) k0_pay9 k0_pay10
      (shiftCols x3 lo hl) (tapCols x2 0 (by decide) lo hl) (tapCols x2 1 (by decide) lo hl))
    (k0_pay14 (k0_pay5 x0 (wCols x1 lo hl)) (tapCols x2 2 (by decide) lo hl))

/-- A gate times the convolved 256 columns, from the last two rows before the block. -/
def gatedCols (g : FVec F S512x256 .f32) (x0 : Vec F S512x1024 .f32) (x1 : Vec F S1x1024x5632 .bf16) (x2 : Vec F S1x3x5632 .f32)
    (x3 : Vec F S1x1x5632 .f32) (l l2 : Vec F S1x256 .f32) (lo : ℕ) (hl : lo + 256 ≤ 5632) : FVec F S512x256 .bf16 :=
  k0_pay21 g (k0_pay16 (k0_pay3 x0) (wCols x1 lo hl)) (k0_pay17 (k0_pay3 x0) headRows (wCols x1 lo hl) l)
    (k0_pay18 (k0_pay3 x0) headRows (wCols x1 lo hl) l l2) (shiftCols x3 lo hl) (tapCols x2 0 (by decide) lo hl) (tapCols x2 1 (by decide) lo hl)
    (tapCols x2 2 (by decide) lo hl)

theorem blk (q : Fin 22) : 256 * q.val + 256 ≤ 5632 := by omega

/-- The gated product of block `k` of the columns, from the last two rows before the block, by column block. -/
def actCols (x0 : Vec F S512x1024 .f32) (x1 : Vec F S1x1024x5632 .bf16) (x2 : Vec F S1x3x5632 .f32) (x3 : Vec F S1x1x5632 .f32)
    (l l2 : Fin 22 → Vec F S1x256 .f32) (k : Fin 11) : FVec F S512x256 .bf16 :=
  gatedCols (gateCols x0 x1 x2 x3 (l ⟨k.val, by omega⟩) (l2 ⟨k.val, by omega⟩) (256 * k.val) (by omega)) x0 x1 x2 x3
    (l ⟨11 + k.val, by omega⟩) (l2 ⟨11 + k.val, by omega⟩) (256 * (11 + k.val)) (by omega)

/-- One store of the gated product, and the eleven of them, the last first. -/
def actStore (x0 : Vec F S512x1024 .f32) (x1 : Vec F S1x1024x5632 .bf16) (x2 : Vec F S1x3x5632 .f32) (x3 : Vec F S1x1x5632 .f32)
    (l l2 : Fin 22 → Vec F S1x256 .f32) (k : Fin 11) : View.Piece (Elt F) S512x2816 .bf16 :=
  ⟨Rect.unit ![0, 256 * k.val] S512x256.size (in2 (by decide) _ (by omega)), actCols x0 x1 x2 x3 l l2 k⟩
def actStores (x0 : Vec F S512x1024 .f32) (x1 : Vec F S1x1024x5632 .bf16) (x2 : Vec F S1x3x5632 .f32) (x3 : Vec F S1x1x5632 .f32)
    (l l2 : Fin 22 → Vec F S1x256 .f32) : List (View.Piece (Elt F) S512x2816 .bf16) :=
  [10, 9, 8, 7, 6, 5, 4, 3, 2, 1, 0].map (actStore x0 x1 x2 x3 l l2)

/-- One store of the rows kept, one of the tail, and the twenty-two of each, the last first. -/
def keepStore (x0 : Vec F S512x1024 .f32) (x1 : Vec F S1x1024x5632 .bf16) (q : Fin 22) : View.Piece (Elt F) S8x5632 .f32 :=
  ⟨Rect.unit ![0, 256 * q.val] S8x256.size (in2 (by decide) _ (blk q)), k0_pay11 (k0_pay16 (k0_pay3 x0) (wCols x1 (256 * q.val) (blk q)))⟩
def tailStore (x0 : Vec F S512x1024 .f32) (x1 : Vec F S1x1024x5632 .bf16) (q : Fin 22) : View.Piece (Elt F) S1x8x5632 .f32 :=
  ⟨Rect.unit ![0, 0, 256 * q.val] S1x8x256.size (in3 (by decide) _ (blk q)), k0_pay12 (k0_pay16 (k0_pay3 x0) (wCols x1 (256 * q.val) (blk q)))⟩
def order : List (Fin 22) := [21, 10, 20, 9, 19, 8, 18, 7, 17, 6, 16, 5, 15, 4, 14, 3, 13, 2, 12, 1, 11, 0]
def keepStores (x0 : Vec F S512x1024 .f32) (x1 : Vec F S1x1024x5632 .bf16) : List (View.Piece (Elt F) S8x5632 .f32) :=
  order.map (keepStore x0 x1)
def tailStores (x0 : Vec F S512x1024 .f32) (x1 : Vec F S1x1024x5632 .bf16) : List (View.Piece (Elt F) S1x8x5632 .f32) :=
  order.map (tailStore x0 x1)

/-- The rows kept as they are when column block `q` reads them, at a point that first sets them all to zero. -/
def zeroed : View.Piece (Elt F) S8x5632 .f32 := ⟨Rect.unit ![0, 0] S8x5632.size inb_S8x5632_S8x5632_0_0, k0_pay4⟩
def before (x0 : Vec F S512x1024 .f32) (x1 : Vec F S1x1024x5632 .bf16) (q : Fin 22) : List (View.Piece (Elt F) S8x5632 .f32) :=
  (keepStores x0 x1).drop (22 - if q.val < 11 then 2 * q.val else 2 * (q.val - 11) + 1)
def rowRead (M : Memref sig .tc .vmem S8x5632 .f32) (x0 : Vec F S512x1024 .f32) (x1 : Vec F S1x1024x5632 .bf16) (r : ℕ) (hr : r + 1 ≤ 8)
    (q : Fin 22) : Vec F S1x256 .f32 :=
  M.view.readCov (before x0 x1 q ++ [zeroed]) (Rect.unit (s := S8x5632) ![r, 256 * q.val] S1x256.size (in2 hr _ (blk q))).toLoadRect

/-- A read whose rectangle none of the newest stores touches. -/
theorem readCov_skips {S : Shape} {e : EltTy} (M : Memref sig .tc .vmem S e) (B : LoadRect S) (N : List (View.Piece (Elt F) S e)) :
    ∀ L : List (View.Piece (Elt F) S e), (L.all fun p => LoadRect.disj p.1 B) = true → M.view.readCov (L ++ N) B = M.view.readCov N B
  | [], _ => rfl
  | ⟨r, w⟩ :: L, h => by
    rw [List.all_cons, Bool.and_eq_true] at h
    exact (View.readCov_skip _ r w (L ++ N) B h.1).trans (readCov_skips M B N L h.2)

theorem rowRead_eq (M : Memref sig .tc .vmem S8x5632 .f32) (x0 : Vec F S512x1024 .f32) (x1 : Vec F S1x1024x5632 .bf16) (q : Fin 22) :
    rowRead M x0 x1 7 (by decide) q = rowCols k0_pay4 7 (by decide) (256 * q.val) (blk q)
      ∧ rowRead M x0 x1 6 (by decide) q = rowCols k0_pay4 6 (by decide) (256 * q.val) (blk q) := by
  constructor
  · unfold rowRead
    rw [readCov_skips M _ _ _ (by fin_cases q <;> sl_kernel_rfl)]
    exact View.readCov_fill _ _ _ _ _ zero2a
  · unfold rowRead
    rw [readCov_skips M _ _ _ (by fin_cases q <;> sl_kernel_rfl)]
    exact View.readCov_fill _ _ _ _ _ zero2a

/-- The output block, from the gated product. -/
def outBlock (x0 : Vec F S512x1024 .f32) (x4 : Vec F S1x2816x1024 .bf16) (x5 x6 : Vec F S1x1x1024 .f32) (act : Vec F S512x2816 .bf16) :
    FVec F S512x1024 .f32 :=
  k0_pay1 (k0_pay196 x5) (k0_pay197 x6) (k0_pay198 (k0_pay194 act x4) (k0_pay195 (k0_pay2 x0))) (k0_pay199 (k0_pay194 act x4) (k0_pay195 (k0_pay2 x0)))

/-- The block read back whole. -/
def firstRead (M : Memref sig .tc .vmem S512x1024 .f32) (h : M.IsWhole) (x0 : Vec F S512x1024 .f32) : Vec F S512x1024 .f32 :=
  View.readAt (Elt F) M.view (Rect.unit ![0, 0] S512x1024.size inb_S512x1024_S512x1024_0_0).toLoadRect (h.unread x0)
theorem firstRead_eq (M : Memref sig .tc .vmem S512x1024 .f32) (h : M.IsWhole) (x0 : Vec F S512x1024 .f32) : firstRead M h x0 = x0 := by
  unfold firstRead
  rw [View.readAt_eq_ld, h.read_unread, View.ld_unit_zero (S := S512x1024) zero2]

end Cert.FfnIdeal.Body

end
-- ==== Proof.FfnAt.lean ====
/-
  The feed-forward body's column blocks at an index: the widening product, the two tokens before, the convolution and the gated
  product.
-/
module

public import proofs.«01_k».proof.Proof.FfnBody
public import proofs.«01_k».proof.Proof.FfnSpec
public import Idealize.ShloMosaic.Lib.Pointwise

@[expose] public section

set_option maxRecDepth 16384

noncomputable section

namespace Cert.FfnIdeal.Body

open Cert.FfnIdeal Cert.FfnIdeal.Gen Cert.Proof.FfnRow
open Idealize.ShloMosaic Idealize.ShloMosaic.TcCoe

/-- The value one token back, and two, in a block of 512 tokens: `l` is the last before the block, `l2` the one before that. -/
def hist1 (u : Fin 512 → EReal) (l : EReal) (a : Fin 512) : EReal := if a.val = 0 then l else u ⟨a.val - 1, by omega⟩
def hist2 (u : Fin 512 → EReal) (l l2 : EReal) (a : Fin 512) : EReal :=
  if a.val = 0 then l2 else if a.val = 1 then l else u ⟨a.val - 2, by omega⟩

/-- A rotation by one row whose first row is replaced. -/
theorem head1 (u : Fin 512 → EReal) (l : EReal) (a : Fin 512) :
    (if h : a.val < 8 then Scalar.select (IntOp.cmpi .eq (BitVec.ofNat 32 a.val) 0#32) l (u ⟨(a.val + 512 - 1) % 512, Nat.mod_lt _ (by decide)⟩)
      else u ⟨(8 + (a.val - 8) + 512 - 1) % 512, Nat.mod_lt _ (by decide)⟩) = hist1 u l a := by
  obtain ⟨n, hn⟩ := a
  dsimp only
  by_cases h : n < 8
  · rw [dif_pos h]
    interval_cases n <;> simp [hist1, Scalar.select, IntOp.cmpi]
  · rw [dif_neg h]
    unfold hist1
    rw [if_neg (by dsimp only; omega)]
    exact congrArg u (Fin.ext (by dsimp only; omega))

/-- A rotation by two rows whose first two rows are replaced. -/
theorem head2 (u : Fin 512 → EReal) (l l2 : EReal) (a : Fin 512) :
    (if h : a.val < 8 then Scalar.select (IntOp.cmpi .eq (BitVec.ofNat 32 a.val) 0#32) l2
        (Scalar.select (IntOp.cmpi .eq (BitVec.ofNat 32 a.val) 1#32) l (u ⟨(a.val + 512 - 2) % 512, Nat.mod_lt _ (by decide)⟩))
      else u ⟨(8 + (a.val - 8) + 512 - 2) % 512, Nat.mod_lt _ (by decide)⟩) = hist2 u l l2 a := by
  obtain ⟨n, hn⟩ := a
  dsimp only
  by_cases h : n < 8
  · rw [dif_pos h]
    interval_cases n <;> simp [hist2, Scalar.select, IntOp.cmpi]
  · rw [dif_neg h]
    unfold hist2
    rw [if_neg (by dsimp only; omega), if_neg (by dsimp only; omega)]
    exact congrArg u (Fin.ext (by dsimp only; omega))

theorem pay16_at (v2 : FVec Ideal S512x1024 .bf16) (w : Vec Ideal S1x1024x256 .bf16) (a : Fin 512) (e : Fin 256) :
    k0_pay16 v2 w (ix2 a e) = ∑ d : Fin 1024, v2 (ix2 a d) * w (ix3 0 d e) := by
  pointwise [k0_pay16]

theorem pay17_at (v2 : FVec Ideal S512x1024 .bf16) (w : Vec Ideal S1x1024x256 .bf16) (l : Vec Ideal S1x256 .f32) (a : Fin 512) (e : Fin 256) :
    k0_pay17 v2 headRows w l (ix2 a e) = hist1 (fun a => k0_pay16 v2 w (ix2 a e)) (l (ix2 0 e)) a := by
  refine Eq.trans ?_ (head1 (fun a => k0_pay16 v2 w (ix2 a e)) (l (ix2 0 e)) a)
  pointwise [k0_pay17]

theorem pay18_at (v2 : FVec Ideal S512x1024 .bf16) (w : Vec Ideal S1x1024x256 .bf16) (l l2 : Vec Ideal S1x256 .f32) (a : Fin 512) (e : Fin 256) :
    k0_pay18 v2 headRows w l l2 (ix2 a e) = hist2 (fun a => k0_pay16 v2 w (ix2 a e)) (l (ix2 0 e)) (l2 (ix2 0 e)) a := by
  refine Eq.trans ?_ (head2 (fun a => k0_pay16 v2 w (ix2 a e)) (l (ix2 0 e)) (l2 (ix2 0 e)) a)
  pointwise [k0_pay18]

theorem pay11_at (u : FVec Ideal S512x256 .f32) (r : Fin 8) (e : Fin 256) : k0_pay11 u (ix2 r e) = u (ix2 ⟨504 + r.val, by omega⟩ e) := by
  pointwise [k0_pay11]

theorem pay12_at (u : FVec Ideal S512x256 .f32) (r : Fin 8) (e : Fin 256) : k0_pay12 u (ix3 0 r e) = u (ix2 ⟨504 + r.val, by omega⟩ e) := by
  pointwise [k0_pay12]

theorem pay4_at (i : S8x5632.Idx) : k0_pay4 (F := Ideal) i = 0 := Ideal.ofBits_zero_f32

theorem pay3_at (x0 : Vec Ideal S512x1024 .f32) (a : Fin 512) (d : Fin 1024) : k0_pay3 x0 (ix2 a d) = x0 (ix2 a d) := by
  pointwise [k0_pay3, k0_pay2]

theorem pay21_at (g u p1 p2 : FVec Ideal S512x256 .f32) (b w0 w1 w2 : Vec Ideal S1x1x256 .f32) (a : Fin 512) (e : Fin 256) :
    k0_pay21 g u p1 p2 b w0 w1 w2 (ix2 a e) = g (ix2 a e) * (b (ix3 0 0 e) + p2 (ix2 a e) * w0 (ix3 0 0 e) + p1 (ix2 a e) * w1 (ix3 0 0 e)
      + u (ix2 a e) * w2 (ix3 0 0 e)) := by
  pointwise [k0_pay21]

/-- The shift and the two older taps, from the two tokens before. -/
def older (p1 p2 : FVec Ideal S512x256 .f32) (b w0 w1 : Vec Ideal S1x1x256 .f32) : FVec Ideal S512x256 .f32 :=
  addf (addf (broadcastTo S512x256 (shapeCast S1x256 b shapeCasts_S1x1x256_S1x256) broadcasts_S1x256_S512x256)
      (mulf p2 (broadcastTo S512x256 (shapeCast S1x256 w0 shapeCasts_S1x1x256_S1x256) broadcasts_S1x256_S512x256)))
    (mulf p1 (broadcastTo S512x256 (shapeCast S1x256 w1 shapeCasts_S1x1x256_S1x256) broadcasts_S1x256_S512x256))

theorem older_at (p1 p2 : FVec Ideal S512x256 .f32) (b w0 w1 : Vec Ideal S1x1x256 .f32) (a : Fin 512) (e : Fin 256) :
    older p1 p2 b w0 w1 (ix2 a e) = b (ix3 0 0 e) + p2 (ix2 a e) * w0 (ix3 0 0 e) + p1 (ix2 a e) * w1 (ix3 0 0 e) := by
  pointwise [older]

theorem pay13_eq (x0 : Vec Ideal S512x1024 .f32) (w : Vec Ideal S1x1024x256 .bf16) (l l2 : Vec Ideal S1x256 .f32) (b w0 w1 : Vec Ideal S1x1x256 .f32) :
    k0_pay13 headRows (k0_pay6 x0 w) (k0_pay7 x0 w) l l2 (k0_pay8 x0 w l) k0_pay9 k0_pay10 b w0 w1
      = older (k0_pay17 (k0_pay3 x0) headRows w l) (k0_pay18 (k0_pay3 x0) headRows w l l2) b w0 w1 := by
  sl_kernel_rfl

theorem pay14_at (x0 : Vec Ideal S512x1024 .f32) (w : Vec Ideal S1x1024x256 .bf16) (w2 : Vec Ideal S1x1x256 .f32) (a : Fin 512) (e : Fin 256) :
    k0_pay14 (k0_pay5 x0 w) w2 (ix2 a e) = k0_pay16 (k0_pay3 x0) w (ix2 a e) * w2 (ix3 0 0 e) := by
  have h : k0_pay5 x0 w = k0_pay16 (k0_pay3 x0) w := by sl_kernel_rfl
  rw [h]
  pointwise [k0_pay14]

/-- Half a gate and half its product with the hyperbolic tangent of the half. -/
def halves (g : EReal) : EReal :=
  Ideal.ofBits .f32 0x3F000000#32 * g + Ideal.ofBits .f32 0x3F000000#32 * g * Ideal.tanh (Ideal.ofBits .f32 0x3F000000#32 * g)

theorem pay15_at (x y : FVec Ideal S512x256 .f32) (a : Fin 512) (e : Fin 256) : k0_pay15 x y (ix2 a e) = halves (x (ix2 a e) + y (ix2 a e)) := by
  pointwise [k0_pay15, halves]

/-! ## Columns of the staged blocks -/

theorem wCols_at (x1 : Vec Ideal S1x1024x5632 .bf16) (lo : ℕ) (hl : lo + 256 ≤ 5632) (d : Fin 1024) (e : Fin 256) :
    wCols x1 lo hl (ix3 0 d e) = x1 (ix3 0 d ⟨lo + e.val, by omega⟩) :=
  congrArg x1 (funext fun a => Fin.ext (match a with
    | ⟨0, _⟩ => rfl
    | ⟨1, _⟩ => (by show 0 + 1 * d.val = d.val; omega)
    | ⟨2, _⟩ => (by show lo + 1 * e.val = lo + e.val; omega)))
theorem tapCols_at (x2 : Vec Ideal S1x3x5632 .f32) (i : ℕ) (hi : i + 1 ≤ 3) (lo : ℕ) (hl : lo + 256 ≤ 5632) (e : Fin 256) :
    tapCols x2 i hi lo hl (ix3 0 0 e) = x2 (ix3 0 ⟨i, by omega⟩ ⟨lo + e.val, by omega⟩) :=
  congrArg x2 (funext fun a => Fin.ext (match a with
    | ⟨0, _⟩ => rfl
    | ⟨1, _⟩ => (by show i + 1 * 0 = i; omega)
    | ⟨2, _⟩ => (by show lo + 1 * e.val = lo + e.val; omega)))
theorem shiftCols_at (x3 : Vec Ideal S1x1x5632 .f32) (lo : ℕ) (hl : lo + 256 ≤ 5632) (e : Fin 256) :
    shiftCols x3 lo hl (ix3 0 0 e) = x3 (ix3 0 0 ⟨lo + e.val, by omega⟩) :=
  congrArg x3 (funext fun a => Fin.ext (match a with
    | ⟨0, _⟩ => rfl
    | ⟨1, _⟩ => rfl
    | ⟨2, _⟩ => (by show lo + 1 * e.val = lo + e.val; omega)))
theorem rowCols_at (H : Vec Ideal S8x5632 .f32) (r : ℕ) (hr : r + 1 ≤ 8) (lo : ℕ) (hl : lo + 256 ≤ 5632) (e : Fin 256) :
    rowCols H r hr lo hl (ix2 0 e) = H (ix2 ⟨r, by omega⟩ ⟨lo + e.val, by omega⟩) :=
  congrArg H (funext fun a => Fin.ext (match a with
    | ⟨0, _⟩ => (by show r + 1 * 0 = r; omega)
    | ⟨1, _⟩ => (by show lo + 1 * e.val = lo + e.val; omega)))

/-! ## The convolved columns -/

/-- Column `j` of the widening product of a block. -/
def upCol (x0 : Vec Ideal S512x1024 .f32) (x1 : Vec Ideal S1x1024x5632 .bf16) (j : Fin 5632) (a : Fin 512) : EReal :=
  ∑ d : Fin 1024, x0 (ix2 a d) * x1 (ix3 0 d j)

theorem up_at (x0 : Vec Ideal S512x1024 .f32) (x1 : Vec Ideal S1x1024x5632 .bf16) (lo : ℕ) (hl : lo + 256 ≤ 5632) (a : Fin 512) (e : Fin 256) :
    k0_pay16 (k0_pay3 x0) (wCols x1 lo hl) (ix2 a e) = upCol x0 x1 ⟨lo + e.val, by omega⟩ a :=
  (pay16_at _ _ a e).trans (Finset.sum_congr rfl fun d _ => by rw [pay3_at, wCols_at])

/-- Column `j` convolved, from the column's last two values before the block. -/
def cvCol (x0 : Vec Ideal S512x1024 .f32) (x1 : Vec Ideal S1x1024x5632 .bf16) (x2 : Vec Ideal S1x3x5632 .f32) (x3 : Vec Ideal S1x1x5632 .f32)
    (H : Vec Ideal S8x5632 .f32) (j : Fin 5632) (a : Fin 512) : EReal :=
  x3 (ix3 0 0 j) + hist2 (upCol x0 x1 j) (H (ix2 7 j)) (H (ix2 6 j)) a * x2 (ix3 0 0 j) + hist1 (upCol x0 x1 j) (H (ix2 7 j)) a * x2 (ix3 0 1 j)
    + upCol x0 x1 j a * x2 (ix3 0 2 j)

variable (x0 : Vec Ideal S512x1024 .f32) (x1 : Vec Ideal S1x1024x5632 .bf16) (x2 : Vec Ideal S1x3x5632 .f32) (x3 : Vec Ideal S1x1x5632 .f32)
  (H : Vec Ideal S8x5632 .f32)

/-- The rows the convolution reads, by column block. -/
abbrev rows7 (q : Fin 22) : Vec Ideal S1x256 .f32 := rowCols H 7 (by decide) (256 * q.val) (blk q)
abbrev rows6 (q : Fin 22) : Vec Ideal S1x256 .f32 := rowCols H 6 (by decide) (256 * q.val) (blk q)

theorem gateCols_at (q : Fin 22) (a : Fin 512) (e : Fin 256) :
    gateCols x0 x1 x2 x3 (rows7 H q) (rows6 H q) (256 * q.val) (blk q) (ix2 a e) = halves (cvCol x0 x1 x2 x3 H ⟨256 * q.val + e.val, by omega⟩ a) := by
  unfold gateCols cvCol
  rw [pay15_at, pay13_eq, older_at, pay14_at, pay17_at, pay18_at]
  simp only [up_at, rowCols_at, tapCols_at, shiftCols_at]
  rfl

theorem gatedCols_at (g : FVec Ideal S512x256 .f32) (q : Fin 22) (a : Fin 512) (e : Fin 256) :
    gatedCols g x0 x1 x2 x3 (rows7 H q) (rows6 H q) (256 * q.val) (blk q) (ix2 a e)
      = g (ix2 a e) * cvCol x0 x1 x2 x3 H ⟨256 * q.val + e.val, by omega⟩ a := by
  unfold gatedCols cvCol
  rw [pay21_at, pay17_at, pay18_at]
  simp only [up_at, rowCols_at, tapCols_at, shiftCols_at]
  rfl

/-! ## The arrays the stores fill -/

/-- The gated product at an index. -/
def actAt (a : Fin 512) (j : Fin 2816) : EReal :=
  halves (cvCol x0 x1 x2 x3 H ⟨j.val, by omega⟩ a) * cvCol x0 x1 x2 x3 H ⟨2816 + j.val, by omega⟩ a

theorem actCols_at (k : Fin 11) (a : Fin 512) (e : Fin 256) :
    actCols x0 x1 x2 x3 (rows7 H) (rows6 H) k (ix2 a e) = actAt x0 x1 x2 x3 H a ⟨256 * k.val + e.val, by omega⟩ := by
  unfold actCols actAt
  refine (gatedCols_at x0 x1 x2 x3 H _ ⟨11 + k.val, by omega⟩ a e).trans ?_
  rw [show (⟨2816 + (256 * k.val + e.val), by omega⟩ : Fin 5632) = ⟨256 * (11 + k.val) + e.val, by omega⟩ from Fin.ext (by dsimp only; omega)]
  exact congrArg (· * _) (gateCols_at x0 x1 x2 x3 H ⟨k.val, by omega⟩ a e)

theorem act_at (a : Fin 512) (j : Fin 2816) : View.canon (actStores x0 x1 x2 x3 (rows7 H) (rows6 H)) (ix2 a j) = actAt x0 x1 x2 x3 H a j := by
  refine View.canon_apply_of_pieces (Val := Elt Ideal) (e := .bf16) (fun y : S512x2816.Idx => actAt x0 x1 x2 x3 H (y 0) (y 1)) _ ?_ (ix2 a j) ?_
  · intro p hp
    obtain ⟨k, -, rfl⟩ := List.mem_map.mp hp
    intro (x : S512x256.Idx)
    rw [eq_ix2 x]
    refine (actCols_at x0 x1 x2 x3 H k (x 0) (x 1)).trans ?_
    have e0 : (x 0 : Fin 512) = (actStore x0 x1 x2 x3 (rows7 H) (rows6 H) k).1.emb (ix2 (x 0) (x 1)) 0 :=
      Fin.ext (show (x 0).val = 0 + 1 * (x 0).val by omega)
    have e1 : (⟨256 * k.val + (x 1).val, by have : (x 1).val < 256 := (x 1).isLt; omega⟩ : Fin 2816) = (actStore x0 x1 x2 x3 (rows7 H) (rows6 H) k).1.emb (ix2 (x 0) (x 1)) 1 :=
      Fin.ext (show 256 * k.val + (x 1).val = 256 * k.val + 1 * (x 1).val by omega)
    exact congrArg₂ (actAt x0 x1 x2 x3 H) e0 e1
  · refine ⟨actStore x0 x1 x2 x3 (rows7 H) (rows6 H) ⟨j.val / 256, by omega⟩, List.mem_map.mpr ⟨_, ?_, rfl⟩, ?_⟩
    · exact (by decide : ∀ k : Fin 11, k ∈ ([10, 9, 8, 7, 6, 5, 4, 3, 2, 1, 0] : List (Fin 11))) _
    · show ix2 a j ∈ (Rect.unit (s := S512x2816) ![0, 256 * (j.val / 256)] S512x256.size (in2 (by decide) _ (by omega))).set
      refine Rect.mem_set_unit.mpr fun b => ?_
      match b with
      | ⟨0, _⟩ => show 0 ≤ a.val ∧ a.val < 0 + 512; omega
      | ⟨1, _⟩ => show 256 * (j.val / 256) ≤ j.val ∧ j.val < 256 * (j.val / 256) + 256; omega

/-- The widening product's last eight rows. -/
def lastRows : Vec Ideal S8x5632 .f32 := fun y => upCol x0 x1 (y 1) ⟨504 + (y 0).val, by have : (y 0).val < 8 := (y 0).isLt; omega⟩

theorem keep_piece (p : View.Piece (Elt Ideal) S8x5632 .f32) (hp : p ∈ keepStores x0 x1) (x : p.1.shape.Idx) :
    p.2 x = lastRows x0 x1 (p.1.emb x) := by
  obtain ⟨q, -, rfl⟩ := List.mem_map.mp hp
  change S8x256.Idx at x
  rw [eq_ix2 x]
  refine (pay11_at _ (x 0) (x 1)).trans ((up_at x0 x1 _ (blk q) _ (x 1)).trans ?_)
  have e0 : (⟨504 + (x 0).val, by have : (x 0).val < 8 := (x 0).isLt; omega⟩ : Fin 512)
      = ⟨504 + ((keepStore x0 x1 q).1.emb (ix2 (x 0) (x 1)) 0).val, by have : ((keepStore x0 x1 q).1.emb (ix2 (x 0) (x 1)) 0).val < 8 := ((keepStore x0 x1 q).1.emb (ix2 (x 0) (x 1)) 0).isLt; omega⟩ :=
    Fin.ext (show 504 + (x 0).val = 504 + (0 + 1 * (x 0).val) by omega)
  have e1 : (⟨256 * q.val + (x 1).val, by have : (x 1).val < 256 := (x 1).isLt; omega⟩ : Fin 5632) = (keepStore x0 x1 q).1.emb (ix2 (x 0) (x 1)) 1 :=
    Fin.ext (show 256 * q.val + (x 1).val = 256 * q.val + 1 * (x 1).val by omega)
  exact congrArg₂ (upCol x0 x1) e1 e0

theorem mem_order : ∀ q, q ∈ order := by decide

theorem keep_cover (r : Fin 8) (j : Fin 5632) : ∃ p ∈ keepStores x0 x1, ix2 r j ∈ p.1.set := by
  refine ⟨keepStore x0 x1 ⟨j.val / 256, by omega⟩, List.mem_map.mpr ⟨_, mem_order _, rfl⟩, ?_⟩
  show ix2 r j ∈ (Rect.unit (s := S8x5632) ![0, 256 * (j.val / 256)] S8x256.size (in2 (by decide) _ (by omega))).set
  refine Rect.mem_set_unit.mpr fun b => ?_
  match b with
  | ⟨0, _⟩ => show 0 ≤ r.val ∧ r.val < 0 + 8; omega
  | ⟨1, _⟩ => show 256 * (j.val / 256) ≤ j.val ∧ j.val < 256 * (j.val / 256) + 256; omega

/-- The rows kept: the widening product's last eight. -/
theorem keep_at (r : Fin 8) (j : Fin 5632) : View.canon (keepStores x0 x1) (ix2 r j) = upCol x0 x1 j ⟨504 + r.val, by omega⟩ :=
  View.canon_apply_of_pieces (lastRows x0 x1) _ (keep_piece x0 x1) (ix2 r j) (keep_cover x0 x1 r j)
theorem keep_zeroed_at (r : Fin 8) (j : Fin 5632) : View.canon (keepStores x0 x1 ++ [zeroed]) (ix2 r j) = upCol x0 x1 j ⟨504 + r.val, by omega⟩ :=
  View.canon_append_of_pieces (lastRows x0 x1) _ _ (keep_piece x0 x1) (ix2 r j) (keep_cover x0 x1 r j)

/-- The tail stored: the same rows. -/
theorem tail_at (r : Fin 8) (j : Fin 5632) : View.canon (tailStores x0 x1) (ix3 0 r j) = upCol x0 x1 j ⟨504 + r.val, by omega⟩ := by
  refine View.canon_apply_of_pieces (Val := Elt Ideal) (e := .f32) (fun y : S1x8x5632.Idx => upCol x0 x1 (y 2) ⟨504 + (y 1).val, by have : (y 1).val < 8 := (y 1).isLt; omega⟩) _ ?_ (ix3 0 r j) ?_
  · intro p hp
    obtain ⟨q, -, rfl⟩ := List.mem_map.mp hp
    intro (x : S1x8x256.Idx)
    have hx : x = ix3 (0 : Fin 1) (x 1) (x 2) :=
      (eq_ix3 x).trans (congrArg (fun z : Fin 1 => ix3 z (x 1) (x 2)) (Subsingleton.elim (α := Fin 1) _ _))
    rw [hx]
    refine (pay12_at _ (x 1) (x 2)).trans ((up_at x0 x1 _ (blk q) _ (x 2)).trans ?_)
    have e0 : (⟨504 + (x 1).val, by have : (x 1).val < 8 := (x 1).isLt; omega⟩ : Fin 512)
        = ⟨504 + ((tailStore x0 x1 q).1.emb (ix3 0 (x 1) (x 2)) 1).val, by have : ((tailStore x0 x1 q).1.emb (ix3 0 (x 1) (x 2)) 1).val < 8 := ((tailStore x0 x1 q).1.emb (ix3 0 (x 1) (x 2)) 1).isLt; omega⟩ :=
      Fin.ext (show 504 + (x 1).val = 504 + (0 + 1 * (x 1).val) by omega)
    have e1 : (⟨256 * q.val + (x 2).val, by have : (x 2).val < 256 := (x 2).isLt; omega⟩ : Fin 5632) = (tailStore x0 x1 q).1.emb (ix3 0 (x 1) (x 2)) 2 :=
      Fin.ext (show 256 * q.val + (x 2).val = 256 * q.val + 1 * (x 2).val by omega)
    exact congrArg₂ (upCol x0 x1) e1 e0
  · refine ⟨tailStore x0 x1 ⟨j.val / 256, by omega⟩, List.mem_map.mpr ⟨_, mem_order _, rfl⟩, ?_⟩
    show ix3 0 r j ∈ (Rect.unit (s := S1x8x5632) ![0, 0, 256 * (j.val / 256)] S1x8x256.size (in3 (by decide) _ (by omega))).set
    refine Rect.mem_set_unit.mpr fun b => ?_
    match b with
    | ⟨0, _⟩ => show 0 ≤ 0 ∧ 0 < 0 + 1; omega
    | ⟨1, _⟩ => show 0 ≤ r.val ∧ r.val < 0 + 8; omega
    | ⟨2, _⟩ => show 256 * (j.val / 256) ≤ j.val ∧ j.val < 256 * (j.val / 256) + 256; omega

end Cert.FfnIdeal.Body

end
-- ==== Proof.FfnOut.lean ====
/-
  The feed-forward body's output block at an index: the layer norm of the scaled residual and the narrowing product.
-/
module

public import proofs.«01_k».proof.Proof.FfnBody
public import proofs.«01_k».proof.Proof.FfnSpec
public import Idealize.ShloMosaic.Lib.Pointwise

@[expose] public section

set_option maxRecDepth 16384

noncomputable section

namespace Cert.FfnIdeal.Body

open Cert.FfnIdeal Cert.FfnIdeal.Gen Cert.Proof.MergeRow
open Idealize.ShloMosaic Idealize.ShloMosaic.TcCoe

theorem pay194_at (act : Vec Ideal S512x2816 .bf16) (x4 : Vec Ideal S1x2816x1024 .bf16) (a : Fin 512) (n : Fin 1024) :
    k0_pay194 act x4 (ix2 a n) = ∑ k : Fin 2816, act (ix2 a k) * x4 (ix3 0 k n) := by
  pointwise [k0_pay194]

theorem pay195_at (x0 : Vec Ideal S512x1024 .f32) (a : Fin 512) (n : Fin 1024) :
    k0_pay195 (k0_pay2 x0) (ix2 a n) = Ideal.ofBits .f32 0x3FD744FD#32 * x0 (ix2 a n) := by
  pointwise [k0_pay195, k0_pay2]

theorem norm_at (y z : FVec Ideal S512x1024 .f32) (x5 x6 : Vec Ideal S1x1x1024 .f32) (a : Fin 512) (n : Fin 1024) :
    k0_pay1 (k0_pay196 x5) (k0_pay197 x6) (k0_pay198 y z) (k0_pay199 y z) (ix2 a n)
      = normed (fun n => z (ix2 a n) + y (ix2 a n)) (fun n => x5 (ix3 0 0 n)) (fun n => x6 (ix3 0 0 n)) n := by
  pointwise [k0_pay1, k0_pay196, k0_pay197, k0_pay198, k0_pay199, normed, mean]

/-- The output block, at an index. -/
theorem outBlock_at (x0 : Vec Ideal S512x1024 .f32) (x4 : Vec Ideal S1x2816x1024 .bf16) (x5 x6 : Vec Ideal S1x1x1024 .f32)
    (act : Vec Ideal S512x2816 .bf16) (a : Fin 512) (n : Fin 1024) :
    outBlock x0 x4 x5 x6 act (ix2 a n) = normed (fun n => Ideal.ofBits .f32 0x3FD744FD#32 * x0 (ix2 a n) + ∑ k : Fin 2816, act (ix2 a k) * x4 (ix3 0 k n))
      (fun n => x5 (ix3 0 0 n)) (fun n => x6 (ix3 0 0 n)) n := by
  unfold outBlock
  rw [norm_at]
  simp only [pay194_at, pay195_at]

end Cert.FfnIdeal.Body

end
-- ==== Proof.FfnRuns.lean ====
/-
  The stores of the feed-forward body, in its two cases: at a point that first sets the rows kept to zero, and at one that finds
  them as the point before left them.
-/
module

public import proofs.«01_k».proof.Proof.FfnBody

@[expose] public section

set_option maxRecDepth 16384

noncomputable section

namespace Cert.FfnIdeal.Body

open Cert.FfnIdeal Cert.FfnIdeal.Gen
open Idealize.ShloMosaic Idealize.ShloMosaic.TcCoe

variable {F : FTy → Type} [FloatOps F]

/-! ## The stores of a point at which the rows before the block are zero -/

theorem acts_A' (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) :
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).2.2.2.1
      = actStores (firstRead arg2 harg2 x0) (arg3.view.read (Elt F) (harg3.unread x1)) (arg4.view.read (Elt F) (harg4.unread x2)) (arg5.view.read (Elt F) (harg5.unread x3))
        (rowRead arg11 (firstRead arg2 harg2 x0) (arg3.view.read (Elt F) (harg3.unread x1)) 7 (by decide))
        (rowRead arg11 (firstRead arg2 harg2 x0) (arg3.view.read (Elt F) (harg3.unread x1)) 6 (by decide)) := by
  unfold kernelRun0_A
  dsimp only
  sl_kernel_rfl

theorem acts_A (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) :
    (kernelRun0_A c i arg2 harg2 arg3 harg3 arg4 harg4 arg5 harg5 arg6 harg6 arg7 harg7 arg8 harg8 arg9 harg9 arg10 harg10 arg11 harg11 arg12 harg12 hc0 x0 x1 x2 x3 x4 x5 x6 xt0).2.2.2.1
      = actStores x0 x1 x2 x3 (fun q => rowCols (k0_pay4 (F := F)) 7 (by decide) (256 * q.val) (blk q))
        (fun q => rowCols (k0_pay4 (F := F)) 6 (by decide) (256 * q.val) (blk q)) := by
  rw [acts_A', firstRead_eq, harg3.read_unread, harg4.read_unread, harg5.read_unread]
  rw [show rowRead arg11 x0 x1 7 _ = _ from funext fun q => (rowRead_eq arg11 x0 x1 q).1,
    show rowRead arg11 x0 x1 6 _ = _ from funext fun q => (rowRead_eq arg11 x0 x1 q).2]

theorem out_A (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) :
    out0_A_7 c i arg2 harg2 arg3 harg3 arg4 harg4 arg5 harg5 arg6 harg6 arg7 harg7 arg8 harg8 arg9 harg9 arg10 harg10 arg11 harg11 arg12 harg12 hc0 x0 x1 x2 x3 x4 x5 x6 xt0
      = outBlock x0 x4 x5 x6 (View.canon (actStores x0 x1 x2 x3 (fun q => rowCols (k0_pay4 (F := F)) 7 (by decide) (256 * q.val) (blk q))
        (fun q => rowCols (k0_pay4 (F := F)) 6 (by decide) (256 * q.val) (blk q)))) := by
  have e := acts_A c i arg2 harg2 arg3 harg3 arg4 harg4 arg5 harg5 arg6 harg6 arg7 harg7 arg8 harg8 arg9 harg9 arg10 harg10 arg11 harg11 arg12 harg12 hc0 x0 x1 x2 x3 x4 x5 x6 xt0
  unfold kernelRun0_A at e
  dsimp only at e
  unfold out0_A_7
  rw [View.read_writes_junk_eq_canon]
  unfold kernelRun0_A
  dsimp only
  sl_unfold_run_values
  rw [View.canon_cons_unit_zero (S := S512x1024) zero2, e]
  simp (config := { proj := false, dsimp := false }) only [View.readCov_eq_canon', View.readAt_eq_ld, harg2.read_unread, harg3.read_unread, harg4.read_unread, harg5.read_unread,
    harg6.read_unread, harg7.read_unread, harg8.read_unread]
  rw [View.ld_unit_zero (S := S512x1024) zero2, View.ld_unit_zero (S := S1x1x1024) zero3, View.ld_unit_zero (S := S1x1x1024) zero3,
    View.ld_unit_zero (S := S1x2816x1024) zero3]
  exact congrArg (outBlock x0 x4 x5 x6) (View.ld_unit_zero (S := S512x2816) zero2 _ _)

theorem tail_A (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 xt0
      = View.canon (tailStores x0 x1) := by
  unfold out0_A_8
  rw [View.read_writes_junk_eq_canon]
  refine congrArg View.canon ?_
  unfold kernelRun0_A
  dsimp only
  sl_unfold_run_names
  simp (config := { proj := false, dsimp := false }) only [View.readAt_eq_ld, harg2.read_unread, harg3.read_unread]
  rw [View.ld_unit_zero (S := S512x1024) zero2]
  sl_kernel_rfl

theorem keep_A (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 xt0
      = View.canon (keepStores x0 x1 ++ [zeroed]) := by
  unfold sout0_A_0
  rw [View.read_writes_junk_eq_canon]
  refine congrArg View.canon ?_
  unfold kernelRun0_A
  dsimp only
  sl_unfold_run_names
  simp (config := { proj := false, dsimp := false }) only [View.readAt_eq_ld, harg2.read_unread, harg3.read_unread]
  rw [View.ld_unit_zero (S := S512x1024) zero2]
  sl_kernel_rfl

/-! ## The stores of a point at which the rows before the block are those the block before left -/

theorem acts_B' (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) (xs0 : Vec F S8x5632 .f32) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).2.2.2.1
      = actStores (firstRead arg2 harg2 x0) (arg3.view.read (Elt F) (harg3.unread x1)) (arg4.view.read (Elt F) (harg4.unread x2)) (arg5.view.read (Elt F) (harg5.unread x3))
        (fun q => rowCols (arg11.view.read (Elt F) (harg11.unread xs0)) 7 (by decide) (256 * q.val) (blk q))
        (fun q => rowCols (arg11.view.read (Elt F) (harg11.unread xs0)) 6 (by decide) (256 * q.val) (blk q)) := by
  unfold kernelRun0_B
  dsimp only
  sl_kernel_rfl

theorem acts_B (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) (xs0 : Vec F S8x5632 .f32) :
    (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xt0 xs0).2.2.2.1
      = actStores x0 x1 x2 x3 (fun q => rowCols xs0 7 (by decide) (256 * q.val) (blk q))
        (fun q => rowCols xs0 6 (by decide) (256 * q.val) (blk q)) := by
  rw [acts_B', firstRead_eq, harg3.read_unread, harg4.read_unread, harg5.read_unread]
  rw [harg11.read_unread]

theorem out_B (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) (xs0 : Vec F S8x5632 .f32) :
    out0_B_7 c i arg2 harg2 arg3 harg3 arg4 harg4 arg5 harg5 arg6 harg6 arg7 harg7 arg8 harg8 arg9 harg9 arg10 harg10 arg11 harg11 arg12 harg12 hc0 x0 x1 x2 x3 x4 x5 x6 xt0 xs0
      = outBlock x0 x4 x5 x6 (View.canon (actStores x0 x1 x2 x3 (fun q => rowCols xs0 7 (by decide) (256 * q.val) (blk q))
        (fun q => rowCols xs0 6 (by decide) (256 * q.val) (blk q)))) := by
  have e := acts_B c i arg2 harg2 arg3 harg3 arg4 harg4 arg5 harg5 arg6 harg6 arg7 harg7 arg8 harg8 arg9 harg9 arg10 harg10 arg11 harg11 arg12 harg12 hc0 x0 x1 x2 x3 x4 x5 x6 xt0 xs0
  unfold kernelRun0_B at e
  dsimp only at e
  unfold out0_B_7
  rw [View.read_writes_junk_eq_canon]
  unfold kernelRun0_B
  dsimp only
  sl_unfold_run_values
  rw [View.canon_cons_unit_zero (S := S512x1024) zero2, e]
  simp (config := { proj := false, dsimp := false }) only [View.readCov_eq_canon', View.readAt_eq_ld, harg2.read_unread, harg3.read_unread, harg4.read_unread, harg5.read_unread,
    harg6.read_unread, harg7.read_unread, harg8.read_unread]
  rw [View.ld_unit_zero (S := S512x1024) zero2, View.ld_unit_zero (S := S1x1x1024) zero3, View.ld_unit_zero (S := S1x1x1024) zero3,
    View.ld_unit_zero (S := S1x2816x1024) zero3]
  exact congrArg (outBlock x0 x4 x5 x6) (View.ld_unit_zero (S := S512x2816) zero2 _ _)

theorem tail_B (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) (xs0 : Vec F S8x5632 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 xt0 xs0
      = View.canon (tailStores x0 x1) := by
  unfold out0_B_8
  rw [View.read_writes_junk_eq_canon]
  refine congrArg View.canon ?_
  unfold kernelRun0_B
  dsimp only
  sl_unfold_run_names
  simp (config := { proj := false, dsimp := false }) only [View.readAt_eq_ld, harg2.read_unread, harg3.read_unread]
  rw [View.ld_unit_zero (S := S512x1024) zero2]
  sl_kernel_rfl

theorem keep_B (c : Dev nD) (i : grid0.Coords)
    (arg2 : Memref sig .tc .vmem S512x1024 .f32) (harg2 : arg2.IsWhole) (arg3 : Memref sig .tc .vmem S1x1024x5632 .bf16) (harg3 : arg3.IsWhole)
    (arg4 : Memref sig .tc .vmem S1x3x5632 .f32) (harg4 : arg4.IsWhole) (arg5 : Memref sig .tc .vmem S1x1x5632 .f32) (harg5 : arg5.IsWhole)
    (arg6 : Memref sig .tc .vmem S1x2816x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S512x1024 .f32) (harg9 : arg9.IsWhole)
    (arg10 : Memref sig .tc .vmem S1x8x5632 .f32) (harg10 : arg10.IsWhole) (arg11 : Memref sig .tc .vmem S8x5632 .f32) (harg11 : arg11.IsWhole)
    (arg12 : Memref sig .tc .vmem S512x2816 .bf16) (harg12 : arg12.IsWhole) (hc0 : ¬cond0_0 i)
    (x0 : Vec F S512x1024 .f32) (x1 : Vec F S1x1024x5632 .bf16) (x2 : Vec F S1x3x5632 .f32)
    (x3 : Vec F S1x1x5632 .f32) (x4 : Vec F S1x2816x1024 .bf16) (x5 x6 : Vec F S1x1x1024 .f32) (xt0 : TbBuf0 (F := F) c tbM0_0) (xs0 : Vec F S8x5632 .f32) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 xt0 xs0
      = View.canon (keepStores x0 x1) := by
  unfold sout0_B_0
  rw [View.read_writes_junk_eq_canon]
  refine congrArg View.canon ?_
  unfold kernelRun0_B
  dsimp only
  sl_unfold_run_names
  simp (config := { proj := false, dsimp := false }) only [View.readAt_eq_ld, harg2.read_unread, harg3.read_unread]
  rw [View.ld_unit_zero (S := S512x1024) zero2]
  sl_kernel_rfl

end Cert.FfnIdeal.Body

end
-- ==== Proof.FfnValue.lean ====
/-
  What the feed-forward program leaves in its arrays: the feed-forward of the arguments at the layer, and the tail of the widening
  product.
-/
module

public import proofs.«01_k».proof.Proof.FfnArgs
public import proofs.«01_k».proof.Proof.FfnAt
public import proofs.«01_k».proof.Proof.FfnOut
public import proofs.«01_k».proof.Proof.FfnRuns

@[expose] public section

set_option maxRecDepth 16384

noncomputable section

namespace Cert.FfnIdeal.Result

open Cert.FfnIdeal Cert.FfnIdeal.Gen Cert.FfnIdeal.Args Cert.FfnIdeal.Body Cert.Proof.FfnRow
open Idealize.ShloMosaic Idealize.ShloMosaic.TcCoe Idealize.SL.Sem

/-! ## The tokens before, across blocks -/

/-- In a block of a sequence that begins at token `o`, the values one and two tokens back are the sequence's. -/
theorem hist_back (U : Fin 4096 → EReal) (u : Fin 512 → EReal) (o : ℕ) (ho : o + 512 ≤ 4096) (hu : ∀ a : Fin 512, u a = U ⟨o + a.val, by omega⟩)
    (l l2 : EReal) (hl : l = back U 1 ⟨o, by omega⟩) (hl2 : l2 = back U 2 ⟨o, by omega⟩) (a : Fin 512) :
    hist1 u l a = back U 1 ⟨o + a.val, by omega⟩ ∧ hist2 u l l2 a = back U 2 ⟨o + a.val, by omega⟩ := by
  obtain ⟨n, hn⟩ := a
  subst hl; subst hl2
  unfold hist1 hist2 back
  dsimp only
  constructor
  · by_cases h : n = 0
    · subst h; rfl
    · rw [if_neg h, dif_pos (by omega), hu]
      exact congrArg U (Fin.ext (by dsimp only; omega))
  · by_cases h : n = 0
    · subst h; rfl
    · rw [if_neg h]
      by_cases h' : n = 1
      · subst h'
        rw [if_pos rfl]
        by_cases h1 : 1 ≤ o
        · rw [dif_pos h1, dif_pos (by omega)]
          exact congrArg U (Fin.ext (by dsimp only; omega))
        · rw [dif_neg h1, dif_neg (by omega)]
      · rw [if_neg h', dif_pos (by omega), hu]
        exact congrArg U (Fin.ext (by dsimp only; omega))

/-- The parts of a triple. -/
theorem parts {α β γ : Type} {p : α × β × γ} {a : α} {b : β} {c : γ} (h : p = (a, b, c)) : p.1 = a ∧ p.2.1 = b ∧ p.2.2 = c := by
  subst h; exact ⟨rfl, rfl, rfl⟩

/-- The host's selection of the last two rows of each batch's last tail. -/
theorem host_at (W : Valuation τ sig (Elt Ideal)) (b : Fin 4) (i : Fin 2) (j : Fin 5632) :
    (StableHlo.after (hostOps1 (F := Ideal)) W (Proc.devRef .tc main_v9) : FVec Ideal S4x2x5632 .f32) (ix3 b i j)
      = (W (Proc.devRef .tc main_v6_1) : FVec Ideal S32x8x5632 .f32) (ix3 ⟨b.val * 8 + 7, by omega⟩ ⟨6 + i.val, by omega⟩ j) := by
  after_reads_at

variable (m : (ℓ : Loc nD τ sig) → Buf (Elt Ideal) ℓ) (hO : Ok m) (c : Dev nD) (hl : lay m < 4)

/-- The blocks a grid point stages. -/
def b0 (t : Fin (cfgM m hO).N) : FVec Ideal S512x1024 .f32 := iblk m hO c 0 t
def b1 (t : Fin (cfgM m hO).N) : FVec Ideal S1x1024x5632 .bf16 := iblk m hO c 1 t
def b2 (t : Fin (cfgM m hO).N) : FVec Ideal S1x3x5632 .f32 := iblk m hO c 2 t
def b3 (t : Fin (cfgM m hO).N) : FVec Ideal S1x1x5632 .f32 := iblk m hO c 3 t
def b4 (t : Fin (cfgM m hO).N) : FVec Ideal S1x2816x1024 .bf16 := iblk m hO c 4 t
def b5 (t : Fin (cfgM m hO).N) : FVec Ideal S1x1x1024 .f32 := iblk m hO c 5 t
def b6 (t : Fin (cfgM m hO).N) : FVec Ideal S1x1x1024 .f32 := iblk m hO c 6 t

/-- The rows kept that a grid point finds: zero where a batch begins. -/
def halo (t : Fin (cfgM m hO).N) : Vec Ideal S8x5632 .f32 :=
  if t.val % 8 = 0 then k0_pay4 (F := Ideal) else (outsAt0 m hO c (t.val - 1) (Nat.lt_of_le_of_lt (Nat.sub_le _ _) t.isLt)).2.2

theorem out_eq (t : Fin (cfgM m hO).N) : (outsAt0 m hO c t.val t.isLt).1 = outBlock (F := Ideal) (b0 m hO c t) (b4 m hO c t) (b5 m hO c t) (b6 m hO c t)
    (View.canon (actStores (F := Ideal) (b0 m hO c t) (b1 m hO c t) (b2 m hO c t) (b3 m hO c t) (rows7 (halo m hO c t)) (rows6 (halo m hO c t)))) := by
  by_cases h0 : t.val % 8 = 0
  · have hh : halo m hO c t = k0_pay4 (F := Ideal) := if_pos h0
    rw [hh]
    exact (parts (outsAt0_A m hO c t h0)).1.trans (out_A (F := Ideal) ..)
  · have hh : halo m hO c t = (outsAt0 m hO c (t.val - 1) (Nat.lt_of_le_of_lt (Nat.sub_le _ _) t.isLt)).2.2 := if_neg h0
    rw [hh]
    exact (parts (outsAt0_B m hO c t h0)).1.trans (out_B (F := Ideal) ..)

theorem tail_eq (t : Fin (cfgM m hO).N) : (outsAt0 m hO c t.val t.isLt).2.1 = View.canon (tailStores (F := Ideal) (b0 m hO c t) (b1 m hO c t)) := by
  by_cases h0 : t.val % 8 = 0
  · exact (parts (outsAt0_A m hO c t h0)).2.1.trans (tail_A (F := Ideal) ..)
  · exact (parts (outsAt0_B m hO c t h0)).2.1.trans (tail_B (F := Ideal) ..)

theorem keep_eq (t : Fin (cfgM m hO).N) (r : Fin 8) (j : Fin 5632) :
    (outsAt0 m hO c t.val t.isLt).2.2 (ix2 r j) = upCol (b0 m hO c t) (b1 m hO c t) j ⟨504 + r.val, by omega⟩ := by
  by_cases h0 : t.val % 8 = 0
  · exact (congrFun ((parts (outsAt0_A m hO c t h0)).2.2.trans (keep_A (F := Ideal) ..)) (ix2 r j)).trans
      (keep_zeroed_at (b0 m hO c t) (b1 m hO c t) r j)
  · exact (congrFun ((parts (outsAt0_B m hO c t h0)).2.2.trans (keep_B (F := Ideal) ..)) (ix2 r j)).trans
      (keep_at (b0 m hO c t) (b1 m hO c t) r j)

/-! ## A grid point's blocks as the arguments' rows -/

/-- The batch of a grid point, and the token its block begins at. -/
def batch (t : Fin (cfgM m hO).N) : Fin 4 := ⟨t.val / 8, by have := lt_of_lt_of_eq t.isLt N_0; omega⟩
def token (t : Fin (cfgM m hO).N) (a : Fin 512) : Fin 4096 := ⟨512 * (t.val % 8) + a.val, by omega⟩

/-- Column `j` of the widening product of a grid point's batch. -/
abbrev U (t : Fin (cfgM m hO).N) (j : Fin 5632) : Fin 4096 → EReal := up ⟨lay m, hl⟩ (aX m c) (aUp m c) (batch m hO t) j

theorem row_batch (t : Fin (cfgM m hO).N) (a : Fin 512) (h) : (⟨(row t a).val / 4096, h⟩ : Fin 4) = batch m hO t :=
  Fin.ext (show (512 * t.val + a.val) / 4096 = t.val / 8 by omega)
theorem row_token (t : Fin (cfgM m hO).N) (a : Fin 512) (h) : (⟨(row t a).val % 4096, h⟩ : Fin 4096) = token m hO t a :=
  Fin.ext (show (512 * t.val + a.val) % 4096 = 512 * (t.val % 8) + a.val by omega)

theorem x_row (t : Fin (cfgM m hO).N) (a : Fin 512) (d : Fin 1024) : b0 m hO c t (ix2 a d) = aX m c (ix3 (batch m hO t) (token m hO t a) d) := by
  refine (iblk0 m hO c t a d).trans ((x_at m c _ d).trans ?_)
  rw [row_batch, row_token]

theorem up_row (t : Fin (cfgM m hO).N) (j : Fin 5632) (a : Fin 512) : upCol (b0 m hO c t) (b1 m hO c t) j a = U m hO c hl t j (token m hO t a) :=
  Finset.sum_congr rfl fun d _ => congrArg₂ (· * ·) (x_row m hO c t a d) ((iblk1 m hO c t hl d j).trans (up_at m c _ d j))

/-- The rows kept that a grid point finds hold the last two tokens before its block. -/
theorem halo_at (t : Fin (cfgM m hO).N) (j : Fin 5632) :
    halo m hO c t (ix2 7 j) = back (U m hO c hl t j) 1 ⟨512 * (t.val % 8), by omega⟩
      ∧ halo m hO c t (ix2 6 j) = back (U m hO c hl t j) 2 ⟨512 * (t.val % 8), by omega⟩ := by
  by_cases h0 : t.val % 8 = 0
  · have hh : halo m hO c t = k0_pay4 (F := Ideal) := if_pos h0
    rw [hh]
    unfold back
    rw [dif_neg (show ¬1 ≤ 512 * (t.val % 8) by omega), dif_neg (show ¬2 ≤ 512 * (t.val % 8) by omega)]
    exact ⟨pay4_at _, pay4_at _⟩
  · have hh : halo m hO c t = (outsAt0 m hO c (t.val - 1) (Nat.lt_of_le_of_lt (Nat.sub_le _ _) t.isLt)).2.2 := if_neg h0
    have key : ∀ (r : Fin 8) (s : Fin 4096), s.val + 8 = 512 * (t.val % 8) + r.val → halo m hO c t (ix2 r j) = U m hO c hl t j s := fun r s hs => by
      rw [hh]
      refine (keep_eq m hO c ⟨t.val - 1, Nat.lt_of_le_of_lt (Nat.sub_le _ _) t.isLt⟩ r j).trans ((up_row m hO c hl _ j _).trans ?_)
      have e1 : batch m hO ⟨t.val - 1, Nat.lt_of_le_of_lt (Nat.sub_le _ _) t.isLt⟩ = batch m hO t :=
        Fin.ext (show (t.val - 1) / 8 = t.val / 8 by omega)
      have e2 : token m hO ⟨t.val - 1, Nat.lt_of_le_of_lt (Nat.sub_le _ _) t.isLt⟩ ⟨504 + r.val, by omega⟩ = s :=
        Fin.ext (show 512 * ((t.val - 1) % 8) + (504 + r.val) = s.val by omega)
      unfold U
      rw [e1, e2]
    unfold back
    rw [dif_pos (show 1 ≤ 512 * (t.val % 8) by omega), dif_pos (show 2 ≤ 512 * (t.val % 8) by omega)]
    exact ⟨key 7 _ (show 512 * (t.val % 8) - 1 + 8 = 512 * (t.val % 8) + 7 by omega), key 6 _ (show 512 * (t.val % 8) - 2 + 8 = 512 * (t.val % 8) + 6 by omega)⟩

theorem cv_row (t : Fin (cfgM m hO).N) (j : Fin 5632) (a : Fin 512) : cvCol (b0 m hO c t) (b1 m hO c t) (b2 m hO c t) (b3 m hO c t) (halo m hO c t) j a
    = conved ⟨lay m, hl⟩ (aX m c) (aUp m c) (aCw m c) (aCb m c) (batch m hO t) j (token m hO t a) := by
  obtain ⟨h1, h2⟩ := hist_back (U m hO c hl t j) (upCol (b0 m hO c t) (b1 m hO c t) j) (512 * (t.val % 8)) (by omega) (up_row m hO c hl t j) _ _
    (halo_at m hO c hl t j).1 (halo_at m hO c hl t j).2 a
  have w : ∀ i : Fin 3, b2 m hO c t (ix3 0 i j) = aCw m c (ix3 ⟨lay m, hl⟩ i j) := fun i => (iblk2 m hO c t hl i j).trans (cw_at m c _ i j)
  have s : b3 m hO c t (ix3 0 0 j) = aCb m c (ix2 ⟨lay m, hl⟩ j) := (iblk3 m hO c t hl 0 j).trans (cb_at m c _ 0 j)
  unfold cvCol conved conv
  rw [h1, h2, w, w, w, s, up_row m hO c hl t j a]
  rfl

/-! ## The arrays -/

/-- The result array, and the array of the tails. -/
def result : FVec Ideal S16384x1024 .f32 := fun i =>
  entry ⟨lay m, hl⟩ (aX m c) (aUp m c) (aCw m c) (aCb m c) (aDown m c) (aG m c) (aB m c) (i 0) (i 1)
theorem result_at (r : Fin 16384) (n : Fin 1024) : result m c hl (ix2 r n)
    = entry ⟨lay m, hl⟩ (aX m c) (aUp m c) (aCw m c) (aCb m c) (aDown m c) (aG m c) (aB m c) r n := rfl
def tails : FVec Ideal S32x8x5632 .f32 := fun i =>
  up ⟨lay m, hl⟩ (aX m c) (aUp m c) ⟨(i 0).val / 8, by have : (i 0).val < 32 := (i 0).isLt; omega⟩ (i 2)
    ⟨512 * ((i 0).val % 8) + (504 + (i 1).val), by have : (i 1).val < 8 := (i 1).isLt; omega⟩

/-- The arguments the gate is computed from are real. -/
structure Reals : Prop where
  x : ∀ i, IsReal (aX m c i)
  up : ∀ i, IsReal (aUp m c i)
  cw : ∀ i, IsReal (aCw m c i)
  cb : ∀ i, IsReal (aCb m c i)

variable (hr : Reals m c)

include hr in
theorem act_row (t : Fin (cfgM m hO).N) (a : Fin 512) (k : Fin 2816) :
    View.canon (actStores (F := Ideal) (b0 m hO c t) (b1 m hO c t) (b2 m hO c t) (b3 m hO c t) (rows7 (halo m hO c t)) (rows6 (halo m hO c t))) (ix2 a k)
      = silu (conved ⟨lay m, hl⟩ (aX m c) (aUp m c) (aCw m c) (aCb m c) (batch m hO t) ⟨k.val, by omega⟩ (token m hO t a))
        * conved ⟨lay m, hl⟩ (aX m c) (aUp m c) (aCw m c) (aCb m c) (batch m hO t) ⟨2816 + k.val, by omega⟩ (token m hO t a) := by
  refine (act_at (b0 m hO c t) (b1 m hO c t) (b2 m hO c t) (b3 m hO c t) (halo m hO c t) a k).trans ?_
  unfold actAt
  rw [cv_row m hO c hl, cv_row m hO c hl]
  exact congrArg (· * _) (silu_half (conved_real _ _ _ _ _ hr.x hr.up hr.cw hr.cb _ _ _))

include hr in
/-- What grid point `t` writes, at an index. -/
theorem point_at (t : Fin (cfgM m hO).N) (a : Fin 512) (n : Fin 1024) :
    (outsAt0 m hO c t.val t.isLt).1 (ix2 a n) = result m c hl (ix2 (row t a) n) := by
  refine (congrFun (out_eq m hO c t) (ix2 a n)).trans ((outBlock_at _ _ _ _ _ a n).trans ?_)
  rw [result_at]
  unfold entry
  rw [row_batch, row_token]
  have e5 : (fun n => b5 m hO c t (ix3 0 0 n)) = fun n => aG m c (ix2 ⟨lay m, hl⟩ n) := funext fun n => (iblk5 m hO c t hl 0 n).trans (g_at m c _ 0 n)
  have e6 : (fun n => b6 m hO c t (ix3 0 0 n)) = fun n => aB m c (ix2 ⟨lay m, hl⟩ n) := funext fun n => (iblk6 m hO c t hl 0 n).trans (b_at m c _ 0 n)
  rw [e5, e6]
  refine congrArg (fun f => Cert.Proof.MergeRow.normed f _ _ n) (funext fun n => ?_)
  unfold preNorm
  refine congrArg₂ (· + ·) (congrArg (_ * ·) (x_row m hO c t a n)) (Finset.sum_congr rfl fun k _ => ?_)
  exact congrArg₂ (· * ·) (act_row m hO c hl hr t a k) ((iblk4 m hO c t hl k n).trans (down_at m c _ k n))

include hr in
theorem flushed_eq (t : Fin (cfgM m hO).N) (hf : ((cfgM m hO).win 7).flush t = true) :
    (dats m hO 0 c).flushed 7 t = (((cfgM m hO).win 7).blk t).view.read (Elt Ideal) (result m c hl) := by
  have hi := (at_point t).2.1
  show ((cfgM m hO).win 7).cut (grid0.coords t) ((dats m hO 0 c).after 7 t) = _
  rw [after0_7]
  refine funext fun (i : S512x1024.Idx) => ?_
  rw [eq_ix2 i]
  refine (point_at m hO c hl hr t (i 0) (i 1)).trans ?_
  refine congrArg (result m c hl) (funext fun a => Fin.ext ?_)
  match a with
  | ⟨0, _⟩ => show 512 * t.val + (i 0).val = cc0_transform_7 (grid0.coords t) 0 * 512 + 1 * (i 0).val; rw [hi.1]; omega
  | ⟨1, _⟩ => show (i 1).val = cc0_transform_7 (grid0.coords t) 1 * 1024 + 1 * (i 1).val; rw [hi.2]; omega

include hr in
theorem array_eq : (dats m hO 0 c).arrAt 7 (cfgM m hO).N = result m c hl :=
  (dats m hO 0 c).arrAt_eq_of_cover 7 (result m c hl) (flushed_eq m hO c hl hr) fun (i : S16384x1024.Idx) => by
    have h0 : (i 0 : Nat) < 16384 := (i 0).isLt
    have h1 : (i 1 : Nat) < 1024 := (i 1).isLt
    have ht : (i 0 : Nat) / 512 < (cfgM m hO).N := lt_of_lt_of_eq (show (i 0 : Nat) / 512 < 32 by omega) N_0.symm
    refine ⟨⟨(i 0 : Nat) / 512, ht⟩, flush0_7 _ _, ?_⟩
    have hi := (at_point ⟨(i 0 : Nat) / 512, ht⟩).2.1
    show i ∈ ((View.whole main_v6_0).slice (((cfgM m hO).win 7).rect ⟨(i 0 : Nat) / 512, ht⟩)).set
    refine Eq.mpr (congrArg (i ∈ ·) (View.set_slice_whole main_v6_0 (((cfgM m hO).win 7).rect ⟨(i 0 : Nat) / 512, ht⟩))) ?_
    refine Rect.mem_set_unit.mpr fun a => ?_
    match a with
    | ⟨0, _⟩ => show cc0_transform_7 (grid0.coords ⟨(i 0 : Nat) / 512, ht⟩) 0 * 512 ≤ (i 0 : Nat)
                    ∧ (i 0 : Nat) < cc0_transform_7 (grid0.coords ⟨(i 0 : Nat) / 512, ht⟩) 0 * 512 + 512
                rw [hi.1]; dsimp only; omega
    | ⟨1, _⟩ => show cc0_transform_7 (grid0.coords ⟨(i 0 : Nat) / 512, ht⟩) 1 * 1024 ≤ (i 1 : Nat)
                    ∧ (i 1 : Nat) < cc0_transform_7 (grid0.coords ⟨(i 0 : Nat) / 512, ht⟩) 1 * 1024 + 1024
                rw [hi.2]; omega

theorem tails_flushed (t : Fin (cfgM m hO).N) (hf : ((cfgM m hO).win 8).flush t = true) :
    (dats m hO 0 c).flushed 8 t = (((cfgM m hO).win 8).blk t).view.read (Elt Ideal) (tails m c hl) := by
  have hi := (at_point t).2.2
  show ((cfgM m hO).win 8).cut (grid0.coords t) ((dats m hO 0 c).after 8 t) = _
  rw [after0_8]
  refine funext fun (i : S1x8x5632.Idx) => ?_
  have hx : i = ix3 (0 : Fin 1) (i 1) (i 2) := (eq_ix3 i).trans (congrArg (fun z : Fin 1 => ix3 z (i 1) (i 2)) (Subsingleton.elim (α := Fin 1) _ _))
  rw [hx]
  refine (congrFun (tail_eq m hO c t) (ix3 0 (i 1) (i 2))).trans ((tail_at _ _ (i 1) (i 2)).trans ((up_row m hO c hl t (i 2) _).trans ?_))
  show tails m c hl (ix3 ⟨t.val, lt_of_lt_of_eq t.isLt N_0⟩ (i 1) (i 2)) = _
  refine congrArg (tails m c hl) (funext fun a => Fin.ext ?_)
  match a with
  | ⟨0, _⟩ => show t.val = cc0_transform_8 (grid0.coords t) 0 * 1 + 1 * 0; rw [hi.1]; omega
  | ⟨1, _⟩ => show (i 1).val = cc0_transform_8 (grid0.coords t) 1 * 8 + 1 * (i 1).val; rw [hi.2.1]; omega
  | ⟨2, _⟩ => show (i 2).val = cc0_transform_8 (grid0.coords t) 2 * 5632 + 1 * (i 2).val; rw [hi.2.2]; omega

theorem tails_eq : (dats m hO 0 c).arrAt 8 (cfgM m hO).N = tails m c hl :=
  (dats m hO 0 c).arrAt_eq_of_cover 8 (tails m c hl) (tails_flushed m hO c hl) fun (i : S32x8x5632.Idx) => by
    have h0 : (i 0 : Nat) < 32 := (i 0).isLt
    have h1 : (i 1 : Nat) < 8 := (i 1).isLt
    have h2 : (i 2 : Nat) < 5632 := (i 2).isLt
    have ht : (i 0 : Nat) < (cfgM m hO).N := lt_of_lt_of_eq h0 N_0.symm
    refine ⟨⟨(i 0 : Nat), ht⟩, flush0_8 _ _, ?_⟩
    have hi := (at_point ⟨(i 0 : Nat), ht⟩).2.2
    show i ∈ ((View.whole main_v6_1).slice (((cfgM m hO).win 8).rect ⟨(i 0 : Nat), ht⟩)).set
    refine Eq.mpr (congrArg (i ∈ ·) (View.set_slice_whole main_v6_1 (((cfgM m hO).win 8).rect ⟨(i 0 : Nat), ht⟩))) ?_
    refine Rect.mem_set_unit.mpr fun a => ?_
    match a with
    | ⟨0, _⟩ => show cc0_transform_8 (grid0.coords ⟨(i 0 : Nat), ht⟩) 0 * 1 ≤ (i 0 : Nat)
                    ∧ (i 0 : Nat) < cc0_transform_8 (grid0.coords ⟨(i 0 : Nat), ht⟩) 0 * 1 + 1
                rw [hi.1]; dsimp only; omega
    | ⟨1, _⟩ => show cc0_transform_8 (grid0.coords ⟨(i 0 : Nat), ht⟩) 1 * 8 ≤ (i 1 : Nat)
                    ∧ (i 1 : Nat) < cc0_transform_8 (grid0.coords ⟨(i 0 : Nat), ht⟩) 1 * 8 + 8
                rw [hi.2.1]; omega
    | ⟨2, _⟩ => show cc0_transform_8 (grid0.coords ⟨(i 0 : Nat), ht⟩) 2 * 5632 ≤ (i 2 : Nat)
                    ∧ (i 2 : Nat) < cc0_transform_8 (grid0.coords ⟨(i 0 : Nat), ht⟩) 2 * 5632 + 5632
                rw [hi.2.2]; omega

/-! ## The carried rows -/

/-- The second result. -/
def carriedRows : FVec Ideal S4x2x5632 .f32 := fun i => carried ⟨lay m, hl⟩ (aX m c) (aUp m c) (i 0) (i 1) (i 2)

theorem carried_eq : Pipeline.afterTail pcfgs (fun _ => adm m hO) (dats m hO) 0 (V0 m) [hostOps1] c main_v9 = carriedRows m c hl := by
  refine funext fun (i : S4x2x5632.Idx) => ?_
  rw [eq_ix3 i]
  unfold Pipeline.afterTail
  refine (host_at _ (i 0) (i 1) (i 2)).trans ?_
  have e := (Pipeline.withArrays_arr (Pipeline.pin pcfgs (fun _ => adm m hO) 0).spec winFacts0.arr_inj c (V0 m c)
    (fun w => (dats m hO 0 c).arrAt w (cfgM m hO).N) 8).trans (tails_eq m hO c hl)
  refine (congrFun e _).trans ?_
  show up _ _ _ _ _ _ = up _ _ _ _ _ _
  have h0 : (i 0 : Nat) < 4 := (i 0).isLt
  have h1 : (i 1 : Nat) < 2 := (i 1).isLt
  refine congr (congrArg (fun b => up ⟨lay m, hl⟩ (aX m c) (aUp m c) b (i 2)) (Fin.ext ?_)) (Fin.ext ?_)
  · show ((i 0 : Nat) * 8 + 7) / 8 = (i 0 : Nat); omega
  · show 512 * (((i 0 : Nat) * 8 + 7) % 8) + (504 + (6 + (i 1 : Nat))) = 4094 + (i 1 : Nat); omega

/-- The run, with the results and the arguments named. -/
theorem run (hr : ∀ c, Reals m c) (ρ : Dev nD → PrngReg) : θ_run (defs (F := Ideal)) (onTc (τ := τ) (main (F := Ideal))) ⟨m, fun _ => 0, ρ⟩ fun r => ∀ c : Dev nD,
      r.2.mem ((c.tc : Thread nD τ).loc main_v6_0) = result m c hl
      ∧ r.2.mem ((c.tc : Thread nD τ).loc main_v9) = carriedRows m c hl
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).1 7).trans (array_eq m (Cert.Proof.FfnLayer.ok m hl) c hl (hr c)),
      ((h.1 c).2 main_v9 (by decide : main_v9 ∈ Pipeline.restRefs sig spec0)).trans (carried_eq m (Cert.Proof.FfnLayer.ok m hl) c hl), h.2 c⟩)
    (θ_run_and (run_main m ρ (Cert.Proof.FfnLayer.ok m hl)) (unchanged m ρ (Cert.Proof.FfnLayer.ok m hl)))

end Cert.FfnIdeal.Result

end
-- ==== Proof.FfnRefRead.lean ====
/-
  The feed-forward reference's results, at an index: the weights at the layer, then each piece of the text read over them.
-/
module

public import proofs.«01_k».proof.Proof.Gen.FfnRefIdeal.Run
public import proofs.«01_k».proof.Proof.MergeRefRead
public import proofs.«01_k».proof.Proof.FfnSpec

@[expose] public section

set_option maxRecDepth 16384

noncomputable section

namespace Cert.FfnRefIdeal.Read

open Idealize.ShloMosaic Idealize.ShloMosaic.TcCoe Idealize.ShloMosaic.StableHlo
open Cert.FfnRefIdeal Cert.FfnRefIdeal.Gen Cert.FfnRefIdeal.Value Cert.Proof.FfnRow
open Cert.MergeRefIdeal.Read (word start2 start3 slice2 slice3 wLn wLn_at norm norm_at)

/-! ## The weights at the layer -/

def wUp (x : FVec Ideal S4x1024x5632 .f32) (w : IVec S_ 32) : FVec Ideal S1024x5632 .f32 :=
  shapeCast _ (Host.dynamicSlice S1x1024x5632 x (start3 1024#32 5632#32 w) sliceFits_S4x1024x5632_S1x1024x5632) shapeCasts_S1x1024x5632_S1024x5632

theorem wUp_at (x : FVec Ideal S4x1024x5632 .f32) (l : IVec S1 32) (h : (l (ix1 0)).toNat < 4) (d : Fin 1024) (j : Fin 5632) :
    wUp x (word l) (ix2 d j) = x (ix3 ⟨(l (ix1 0)).toNat, h⟩ d j) := by
  unfold wUp
  rw [← slice3 x 1024#32 5632#32 l h sliceFits_S4x1024x5632_S1x1024x5632 d j]
  generalize Host.dynamicSlice S1x1024x5632 x (start3 1024#32 5632#32 (word l)) sliceFits_S4x1024x5632_S1x1024x5632 = y
  pointwise []

def wTaps (x : FVec Ideal S4x3x5632 .f32) (w : IVec S_ 32) : FVec Ideal S3x5632 .f32 :=
  shapeCast _ (Host.dynamicSlice S1x3x5632 x (start3 3#32 5632#32 w) sliceFits_S4x3x5632_S1x3x5632) shapeCasts_S1x3x5632_S3x5632

theorem wTaps_at (x : FVec Ideal S4x3x5632 .f32) (l : IVec S1 32) (h : (l (ix1 0)).toNat < 4) (i : Fin 3) (j : Fin 5632) :
    wTaps x (word l) (ix2 i j) = x (ix3 ⟨(l (ix1 0)).toNat, h⟩ i j) := by
  unfold wTaps
  rw [← slice3 x 3#32 5632#32 l h sliceFits_S4x3x5632_S1x3x5632 i j]
  generalize Host.dynamicSlice S1x3x5632 x (start3 3#32 5632#32 (word l)) sliceFits_S4x3x5632_S1x3x5632 = y
  pointwise []

def wShift (x : FVec Ideal S4x5632 .f32) (w : IVec S_ 32) : FVec Ideal S5632 .f32 :=
  shapeCast _ (Host.dynamicSlice S1x5632 x (start2 5632#32 w) sliceFits_S4x5632_S1x5632) shapeCasts_S1x5632_S5632

theorem wShift_at (x : FVec Ideal S4x5632 .f32) (l : IVec S1 32) (h : (l (ix1 0)).toNat < 4) (j : Fin 5632) :
    wShift x (word l) (ix1 j) = x (ix2 ⟨(l (ix1 0)).toNat, h⟩ j) := by
  unfold wShift
  rw [← slice2 x 5632#32 l h sliceFits_S4x5632_S1x5632 j]
  generalize Host.dynamicSlice S1x5632 x (start2 5632#32 (word l)) sliceFits_S4x5632_S1x5632 = y
  pointwise []

def wDown (x : FVec Ideal S4x2816x1024 .f32) (w : IVec S_ 32) : FVec Ideal S2816x1024 .f32 :=
  shapeCast _ (Host.dynamicSlice S1x2816x1024 x (start3 2816#32 1024#32 w) sliceFits_S4x2816x1024_S1x2816x1024) shapeCasts_S1x2816x1024_S2816x1024

theorem wDown_at (x : FVec Ideal S4x2816x1024 .f32) (l : IVec S1 32) (h : (l (ix1 0)).toNat < 4) (k : Fin 2816) (n : Fin 1024) :
    wDown x (word l) (ix2 k n) = x (ix3 ⟨(l (ix1 0)).toNat, h⟩ k n) := by
  unfold wDown
  rw [← slice3 x 2816#32 1024#32 l h sliceFits_S4x2816x1024_S1x2816x1024 k n]
  generalize Host.dynamicSlice S1x2816x1024 x (start3 2816#32 1024#32 (word l)) sliceFits_S4x2816x1024_S1x2816x1024 = y
  pointwise []

/-! ## The pieces -/

/-- The widening product. -/
def product (x : FVec Ideal S4x4096x1024 .f32) (w : FVec Ideal S1024x5632 .f32) : FVec Ideal S4x4096x5632 .f32 :=
  Host.dotGeneral dot_S4x4096x1024_S1024x5632_S4x4096x5632_2_0_01_1_n_n none x w

theorem product_at (x : FVec Ideal S4x4096x1024 .f32) (w : FVec Ideal S1024x5632 .f32) (b : Fin 4) (s : Fin 4096) (j : Fin 5632) :
    product x w (ix3 b s j) = ∑ d : Fin 1024, x (ix3 b s d) * w (ix2 d j) := by
  pointwise [product]

/-- Two rows of zeros before the rows. -/
def padded (u : FVec Ideal S4x4096x5632 .f32) : FVec Ideal S4x4098x5632 .f32 :=
  concatenate S4x4098x5632 1 [⟨S4x2x5632, (broadcastInDim S4x2x5632 ![] bcast_S_S4x2x5632 (constant S_ .f32 0x00000000#32))⟩, ⟨S4x4096x5632, u⟩] concatenates_S4x2x5632_S4x4096x5632_S4x4098x5632_d1

theorem padded_at (u : FVec Ideal S4x4096x5632 .f32) (b : Fin 4) (t : Fin 4098) (j : Fin 5632) :
    padded u (ix3 b t j) = if h : 2 ≤ t.val then u (ix3 b ⟨t.val - 2, by omega⟩ j) else 0 := by
  by_cases h : 2 ≤ t.val
  · rw [dif_pos h]
    exact concatenate_pair_apply_right (s₁ := S4x2x5632) (s₂ := S4x4096x5632) (t := S4x4098x5632) 1 _ u _ (ix3 b t j) rfl rfl (ix3 b ⟨t.val - 2, by omega⟩ j)
      (fun a ha => match a with
        | ⟨0, _⟩ => rfl
        | ⟨1, _⟩ => absurd rfl ha
        | ⟨2, _⟩ => rfl) (by show t.val - 2 + 2 = t.val; omega)
  · rw [dif_neg h, ← Ideal.ofBits_zero_f32]
    exact concatenate_pair_apply_left (s₁ := S4x2x5632) (s₂ := S4x4096x5632) (t := S4x4098x5632) 1 _ u _ (ix3 b t j) rfl (ix3 b ⟨t.val, by omega⟩ j)
      (fun a => match a with
        | ⟨0, _⟩ => rfl
        | ⟨1, _⟩ => rfl
        | ⟨2, _⟩ => rfl)

/-- A tap's weights along the columns. -/
def tap (w : FVec Ideal S1x5632 .f32) : FVec Ideal S4x4096x5632 .f32 :=
  broadcastInDim S4x4096x5632 ![0, 1, 2] bcast_S1x1x5632_S4x4096x5632_0_1_2 (broadcastInDim S1x1x5632 ![2] bcast_S5632_S1x1x5632_2 (shapeCast _ w shapeCasts_S1x5632_S5632))

/-- The convolution of the padded rows. -/
def convolved (c : FVec Ideal S5632 .f32) (w : FVec Ideal S3x5632 .f32) (y : FVec Ideal S4x4098x5632 .f32) : FVec Ideal S4x4096x5632 .f32 :=
  addf (broadcastInDim S4x4096x5632 ![0, 1, 2] bcast_S1x1x5632_S4x4096x5632_0_1_2 (broadcastInDim S1x1x5632 ![2] bcast_S5632_S1x1x5632_2 c)) (addf (addf (addf (broadcastInDim S4x4096x5632 ![] bcast_S_S4x4096x5632 (constant S_ .f32 0x00000000#32))
    (mulf (extractStridedSlice S4x4096x5632 ![0, 0, 0] y slices_S4x4098x5632_S4x4096x5632_0_0_0) (tap (extractStridedSlice S1x5632 ![0, 0] w slices_S3x5632_S1x5632_0_0))))
    (mulf (extractStridedSlice S4x4096x5632 ![0, 1, 0] y slices_S4x4098x5632_S4x4096x5632_0_1_0) (tap (extractStridedSlice S1x5632 ![1, 0] w slices_S3x5632_S1x5632_1_0))))
    (mulf (extractStridedSlice S4x4096x5632 ![0, 2, 0] y slices_S4x4098x5632_S4x4096x5632_0_2_0) (tap (extractStridedSlice S1x5632 ![2, 0] w slices_S3x5632_S1x5632_2_0))))

theorem convolved_at (c : FVec Ideal S5632 .f32) (w : FVec Ideal S3x5632 .f32) (y : FVec Ideal S4x4098x5632 .f32) (b : Fin 4) (s : Fin 4096) (j : Fin 5632) :
    convolved c w y (ix3 b s j) = c (ix1 j) + (0 + y (ix3 b ⟨s.val, by omega⟩ j) * w (ix2 0 j) + y (ix3 b ⟨1 + s.val, by omega⟩ j) * w (ix2 1 j)
      + y (ix3 b ⟨2 + s.val, by omega⟩ j) * w (ix2 2 j)) := by
  rw [← Ideal.ofBits_zero_f32]
  pointwise [convolved, tap]

theorem convolved_padded (c : FVec Ideal S5632 .f32) (w : FVec Ideal S3x5632 .f32) (u : FVec Ideal S4x4096x5632 .f32) (b : Fin 4) (s : Fin 4096) (j : Fin 5632) :
    convolved c w (padded u) (ix3 b s j) = conv (fun s => u (ix3 b s j)) (fun i => w (ix2 i j)) (c (ix1 j)) s := by
  rw [convolved_at, padded_at, padded_at, padded_at, dif_pos (show 2 ≤ (⟨2 + s.val, by omega⟩ : Fin 4098).val from Nat.le_add_right _ _), zero_add, ← add_assoc, ← add_assoc]
  have e0 : (if h : 2 ≤ s.val then u (ix3 b ⟨s.val - 2, by omega⟩ j) else 0) = back (fun s => u (ix3 b s j)) 2 s := rfl
  have e1 : (if h : 2 ≤ 1 + s.val then u (ix3 b ⟨1 + s.val - 2, by omega⟩ j) else 0) = back (fun s => u (ix3 b s j)) 1 s := by
    unfold back
    by_cases h : 1 ≤ s.val
    · rw [dif_pos h, dif_pos (show 2 ≤ 1 + s.val by omega)]
      exact congrArg (fun t => u (ix3 b t j)) (Fin.ext (by show 1 + s.val - 2 = s.val - 1; omega))
    · rw [dif_neg h, dif_neg (show ¬ 2 ≤ 1 + s.val by omega)]
  have e2 : u (ix3 b ⟨2 + s.val - 2, by omega⟩ j) = u (ix3 b s j) :=
    congrArg (fun t => u (ix3 b t j)) (Fin.ext (by show 2 + s.val - 2 = s.val; omega))
  exact congrArg₂ (· + ·) (congrArg₂ (· + ·) (congrArg (c (ix1 j) + · * w (ix2 0 j)) e0) (congrArg (· * w (ix2 1 j)) e1)) (congrArg (· * w (ix2 2 j)) e2)

/-- The row before the norm. -/
def summed (x : FVec Ideal S4x4096x1024 .f32) (y : FVec Ideal S4x4096x5632 .f32) (w : FVec Ideal S2816x1024 .f32) : FVec Ideal S4x4096x1024 .f32 :=
  addf (mulf (broadcastInDim S4x4096x1024 ![] bcast_S_S4x4096x1024 (constant S_ .f32 0x3FD744FD#32)) x) (Host.dotGeneral dot_S4x4096x2816_S2816x1024_S4x4096x1024_2_0_01_1_n_n none
    (mulf (mulf (extractStridedSlice S4x4096x2816 ![0, 0, 0] y slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32))
      (Host.exp (Host.negf (extractStridedSlice S4x4096x2816 ![0, 0, 0] y slices_S4x4096x5632_S4x4096x2816_0_0_0)))))) (extractStridedSlice S4x4096x2816 ![0, 0, 2816] y slices_S4x4096x5632_S4x4096x2816_0_0_2816)) w)

theorem summed_at (x : FVec Ideal S4x4096x1024 .f32) (y : FVec Ideal S4x4096x5632 .f32) (w : FVec Ideal S2816x1024 .f32) (b : Fin 4) (s : Fin 4096) (n : Fin 1024) :
    summed x y w (ix3 b s n) = preNorm (fun d => x (ix3 b s d)) (fun j => y (ix3 b s j)) (fun k n => w (ix2 k n)) n := by
  pointwise [summed, preNorm, silu]
  rfl

/-! ## The whole -/

/-- The columns after the convolution, from the arguments. -/
def columns (l : IVec S1 32) (x : FVec Ideal S4x4096x1024 .f32) (wu : FVec Ideal S4x1024x5632 .f32) (cw : FVec Ideal S4x3x5632 .f32) (cb : FVec Ideal S4x5632 .f32) :
    FVec Ideal S4x4096x5632 .f32 := convolved (wShift cb (word l)) (wTaps cw (word l)) (padded (product x (wUp wu (word l))))

theorem columns_at (l : IVec S1 32) (h : (l (ix1 0)).toNat < 4) (x : FVec Ideal S4x4096x1024 .f32) (wu : FVec Ideal S4x1024x5632 .f32) (cw : FVec Ideal S4x3x5632 .f32) (cb : FVec Ideal S4x5632 .f32)
    (b : Fin 4) (s : Fin 4096) (j : Fin 5632) : columns l x wu cw cb (ix3 b s j) = conved ⟨(l (ix1 0)).toNat, h⟩ x wu cw cb b j s := by
  unfold columns
  rw [convolved_padded]
  simp only [product_at, wUp_at _ l h, wTaps_at _ l h, wShift_at _ l h]
  rfl

/-- The reference's results as functions of its arguments: the normed rows, and the last two rows of the widening product. -/
def whole (l : IVec S1 32) (x : FVec Ideal S4x4096x1024 .f32) (wu : FVec Ideal S4x1024x5632 .f32) (cw : FVec Ideal S4x3x5632 .f32) (cb : FVec Ideal S4x5632 .f32)
    (wd : FVec Ideal S4x2816x1024 .f32) (g b : FVec Ideal S4x1024 .f32) : FVec Ideal S16384x1024 .f32 :=
  norm (summed x (columns l x wu cw cb) (wDown wd (word l))) (wLn g (word l)) (wLn b (word l))

def kept (l : IVec S1 32) (x : FVec Ideal S4x4096x1024 .f32) (wu : FVec Ideal S4x1024x5632 .f32) : FVec Ideal S4x2x5632 .f32 :=
  extractStridedSlice S4x2x5632 ![0, 4096, 0] (padded (product x (wUp wu (word l)))) slices_S4x4098x5632_S4x2x5632_0_4096_0

theorem whole_at (l : IVec S1 32) (h : (l (ix1 0)).toNat < 4) (x : FVec Ideal S4x4096x1024 .f32) (wu : FVec Ideal S4x1024x5632 .f32) (cw : FVec Ideal S4x3x5632 .f32) (cb : FVec Ideal S4x5632 .f32)
    (wd : FVec Ideal S4x2816x1024 .f32) (g b : FVec Ideal S4x1024 .f32) (r : Fin 16384) (n : Fin 1024) :
    whole l x wu cw cb wd g b (ix2 r n) = entry ⟨(l (ix1 0)).toNat, h⟩ x wu cw cb wd g b r n := by
  unfold whole
  rw [norm_at]
  unfold entry
  simp only [summed_at, columns_at l h, wDown_at _ l h, wLn_at _ l h]

theorem kept_at (l : IVec S1 32) (h : (l (ix1 0)).toNat < 4) (x : FVec Ideal S4x4096x1024 .f32) (wu : FVec Ideal S4x1024x5632 .f32) (b : Fin 4) (i : Fin 2) (j : Fin 5632) :
    kept l x wu (ix3 b i j) = carried ⟨(l (ix1 0)).toNat, h⟩ x wu b i j := by
  have e : kept l x wu (ix3 b i j) = padded (product x (wUp wu (word l))) (ix3 b ⟨4096 + i.val, by omega⟩ j) := by
    unfold kept
    generalize padded (product x (wUp wu (word l))) = y
    pointwise []
  rw [e, padded_at, dif_pos (show 2 ≤ 4096 + i.val by omega), product_at]
  simp only [wUp_at _ l h]
  exact Finset.sum_congr rfl fun d _ => congrArg (fun t => x (ix3 b t d) * _) (Fin.ext (by show 4096 + i.val - 2 = 4094 + i.val; omega))

/-- The run's results are those functions of the launch's arguments. -/
theorem res_eq (m : (ℓ : Loc nD τ sig) → Buf (Elt Ideal) ℓ) (c : Dev nD) :
    (shapeCast _ (addf (mulf (mulf (subf (res_main_v98 (launchContents m c)) (broadcastInDim S4x4096x1024 ![0, 1, 2] bcast_S4x4096x1_S4x4096x1024_0_1_2 (res_main_v102 (launchContents m c)))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v104 (launchContents m c)) (res_main_v104 (launchContents m c))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 (shapeCast _ (Host.dynamicSlice S1x1024 ((launchContents m c) (Proc.devRef .tc main_arg6)) (fun k => (((![select (cmpi .slt (res_main_v45 (launchContents m c)) (constantI S_ 32 0#32)) (addi (res_main_v45 (launchContents m c)) (constantI S_ 32 4#32)) (res_main_v45 (launchContents m c)), select (cmpi .slt (constantI S_ 32 0#32) (constantI S_ 32 0#32)) (addi (constantI S_ 32 0#32) (constantI S_ 32 1024#32)) (constantI S_ 32 0#32)] : Fin 2 → (⟨S_, .i32⟩ : BufTy).Contents (Elt Ideal))) k (Shape.Idx.first h_S_)).toInt) sliceFits_S4x1024_S1x1024) shapeCasts_S1x1024_S1024)))) (broadcastInDim S4x4096x1024 ![0, 1, 2] bcast_S1x1x1024_S4x4096x1024_0_1_2 (broadcastInDim S1x1x1024 ![2] bcast_S1024_S1x1x1024_2 (shapeCast _ (Host.dynamicSlice S1x1024 ((launchContents m c) (Proc.devRef .tc main_arg7)) (fun k => (((![select (cmpi .slt (res_main_v54 (launchContents m c)) (constantI S_ 32 0#32)) (addi (res_main_v54 (launchContents m c)) (constantI S_ 32 4#32)) (res_main_v54 (launchContents m c)), select (cmpi .slt (constantI S_ 32 0#32) (constantI S_ 32 0#32)) (addi (constantI S_ 32 0#32) (constantI S_ 32 1024#32)) (constantI S_ 32 0#32)] : Fin 2 → (⟨S_, .i32⟩ : BufTy).Contents (Elt Ideal))) k (Shape.Idx.first h_S_)).toInt) sliceFits_S4x1024_S1x1024) shapeCasts_S1x1024_S1024)))) shapeCasts_S4x4096x1024_S16384x1024 : FVec Ideal S16384x1024 .f32) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

theorem kept_eq (m : (ℓ : Loc nD τ sig) → Buf (Elt Ideal) ℓ) (c : Dev nD) :
    (extractStridedSlice S4x2x5632 ![0, 4096, 0] (res_main_v65 (launchContents m c)) slices_S4x4098x5632_S4x2x5632_0_4096_0 : FVec Ideal S4x2x5632 .f32) = kept (m ((c.tc : Thread nD τ).loc main_arg0)) (m ((c.tc : Thread nD τ).loc main_arg1)) (m ((c.tc : Thread nD τ).loc main_arg2)) := rfl

end Cert.FfnRefIdeal.Read
-- ==== Proof.lean ====
/-
  The certificate: the prompt's causal latent attention, the kernel against the plain softmax of the reference. The kernel's
  result array is read in Proof/KernelValue.lean, the reference's in Proof/RefValue.lean, both as the real attention of
  Proof/Attn.lean. Then the merge of the mixers at a layer, whose kernel's result array is read in Proof/MergeValue.lean and
  whose reference's in Proof/MergeRefRead.lean, both as the entry of Proof/MergeSpec.lean; and the feed-forward at a layer, read
  in the same way in Proof/FfnValue.lean and Proof/FfnRefRead.lean, with its numbers in Proof/FfnSpec.lean.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.KernelIdeal.Value
public import proofs.«01_k».proof.Proof.Gen.ReferenceIdeal.Run
public import proofs.«01_k».proof.Proof.Gen.Reference.Run
public import proofs.«01_k».proof.Proof.KernelValue
public import proofs.«01_k».proof.Proof.RefValue
public import proofs.«01_k».proof.Proof.MergeLayer
public import proofs.«01_k».proof.Proof.MergeValue
public import proofs.«01_k».proof.Proof.MergeRefRead
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRef
public import proofs.«01_k».proof.Proof.Gen.MergeRef.Run
public import proofs.«01_k».proof.Proof.Gen.MergeRefIdeal
public import proofs.«01_k».proof.Proof.Gen.MergeRefIdeal.Run
public import proofs.«01_k».proof.Proof.Gen.Ffn
public import proofs.«01_k».proof.Proof.Gen.FfnIdeal
public import proofs.«01_k».proof.Proof.FfnFrame
public import proofs.«01_k».proof.Proof.FfnBits
public import proofs.«01_k».proof.Proof.FfnValue
public import proofs.«01_k».proof.Proof.FfnRefRead
public import proofs.«01_k».proof.Proof.Gen.FfnRef
public import proofs.«01_k».proof.Proof.Gen.FfnRef.Run
public import proofs.«01_k».proof.Proof.Gen.FfnRefIdeal
public import proofs.«01_k».proof.Proof.Gen.FfnRefIdeal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

attribute [local instance] Cert.Pre_finite.facts

/-- The kernel runs from any memory, leaves its arguments and ends with every counter at zero. -/
theorem frame_kernel : Cert.quiescent_Kernel := fun m ρ _ => Cert.Kernel.Gen.frame m ρ

/-- So does its idealization, -/
theorem frame_ideal : Cert.quiescent_KernelIdeal := fun m ρ _ => Cert.KernelIdeal.Gen.frame m ρ

/-- from finite arguments in particular. -/
theorem frame_ideal_finite : Cert.quiescent_KernelIdeal_pre_finite := fun m ρ _ => Cert.KernelIdeal.Gen.frame m ρ

theorem frame_reference_any (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The reference's idealization runs and leaves its arguments, -/
theorem frame_reference : Cert.quiescent_ReferenceIdeal := fun m ρ _ => frame_reference_any m ρ

/-- from finite arguments in particular; -/
theorem frame_reference_finite : Cert.quiescent_ReferenceIdeal_pre_finite := fun m ρ _ => frame_reference_any m ρ

/-- and so does the reference over machine words. -/
theorem frame_reference_bits : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The idealization's one named constant: the bound of the scores from below is `⊥`. -/
theorem preserves : Cert.preserves_Kernel_KernelIdeal :=
  IdealRules.named_const.statement Cert.KernelIdeal.κ "neg_big" .f32 0xF149F2CA#32 ⊥ rfl

/-- From finite arguments that agree, the kernel and the reference end with equal results. -/
theorem algebraic : Cert.algebraic_KernelIdeal_ReferenceIdeal_pre_finite := by
  intro m ρ m' ρ' hpre hagree
  have H : ∀ c : Dev Cert.KernelIdeal.nD, Cert.KernelIdeal.Result.Holds m c
      (fun b t h d => (Cert.KernelIdeal.Args.qlat m c (ix4 b t h d) : EReal).toReal)
      (fun b t h d => (Cert.KernelIdeal.Args.qpos m c (ix4 b t h d) : EReal).toReal)
      (fun b s d => (Cert.KernelIdeal.Args.klat m c (ix3 b s d) : EReal).toReal)
      (fun b s d => (Cert.KernelIdeal.Args.kpos m c (ix3 b s d) : EReal).toReal) := fun c => by
    obtain ⟨h0, h1, h2, h3⟩ := Cert.Pre_finite.reals _ _ _ _ ix0 (congrFun (hpre c) ix0)
    exact ⟨fun b t h d => h0 _, fun b t h d => h1 _, fun b s d => h2 _, fun b s d => h3 _⟩
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.KernelIdeal.Result.array_eq (H c), Cert.ReferenceIdeal.Read.res_eq, (hagree c).1, (hagree c).2.1, (hagree c).2.2.1, (hagree c).2.2.2]
  refine funext fun (i : Cert.KernelIdeal.S16384x1024.Idx) => ?_
  rw [eq_ix2 i]
  exact Cert.ReferenceIdeal.Read.entry_eq _ _ _ _ _ _ _ _ (H c).hql (H c).hqp (H c).hkl (H c).hkp (i 0) (i 1)

/-! ## The merge -/

/-- The merge's program runs from any layer below four, leaves its arguments and ends with every counter at zero. -/
theorem frame_merge : Cert.quiescent_Merge := fun m ρ h => Cert.Merge.Gen.frame m ρ (Layer.ok_bits m (Layer.lt_of_pre _ _ _ _ _ _ _ _ _ _ _ _ _ (h 0)))

/-- So does its idealization. -/
theorem frame_merge_ideal : Cert.quiescent_MergeIdeal := fun m ρ h =>
  Cert.MergeIdeal.Gen.frame m ρ (Layer.ok_ideal m (Layer.lt_of_pre _ _ _ _ _ _ _ _ _ _ _ _ _ (h 0)))

/-- The merge's reference, at either instance, runs and leaves its arguments. -/
theorem frame_merge_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem frame_merge_ref_layer : Cert.quiescent_MergeRefIdeal_pre_a_layer := fun m ρ _ => frame_merge_ref m ρ trivial

theorem frame_merge_ref_bits : Cert.quiescent_MergeRef := fun m ρ _ =>
  (θ_run Cert.MergeRef.defs _ _).mono (fun r h => ⟨fun c => (h c).2, sem_eq_zero_of_no_sems (by decide) r.2⟩)
    (Cert.MergeRef.Value.run (F := Bits) m ρ)

/-- From arguments that agree, at a layer below four, the merge and its reference end with equal results. -/
theorem algebraic_merge : Cert.algebraic_MergeIdeal_MergeRefIdeal := by
  intro m ρ m' ρ' hpre hagree
  have hl : Cert.MergeIdeal.Args.lay m < 4 := Layer.lt_of_pre _ _ _ _ _ _ _ _ _ _ _ _ _ (hpre 0)
  refine ⟨_, Cert.MergeIdeal.Result.run m hl ρ, ?_⟩
  refine (θ_run Cert.MergeRefIdeal.defs _ _).mono (fun _ h c => ⟨(h c).1.trans ?_, (h c).2⟩)
    (Cert.MergeRefIdeal.Value.run (F := Ideal) m' ρ')
  obtain rfl : c = 0 := Subsingleton.elim (α := Fin 1) _ _
  obtain ⟨h0, h1, h2, h3, h4, h5, h6, h7, h8, h9, h10, h11, h12⟩ := hagree 0
  refine (Cert.MergeRefIdeal.Read.res_eq m' 0).trans ?_
  rw [h0, h1, h2, h3, h4, h5, h6, h7, h8, h9, h10, h11, h12]
  refine funext fun (i : Cert.MergeIdeal.S16384x1024.Idx) => ?_
  rw [eq_ix2 i]
  exact Cert.MergeRefIdeal.Read.whole_at _ hl _ _ _ _ _ _ _ _ _ _ _ _ (i 0) (i 1)

/-! ## The feed-forward -/

/-- The feed-forward's program runs from any layer below four, leaves its arguments and ends with every counter at zero. -/
theorem frame_ffn : Cert.quiescent_Ffn := fun m ρ h => FfnLayer.frame_bits m ρ (FfnLayer.lt_of_pre _ _ _ _ _ _ _ _ (h 0))

/-- So does its idealization, -/
theorem frame_ffn_ideal : Cert.quiescent_FfnIdeal := fun m ρ h =>
  Cert.FfnIdeal.Gen.frame m ρ (FfnLayer.ok m (FfnLayer.lt_of_pre _ _ _ _ _ _ _ _ (h 0)))

/-- from real arguments in particular. -/
theorem frame_ffn_ideal_finite : Cert.quiescent_FfnIdeal_pre_finite_f := fun m ρ h =>
  Cert.FfnIdeal.Gen.frame m ρ (FfnLayer.ok m (FfnLayer.reals _ _ _ _ _ _ _ _ (h 0)).1)

/-- The feed-forward's reference, at either instance, runs and leaves its arguments. -/
theorem frame_ffn_ref : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

theorem frame_ffn_ref_finite : Cert.quiescent_FfnRefIdeal_pre_finite_f := fun m ρ _ => frame_ffn_ref m ρ trivial

theorem frame_ffn_ref_bits : Cert.quiescent_FfnRef := fun m ρ _ =>
  (θ_run Cert.FfnRef.defs _ _).mono (fun r h => ⟨fun c => (h c).2.2, sem_eq_zero_of_no_sems (by decide) r.2⟩)
    (Cert.FfnRef.Value.run (F := Bits) m ρ)

/-- From arguments that agree, at a layer below four and real where the gate is computed from them, the feed-forward and its
    reference end with equal results, both of them. -/
theorem algebraic_ffn : Cert.algebraic_FfnIdeal_FfnRefIdeal_pre_finite_f := by
  intro m ρ m' ρ' hpre hagree
  have hl : Cert.FfnIdeal.Args.lay m < 4 := (FfnLayer.reals _ _ _ _ _ _ _ _ (hpre 0)).1
  have hr : ∀ c, Cert.FfnIdeal.Result.Reals m c := fun c => by
    obtain ⟨_, h1, h2, h3, h4⟩ := FfnLayer.reals _ _ _ _ _ _ _ _ (hpre c)
    exact ⟨h1, h2, h3, h4⟩
  refine ⟨_, _, Cert.FfnIdeal.Result.run m hl hr ρ, ?_⟩
  refine (θ_run Cert.FfnRefIdeal.defs _ _).mono (fun _ h c => ⟨(h c).1.trans ?_, (h c).2.1.trans ?_, (h c).2.2⟩)
    (Cert.FfnRefIdeal.Value.run (F := Ideal) m' ρ')
  · obtain rfl : c = 0 := Subsingleton.elim (α := Fin 1) _ _
    obtain ⟨h0, h1, h2, h3, h4, h5, h6, h7⟩ := hagree 0
    refine (Cert.FfnRefIdeal.Read.res_eq m' 0).trans ?_
    rw [h0, h1, h2, h3, h4, h5, h6, h7]
    refine funext fun (i : Cert.FfnIdeal.S16384x1024.Idx) => ?_
    rw [eq_ix2 i]
    exact Cert.FfnRefIdeal.Read.whole_at _ hl _ _ _ _ _ _ _ (i 0) (i 1)
  · obtain rfl : c = 0 := Subsingleton.elim (α := Fin 1) _ _
    obtain ⟨h0, h1, h2, -⟩ := hagree 0
    refine (Cert.FfnRefIdeal.Read.kept_eq m' 0).trans ?_
    rw [h0, h1, h2]
    refine funext fun (i : Cert.FfnIdeal.S4x2x5632.Idx) => ?_
    rw [eq_ix3 i]
    exact Cert.FfnRefIdeal.Read.kept_at _ hl _ _ (i 0) (i 1) (i 2)

theorem claim : Cert.Claim :=
  ⟨Cert.Kernel.Gen.facts, Cert.KernelIdeal.Gen.facts, Cert.ReferenceIdeal.Gen.facts, Cert.Reference.Gen.facts, Cert.Merge.Gen.facts,
    Cert.MergeIdeal.Gen.facts, Cert.MergeRefIdeal.Gen.facts, Cert.MergeRef.Gen.facts,
    Cert.Ffn.Gen.facts, Cert.FfnIdeal.Gen.facts, Cert.FfnRefIdeal.Gen.facts, Cert.FfnRef.Gen.facts,
    Cert.Pre_finite.facts, Layer.pre_facts, FfnLayer.layer_facts, FfnLayer.finite_facts,
    frame_kernel, frame_ideal, frame_ideal_finite, frame_reference, frame_reference_finite, frame_reference_bits,
    frame_merge, frame_merge_ideal, frame_merge_ref, frame_merge_ref_layer, frame_merge_ref_bits,
    frame_ffn, frame_ffn_ideal, frame_ffn_ideal_finite, frame_ffn_ref, frame_ffn_ref_finite, frame_ffn_ref_bits,
    preserves, trivial, algebraic, trivial, trivial, algebraic_merge, trivial, trivial, algebraic_ffn⟩

end Cert.Proof

end
